-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelQuery (m : (ℓ : Loc Cert.KernelQuery.nD Cert.KernelQuery.τ Cert.KernelQuery.sig) → Buf (Elt Bits) ℓ) : Prop :=
  True

def Pre_KernelQueryIdeal (m : (ℓ : Loc Cert.KernelQueryIdeal.nD Cert.KernelQueryIdeal.τ Cert.KernelQueryIdeal.sig) → Buf (Elt Ideal) ℓ) : Prop :=
  True

def Pre_ReferenceQueryIdeal (m : (ℓ : Loc Cert.ReferenceQueryIdeal.nD Cert.ReferenceQueryIdeal.τ Cert.ReferenceQueryIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_KernelFirst (m : (ℓ : Loc Cert.KernelFirst.nD Cert.KernelFirst.τ Cert.KernelFirst.sig) → Buf (Elt Bits) ℓ) : Prop :=
  True

def Pre_KernelFirstIdeal (m : (ℓ : Loc Cert.KernelFirstIdeal.nD Cert.KernelFirstIdeal.τ Cert.KernelFirstIdeal.sig) → Buf (Elt Ideal) ℓ) : Prop :=
  True

def Pre_ReferenceFirstIdeal (m : (ℓ : Loc Cert.ReferenceFirstIdeal.nD Cert.ReferenceFirstIdeal.τ Cert.ReferenceFirstIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelQuery [hKernelQuery : Cert.KernelQuery.Facts] : Prop :=
  ∀ (m : (ℓ : Loc Cert.KernelQuery.nD Cert.KernelQuery.τ Cert.KernelQuery.sig) → Buf (Elt Bits) ℓ) (g : Dev Cert.KernelQuery.nD → PrngReg), Pre_KernelQuery m →
    θ_run (Cert.KernelQuery.defs (F := Bits)) (onTc (τ := Cert.KernelQuery.τ) (Cert.KernelQuery.main (F := Bits))) ⟨m, fun _ => 0, g⟩ (fun r => (∀ c : Dev Cert.KernelQuery.nD,
      r.2.mem ((c.tc : Thread Cert.KernelQuery.nD Cert.KernelQuery.τ).loc Cert.KernelQuery.main_arg0) = m ((c.tc : Thread Cert.KernelQuery.nD Cert.KernelQuery.τ).loc Cert.KernelQuery.main_arg0)
      ∧ r.2.mem ((c.tc : Thread Cert.KernelQuery.nD Cert.KernelQuery.τ).loc Cert.KernelQuery.main_arg1) = m ((c.tc : Thread Cert.KernelQuery.nD Cert.KernelQuery.τ).loc Cert.KernelQuery.main_arg1))
      ∧ r.2.sem = fun _ => 0)

def quiescent_KernelQueryIdeal [hKernelQueryIdeal : Cert.KernelQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ r.2.sem = fun _ => 0)

def quiescent_ReferenceQueryIdeal [hReferenceQueryIdeal : Cert.ReferenceQueryIdeal.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1))
      ∧ r.2.sem = fun _ => 0)

def quiescent_KernelFirst [hKernelFirst : Cert.KernelFirst.Facts] : Prop :=
  ∀ (m : (ℓ : Loc Cert.KernelFirst.nD Cert.KernelFirst.τ Cert.KernelFirst.sig) → Buf (Elt Bits) ℓ) (g : Dev Cert.KernelFirst.nD → PrngReg), Pre_KernelFirst m →
    θ_run (Cert.KernelFirst.defs (F := Bits)) (onTc (τ := Cert.KernelFirst.τ) (Cert.KernelFirst.main (F := Bits))) ⟨m, fun _ => 0, g⟩ (fun r => (∀ c : Dev Cert.KernelFirst.nD,
      r.2.mem ((c.tc : Thread Cert.KernelFirst.nD Cert.KernelFirst.τ).loc Cert.KernelFirst.main_arg0) = m ((c.tc : Thread Cert.KernelFirst.nD Cert.KernelFirst.τ).loc Cert.KernelFirst.main_arg0)
      ∧ r.2.mem ((c.tc : Thread Cert.KernelFirst.nD Cert.KernelFirst.τ).loc Cert.KernelFirst.main_arg1) = m ((c.tc : Thread Cert.KernelFirst.nD Cert.KernelFirst.τ).loc Cert.KernelFirst.main_arg1))
      ∧ r.2.sem = fun _ => 0)

def quiescent_KernelFirstIdeal [hKernelFirstIdeal : Cert.KernelFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg), Pre_KernelFirstIdeal m →
    θ_run (Cert.KernelFirstIdeal.defs (F := Ideal)) (onTc (τ := Cert.KernelFirstIdeal.τ) (Cert.KernelFirstIdeal.main (F := Ideal))) ⟨m, fun _ => 0, g⟩ (fun r => (∀ c : Dev Cert.KernelFirstIdeal.nD,
      r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
      ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1))
      ∧ r.2.sem = fun _ => 0)

def quiescent_ReferenceFirstIdeal [hReferenceFirstIdeal : Cert.ReferenceFirstIdeal.Facts] : Prop :=
  ∀ (m : (ℓ : Loc Cert.ReferenceFirstIdeal.nD Cert.ReferenceFirstIdeal.τ Cert.ReferenceFirstIdeal.sig) → Buf (Elt Ideal) ℓ) (g : Dev Cert.ReferenceFirstIdeal.nD → PrngReg), Pre_ReferenceFirstIdeal m →
    θ_run (Cert.ReferenceFirstIdeal.defs (F := Ideal)) (onTc (τ := Cert.ReferenceFirstIdeal.τ) (Cert.ReferenceFirstIdeal.main (F := Ideal))) ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def preserves_Kernel_KernelIdeal : Prop :=
  IdealRules.named_const.Statement Cert.KernelIdeal.κ "log2e_16" .f32 0x3DB8AA3B#32 (((Real.log 2)⁻¹ * 16⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v5)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v5) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v3)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v3) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v4) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v6_0)) (v1 : (c : Dev Cert.KernelOutIdeal.nD) → Buf (Elt Ideal) ((c.tc : Thread Cert.KernelOutIdeal.nD Cert.KernelOutIdeal.τ).loc Cert.KernelOutIdeal.main_v6_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v6_0) = v0 c
          ∧ r.2.mem ((c.tc : Thread Cert.KernelOutIdeal.nD Cert.KernelOutIdeal.τ).loc Cert.KernelOutIdeal.main_v6_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_v20) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelQuery_KernelQueryIdeal : Prop :=
  IdealRules.named_const.Statement Cert.KernelQueryIdeal.κ "q_scale" .f32 0x3E0293EE#32 (((Real.log 2)⁻¹ * (Real.sqrt 128)⁻¹ : ℝ) : EReal)

def algebraic_KernelQueryIdeal_ReferenceQueryIdeal [hKernelQueryIdeal : Cert.KernelQueryIdeal.Facts] [hReferenceQueryIdeal : Cert.ReferenceQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg)
    (m' : (ℓ : Loc Cert.ReferenceQueryIdeal.nD Cert.ReferenceQueryIdeal.τ Cert.ReferenceQueryIdeal.sig) → Buf (Elt Ideal) ℓ) (g' : Dev Cert.ReferenceQueryIdeal.nD → PrngReg), Pre_KernelQueryIdeal m →
    (∀ c : Dev Cert.KernelQueryIdeal.nD,
      m' ((c.tc : Thread Cert.ReferenceQueryIdeal.nD Cert.ReferenceQueryIdeal.τ).loc Cert.ReferenceQueryIdeal.main_arg0) = m ((c.tc : Thread Cert.KernelQueryIdeal.nD Cert.KernelQueryIdeal.τ).loc Cert.KernelQueryIdeal.main_arg0)
      ∧ m' ((c.tc : Thread Cert.ReferenceQueryIdeal.nD Cert.ReferenceQueryIdeal.τ).loc Cert.ReferenceQueryIdeal.main_arg1) = m ((c.tc : Thread Cert.KernelQueryIdeal.nD Cert.KernelQueryIdeal.τ).loc Cert.KernelQueryIdeal.main_arg1)) →
    ∃ (v0 : (c : Dev Cert.KernelQueryIdeal.nD) → Buf (Elt Ideal) ((c.tc : Thread Cert.KernelQueryIdeal.nD Cert.KernelQueryIdeal.τ).loc Cert.KernelQueryIdeal.main_v2)),
      θ_run (Cert.KernelQueryIdeal.defs (F := Ideal)) (onTc (τ := Cert.KernelQueryIdeal.τ) (Cert.KernelQueryIdeal.main (F := Ideal))) ⟨m, fun _ => 0, g⟩ (fun r => ∀ c : Dev Cert.KernelQueryIdeal.nD,
          r.2.mem ((c.tc : Thread Cert.KernelQueryIdeal.nD Cert.KernelQueryIdeal.τ).loc Cert.KernelQueryIdeal.main_v2) = v0 c
          ∧ r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
          ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ θ_run (Cert.ReferenceQueryIdeal.defs (F := Ideal)) (onTc (τ := Cert.ReferenceQueryIdeal.τ) (Cert.ReferenceQueryIdeal.main (F := Ideal))) ⟨m', fun _ => 0, g'⟩ (fun r => ∀ c : Dev Cert.ReferenceQueryIdeal.nD,
          r.2.mem ((c.tc : Thread Cert.ReferenceQueryIdeal.nD Cert.ReferenceQueryIdeal.τ).loc Cert.ReferenceQueryIdeal.main_v9) = v0 c
          ∧ r.2.mem ((c.tc : Thread Cert.ReferenceQueryIdeal.nD Cert.ReferenceQueryIdeal.τ).loc Cert.ReferenceQueryIdeal.main_arg0) = m' ((c.tc : Thread Cert.ReferenceQueryIdeal.nD Cert.ReferenceQueryIdeal.τ).loc Cert.ReferenceQueryIdeal.main_arg0)
          ∧ r.2.mem ((c.tc : Thread Cert.ReferenceQueryIdeal.nD Cert.ReferenceQueryIdeal.τ).loc Cert.ReferenceQueryIdeal.main_arg1) = m' ((c.tc : Thread Cert.ReferenceQueryIdeal.nD Cert.ReferenceQueryIdeal.τ).loc Cert.ReferenceQueryIdeal.main_arg1))

def preserves_KernelUp_KernelUpIdeal : Prop :=
  IdealRules.named_const.Statement Cert.KernelUpIdeal.κ "sqrt2" .f32 0x3FB504F3#32 ((Real.sqrt 2 : ℝ) : EReal)

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v7_0)) (v1 : (c : Dev Cert.KernelUpIdeal.nD) → Buf (Elt Ideal) ((c.tc : Thread Cert.KernelUpIdeal.nD Cert.KernelUpIdeal.τ).loc Cert.KernelUpIdeal.main_v7_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v7_0) = v0 c
          ∧ r.2.mem ((c.tc : Thread Cert.KernelUpIdeal.nD Cert.KernelUpIdeal.τ).loc Cert.KernelUpIdeal.main_v7_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v44) = v0 c
          ∧ r.2.mem ((c.tc : Thread Cert.ReferenceUpIdeal.nD Cert.ReferenceUpIdeal.τ).loc Cert.ReferenceUpIdeal.main_v46) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)) →
    ∃ (v0 : (c : Dev Cert.KernelFinalIdeal.nD) → Buf (Elt Ideal) ((c.tc : Thread Cert.KernelFinalIdeal.nD Cert.KernelFinalIdeal.τ).loc Cert.KernelFinalIdeal.main_v2)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v2) = v0 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v13) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1))

def preserves_KernelFirst_KernelFirstIdeal : Prop :=
  IdealRules.named_const.Statement Cert.KernelFirstIdeal.κ "q_scale" .f32 0x3E0293EE#32 (((Real.log 2)⁻¹ * (Real.sqrt 128)⁻¹ : ℝ) : EReal)

def algebraic_KernelFirstIdeal_ReferenceFirstIdeal [hKernelFirstIdeal : Cert.KernelFirstIdeal.Facts] [hReferenceFirstIdeal : Cert.ReferenceFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg)
    (m' : (ℓ : Loc Cert.ReferenceFirstIdeal.nD Cert.ReferenceFirstIdeal.τ Cert.ReferenceFirstIdeal.sig) → Buf (Elt Ideal) ℓ) (g' : Dev Cert.ReferenceFirstIdeal.nD → PrngReg), Pre_KernelFirstIdeal m →
    (∀ c : Dev Cert.KernelFirstIdeal.nD,
      m' ((c.tc : Thread Cert.ReferenceFirstIdeal.nD Cert.ReferenceFirstIdeal.τ).loc Cert.ReferenceFirstIdeal.main_arg0) = m ((c.tc : Thread Cert.KernelFirstIdeal.nD Cert.KernelFirstIdeal.τ).loc Cert.KernelFirstIdeal.main_arg0)
      ∧ m' ((c.tc : Thread Cert.ReferenceFirstIdeal.nD Cert.ReferenceFirstIdeal.τ).loc Cert.ReferenceFirstIdeal.main_arg1) = m ((c.tc : Thread Cert.KernelFirstIdeal.nD Cert.KernelFirstIdeal.τ).loc Cert.KernelFirstIdeal.main_arg1)) →
    ∃ (v0 : (c : Dev Cert.KernelFirstIdeal.nD) → Buf (Elt Ideal) ((c.tc : Thread Cert.KernelFirstIdeal.nD Cert.KernelFirstIdeal.τ).loc Cert.KernelFirstIdeal.main_v2)),
      θ_run (Cert.KernelFirstIdeal.defs (F := Ideal)) (onTc (τ := Cert.KernelFirstIdeal.τ) (Cert.KernelFirstIdeal.main (F := Ideal))) ⟨m, fun _ => 0, g⟩ (fun r => ∀ c : Dev Cert.KernelFirstIdeal.nD,
          r.2.mem ((c.tc : Thread Cert.KernelFirstIdeal.nD Cert.KernelFirstIdeal.τ).loc Cert.KernelFirstIdeal.main_v2) = v0 c
          ∧ r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
          ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1))
      ∧ θ_run (Cert.ReferenceFirstIdeal.defs (F := Ideal)) (onTc (τ := Cert.ReferenceFirstIdeal.τ) (Cert.ReferenceFirstIdeal.main (F := Ideal))) ⟨m', fun _ => 0, g'⟩ (fun r => ∀ c : Dev Cert.ReferenceFirstIdeal.nD,
          r.2.mem ((c.tc : Thread Cert.ReferenceFirstIdeal.nD Cert.ReferenceFirstIdeal.τ).loc Cert.ReferenceFirstIdeal.main_v9) = v0 c
          ∧ r.2.mem ((c.tc : Thread Cert.ReferenceFirstIdeal.nD Cert.ReferenceFirstIdeal.τ).loc Cert.ReferenceFirstIdeal.main_arg0) = m' ((c.tc : Thread Cert.ReferenceFirstIdeal.nD Cert.ReferenceFirstIdeal.τ).loc Cert.ReferenceFirstIdeal.main_arg0)
          ∧ r.2.mem ((c.tc : Thread Cert.ReferenceFirstIdeal.nD Cert.ReferenceFirstIdeal.τ).loc Cert.ReferenceFirstIdeal.main_arg1) = m' ((c.tc : Thread Cert.ReferenceFirstIdeal.nD Cert.ReferenceFirstIdeal.τ).loc Cert.ReferenceFirstIdeal.main_arg1))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v3_0)) (v1 : (c : Dev Cert.KernelKvIdeal.nD) → Buf (Elt Ideal) ((c.tc : Thread Cert.KernelKvIdeal.nD Cert.KernelKvIdeal.τ).loc Cert.KernelKvIdeal.main_v3_1)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v3_0) = v0 c
          ∧ r.2.mem ((c.tc : Thread Cert.KernelKvIdeal.nD Cert.KernelKvIdeal.τ).loc Cert.KernelKvIdeal.main_v3_1) = v1 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v5) = v0 c
          ∧ r.2.mem ((c.tc : Thread Cert.ReferenceKvIdeal.nD Cert.ReferenceKvIdeal.τ).loc Cert.ReferenceKvIdeal.main_v6) = v1 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelQuery : Cert.KernelQuery.Facts) (hKernelQueryIdeal : Cert.KernelQueryIdeal.Facts) (hReferenceQueryIdeal : Cert.ReferenceQueryIdeal.Facts) (hKernelUp : Cert.KernelUp.Facts) (hKernelUpIdeal : Cert.KernelUpIdeal.Facts) (hReferenceUpIdeal : Cert.ReferenceUpIdeal.Facts) (hKernelFinal : Cert.KernelFinal.Facts) (hKernelFinalIdeal : Cert.KernelFinalIdeal.Facts) (hReferenceFinalIdeal : Cert.ReferenceFinalIdeal.Facts) (hKernelFirst : Cert.KernelFirst.Facts) (hKernelFirstIdeal : Cert.KernelFirstIdeal.Facts) (hReferenceFirstIdeal : Cert.ReferenceFirstIdeal.Facts) (hKernelKv : Cert.KernelKv.Facts) (hKernelKvIdeal : Cert.KernelKvIdeal.Facts) (hReferenceKvIdeal : Cert.ReferenceKvIdeal.Facts),
    quiescent_Kernel (hKernel := hKernel)
    ∧ quiescent_KernelIdeal (hKernelIdeal := hKernelIdeal)
    ∧ quiescent_ReferenceIdeal (hReferenceIdeal := hReferenceIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelQuery (hKernelQuery := hKernelQuery)
    ∧ quiescent_KernelQueryIdeal (hKernelQueryIdeal := hKernelQueryIdeal)
    ∧ quiescent_ReferenceQueryIdeal (hReferenceQueryIdeal := hReferenceQueryIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ quiescent_KernelFirst (hKernelFirst := hKernelFirst)
    ∧ quiescent_KernelFirstIdeal (hKernelFirstIdeal := hKernelFirstIdeal)
    ∧ quiescent_ReferenceFirstIdeal (hReferenceFirstIdeal := hReferenceFirstIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ preserves_Kernel_KernelIdeal
    ∧ algebraic_KernelIdeal_ReferenceIdeal (hKernelIdeal := hKernelIdeal) (hReferenceIdeal := hReferenceIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelQuery_KernelQueryIdeal
    ∧ algebraic_KernelQueryIdeal_ReferenceQueryIdeal (hKernelQueryIdeal := hKernelQueryIdeal) (hReferenceQueryIdeal := hReferenceQueryIdeal)
    ∧ preserves_KernelUp_KernelUpIdeal
    ∧ algebraic_KernelUpIdeal_ReferenceUpIdeal (hKernelUpIdeal := hKernelUpIdeal) (hReferenceUpIdeal := hReferenceUpIdeal)
    ∧ preserves_KernelFinal_KernelFinalIdeal
    ∧ algebraic_KernelFinalIdeal_ReferenceFinalIdeal (hKernelFinalIdeal := hKernelFinalIdeal) (hReferenceFinalIdeal := hReferenceFinalIdeal)
    ∧ preserves_KernelFirst_KernelFirstIdeal
    ∧ algebraic_KernelFirstIdeal_ReferenceFirstIdeal (hKernelFirstIdeal := hKernelFirstIdeal) (hReferenceFirstIdeal := hReferenceFirstIdeal)
    ∧ preserves_KernelKv_KernelKvIdeal
    ∧ algebraic_KernelKvIdeal_ReferenceKvIdeal (hKernelKvIdeal := hKernelKvIdeal) (hReferenceKvIdeal := hReferenceKvIdeal)
-- ==== Kernel.lean ====
abbrev S2x4096x6160 : Shape := ⟨3, ![2, 4096, 6160]⟩
abbrev S1x16x1024 : Shape := ⟨3, ![1, 16, 1024]⟩
abbrev S1x1024 : Shape := ⟨2, ![1, 1024]⟩
abbrev S1x512 : Shape := ⟨2, ![1, 512]⟩
abbrev S8192x6160 : Shape := ⟨2, ![8192, 6160]⟩
abbrev S8192x16 : Shape := ⟨2, ![8192, 16]⟩
abbrev S_ : Shape := ⟨0, ![]⟩
abbrev S8192x128 : Shape := ⟨2, ![8192, 128]⟩
abbrev S16x1024 : Shape := ⟨2, ![16, 1024]⟩
abbrev S128x1024 : Shape := ⟨2, ![128, 1024]⟩
abbrev S8192x6144 : Shape := ⟨2, ![8192, 6144]⟩
abbrev S1024 : Shape := ⟨1, ![1024]⟩
abbrev S512 : Shape := ⟨1, ![512]⟩
abbrev S8192x2048 : Shape := ⟨2, ![8192, 2048]⟩
abbrev S256x1024 : Shape := ⟨2, ![256, 1024]⟩
abbrev S256x2048 : Shape := ⟨2, ![256, 2048]⟩
abbrev S256x128 : Shape := ⟨2, ![256, 128]⟩
abbrev S4x512x256 : Shape := ⟨3, ![4, 512, 256]⟩
abbrev S256x256 : Shape := ⟨2, ![256, 256]⟩
abbrev S128x256 : Shape := ⟨2, ![128, 256]⟩
abbrev S1x256 : Shape := ⟨2, ![1, 256]⟩
abbrev S256x512 : Shape := ⟨2, ![256, 512]⟩
abbrev S64x256 : Shape := ⟨2, ![64, 256]⟩
abbrev S1x512x256 : Shape := ⟨3, ![1, 512, 256]⟩
abbrev S512x256 : Shape := ⟨2, ![512, 256]⟩
abbrev S64x512 : Shape := ⟨2, ![64, 512]⟩
abbrev S256 : Shape := ⟨1, ![256]⟩
abbrev S256x1 : Shape := ⟨2, ![256, 1]⟩

abbrev nBuf : Space → Nat
  | .hbm => 21
  | .vmem => 16
  | .smem => 0
  | _ => 0

abbrev bufTy : (tb : Table) → Fin (tcTables nBuf tb) → BufTy
  | .hbm, ⟨0, _⟩ => ⟨S2x4096x6160, .f32⟩
  | .hbm, ⟨1, _⟩ => ⟨S1x16x1024, .f32⟩
  | .hbm, ⟨2, _⟩ => ⟨S1x1024, .f32⟩
  | .hbm, ⟨3, _⟩ => ⟨S1x512, .f32⟩
  | .hbm, ⟨4, _⟩ => ⟨S2x4096x6160, .bf16⟩
  | .hbm, ⟨5, _⟩ => ⟨S8192x6160, .bf16⟩
  | .hbm, ⟨6, _⟩ => ⟨S8192x16, .bf16⟩
  | .hbm, ⟨7, _⟩ => ⟨S_, .i32⟩
  | .hbm, ⟨8, _⟩ => ⟨S_, .bf16⟩
  | .hbm, ⟨9, _⟩ => ⟨S8192x128, .bf16⟩
  | .hbm, ⟨10, _⟩ => ⟨S16x1024, .f32⟩
  | .hbm, ⟨11, _⟩ => ⟨S16x1024, .bf16⟩
  | .hbm, ⟨12, _⟩ => ⟨S_, .i32⟩
  | .hbm, ⟨13, _⟩ => ⟨S_, .bf16⟩
  | .hbm, ⟨14, _⟩ => ⟨S128x1024, .bf16⟩
  | .hbm, ⟨15, _⟩ => ⟨S8192x6144, .bf16⟩
  | .hbm, ⟨16, _⟩ => ⟨S1024, .f32⟩
  | .hbm, ⟨17, _⟩ => ⟨S512, .f32⟩
  | .hbm, ⟨18, _⟩ => ⟨S1x1024, .f32⟩
  | .hbm, ⟨19, _⟩ => ⟨S1x512, .f32⟩
  | .hbm, ⟨20, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x128, .bf16⟩
  | .local _ .vmem, ⟨9, _⟩ => ⟨S256x128, .bf16⟩
  | .local _ .vmem, ⟨10, _⟩ => ⟨S128x1024, .bf16⟩
  | .local _ .vmem, ⟨11, _⟩ => ⟨S1x1024, .f32⟩
  | .local _ .vmem, ⟨12, _⟩ => ⟨S1x512, .f32⟩
  | .local _ .vmem, ⟨13, _⟩ => ⟨S256x2048, .bf16⟩
  | .local _ .vmem, ⟨14, _⟩ => ⟨S256x2048, .bf16⟩
  | .local _ .vmem, ⟨15, _⟩ => ⟨S4x512x256, .f32⟩
  | _, _ => ⟨S2x4096x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e_16" => some (((Real.log 2)⁻¹ * 16⁻¹ : ℝ) : EReal)
  | _ => none
-- ==== ReferenceIdeal.lean ====
abbrev S2x4096x6160 : Shape := ⟨3, ![2, 4096, 6160]⟩
abbrev S1x16x1024 : Shape := ⟨3, ![1, 16, 1024]⟩
abbrev S1x1024 : Shape := ⟨2, ![1, 1024]⟩
abbrev S1x512 : Shape := ⟨2, ![1, 512]⟩
abbrev S16x1024 : Shape := ⟨2, ![16, 1024]⟩
abbrev S1024 : Shape := ⟨1, ![1024]⟩
abbrev S2x4096x1024 : Shape := ⟨3, ![2, 4096, 1024]⟩
abbrev S2x4096x2048 : Shape := ⟨3, ![2, 4096, 2048]⟩
abbrev S2x4096x16 : Shape := ⟨3, ![2, 4096, 16]⟩
abbrev S1x1x1024 : Shape := ⟨3, ![1, 1, 1024]⟩
abbrev S_ : Shape := ⟨0, ![]⟩
abbrev S2x64x64x4x256 : Shape := ⟨5, ![2, 64, 64, 4, 256]⟩
abbrev S64x2x4x64x256 : Shape := ⟨5, ![64, 2, 4, 64, 256]⟩
abbrev S2x64x64x4x512 : Shape := ⟨5, ![2, 64, 64, 4, 512]⟩
abbrev S64x2x4x64x512 : Shape := ⟨5, ![64, 2, 4, 64, 512]⟩
abbrev S64x2x4x1x256 : Shape := ⟨5, ![64, 2, 4, 1, 256]⟩
abbrev S64x64 : Shape := ⟨2, ![64, 64]⟩
abbrev S2x4x256x512 : Shape := ⟨4, ![2, 4, 256, 512]⟩
abbrev S64x2x4x256 : Shape := ⟨4, ![64, 2, 4, 256]⟩
abbrev S1x2x4x64x256 : Shape := ⟨5, ![1, 2, 4, 64, 256]⟩
abbrev S2x4x64x256 : Shape := ⟨4, ![2, 4, 64, 256]⟩
abbrev S1x2x4x64x512 : Shape := ⟨5, ![1, 2, 4, 64, 512]⟩
abbrev S2x4x64x512 : Shape := ⟨4, ![2, 4, 64, 512]⟩
abbrev S1x2x4x256 : Shape := ⟨4, ![1, 2, 4, 256]⟩
abbrev S2x4x256 : Shape := ⟨3, ![2, 4, 256]⟩
abbrev S2x4x64x64 : Shape := ⟨4, ![2, 4, 64, 64]⟩
abbrev S2x4x256x1 : Shape := ⟨4, ![2, 4, 256, 1]⟩
abbrev S2x4096x4x512 : Shape := ⟨4, ![2, 4096, 4, 512]⟩
abbrev S512 : Shape := ⟨1, ![512]⟩
abbrev S2x4096x4 : Shape := ⟨3, ![2, 4096, 4]⟩
abbrev S2x4096x4x1 : Shape := ⟨4, ![2, 4096, 4, 1]⟩
abbrev S1x1x1x512 : Shape := ⟨4, ![1, 1, 1, 512]⟩
abbrev S8192x2048 : Shape := ⟨2, ![8192, 2048]⟩

abbrev nBuf : Space → Nat
  | .hbm => 171
  | .vmem => 0
  | .smem => 0
  | _ => 0

abbrev hbmTy0_0 (i : Nat) : BufTy := match i % 128 with
  | 0 => ⟨S2x4096x6160, .f32⟩
  | 1 => ⟨S1x16x1024, .f32⟩
  | 2 => ⟨S1x1024, .f32⟩
  | 3 => ⟨S1x512, .f32⟩
  | 4 => ⟨S16x1024, .f32⟩
  | 5 => ⟨S1024, .f32⟩
  | 6 => ⟨S2x4096x1024, .f32⟩
  | 7 => ⟨S2x4096x1024, .f32⟩
  | 8 => ⟨S2x4096x2048, .f32⟩
  | 9 => ⟨S2x4096x2048, .f32⟩
  | 10 => ⟨S2x4096x16, .f32⟩
  | 11 => ⟨S2x4096x1024, .f32⟩
  | 12 => ⟨S1x1x1024, .f32⟩
  | 13 => ⟨S2x4096x1024, .f32⟩
  | 14 => ⟨S2x4096x1024, .f32⟩
  | 15 => ⟨S2x4096x1024, .f32⟩
  | 16 => ⟨S_, .f32⟩
  | 17 => ⟨S2x4096x1024, .f32⟩
  | 18 => ⟨S2x4096x1024, .f32⟩
  | 19 => ⟨S2x4096x1024, .f32⟩
  | 20 => ⟨S2x4096x1024, .f32⟩
  | 21 => ⟨S2x4096x1024, .i1⟩
  | 22 => ⟨S2x4096x1024, .f32⟩
  | 23 => ⟨S2x4096x1024, .f32⟩
  | 24 => ⟨S2x4096x1024, .f32⟩
  | 25 => ⟨S2x4096x1024, .f32⟩
  | 26 => ⟨S2x4096x1024, .f32⟩
  | 27 => ⟨S2x4096x1024, .f32⟩
  | 28 => ⟨S2x4096x1024, .f32⟩
  | 29 => ⟨S2x4096x1024, .f32⟩
  | 30 => ⟨S2x4096x1024, .f32⟩
  | 31 => ⟨S_, .f32⟩
  | 32 => ⟨S2x4096x1024, .f32⟩
  | 33 => ⟨S2x4096x1024, .f32⟩
  | 34 => ⟨S2x64x64x4x256, .f32⟩
  | 35 => ⟨S64x2x4x64x256, .f32⟩
  | 36 => ⟨S_, .f32⟩
  | 37 => ⟨S64x2x4x64x256, .f32⟩
  | 38 => ⟨S64x2x4x64x256, .f32⟩
  | 39 => ⟨S2x64x64x4x256, .f32⟩
  | 40 => ⟨S64x2x4x64x256, .f32⟩
  | 41 => ⟨S2x64x64x4x512, .f32⟩
  | 42 => ⟨S64x2x4x64x512, .f32⟩
  | 43 => ⟨S2x64x64x4x256, .f32⟩
  | 44 => ⟨S64x2x4x64x256, .f32⟩
  | 45 => ⟨S_, .f32⟩
  | 46 => ⟨S_, .f32⟩
  | 47 => ⟨S64x2x4x64x256, .f32⟩
  | 48 => ⟨S64x2x4x1x256, .f32⟩
  | 49 => ⟨S64x2x4x64x256, .f32⟩
  | 50 => ⟨S64x2x4x64x256, .f32⟩
  | 51 => ⟨S64x2x4x64x256, .f32⟩
  | 52 => ⟨S64x2x4x64x256, .f32⟩
  | 53 => ⟨S64x2x4x64x256, .f32⟩
  | 54 => ⟨S64x2x4x64x256, .f32⟩
  | 55 => ⟨S64x2x4x64x256, .f32⟩
  | 56 => ⟨S64x2x4x64x256, .f32⟩
  | 57 => ⟨S64x2x4x64x256, .f32⟩
  | 58 => ⟨S_, .i1⟩
  | 59 => ⟨S64x64, .i1⟩
  | 60 => ⟨S64x64, .i32⟩
  | 61 => ⟨S_, .i32⟩
  | 62 => ⟨S64x64, .i32⟩
  | 63 => ⟨S64x64, .i32⟩
  | 64 => ⟨S64x64, .i32⟩
  | 65 => ⟨S64x64, .i1⟩
  | 66 => ⟨S_, .i1⟩
  | 67 => ⟨S64x64, .i1⟩
  | 68 => ⟨S64x64, .i1⟩
  | 69 => ⟨S_, .f32⟩
  | 70 => ⟨S2x4x256x512, .f32⟩
  | 71 => ⟨S64x2x4x256, .f32⟩
  | 72 => ⟨S64x2x4x256, .f32⟩
  | 73 => ⟨S_, .f32⟩
  | 74 => ⟨S64x2x4x64x512, .f32⟩
  | 75 => ⟨S_, .i32⟩
  | 76 => ⟨S64x2x4x64x256, .f32⟩
  | 77 => ⟨S64x2x4x64x256, .f32⟩
  | 78 => ⟨S64x2x4x64x256, .f32⟩
  | 79 => ⟨S64x2x4x64x512, .f32⟩
  | 80 => ⟨S64x2x4x256, .f32⟩
  | 81 => ⟨S64x64, .i1⟩
  | 82 => ⟨S_, .i32⟩
  | 83 => ⟨S2x4x256x512, .f32⟩
  | 84 => ⟨S64x2x4x64x512, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x2x4x64x256, .f32⟩
  | 92 => ⟨S2x4x64x256, .f32⟩
  | 93 => ⟨S_, .i32⟩
  | 94 => ⟨S_, .i32⟩
  | 95 => ⟨S_, .i32⟩
  | 96 => ⟨S_, .i32⟩
  | 97 => ⟨S1x2x4x64x256, .f32⟩
  | 98 => ⟨S2x4x64x256, .f32⟩
  | 99 => ⟨S_, .i32⟩
  | 100 => ⟨S_, .i32⟩
  | 101 => ⟨S_, .i32⟩
  | 102 => ⟨S_, .i32⟩
  | 103 => ⟨S1x2x4x64x256, .f32⟩
  | 104 => ⟨S2x4x64x256, .f32⟩
  | 105 => ⟨S_, .i32⟩
  | 106 => ⟨S_, .i32⟩
  | 107 => ⟨S_, .i32⟩
  | 108 => ⟨S_, .i32⟩
  | 109 => ⟨S1x2x4x64x512, .f32⟩
  | 110 => ⟨S2x4x64x512, .f32⟩
  | 111 => ⟨S_, .i32⟩
  | 112 => ⟨S_, .i32⟩
  | 113 => ⟨S_, .i32⟩
  | 114 => ⟨S1x2x4x256, .f32⟩
  | 115 => ⟨S2x4x256, .f32⟩
  | 116 => ⟨S2x4x64x64, .f32⟩
  | 117 => ⟨S_, .f32⟩
  | 118 => ⟨S_, .f32⟩
  | 119 => ⟨S2x4x64x64, .i1⟩
  | 120 => ⟨S2x4x64x64, .f32⟩
  | 121 => ⟨S2x4x64x64, .f32⟩
  | 122 => ⟨S2x4x64x512, .f32⟩
  | 123 => ⟨S2x4x64x512, .f32⟩
  | 124 => ⟨S2x4x256x1, .f32⟩
  | 125 => ⟨S2x4x256x512, .f32⟩
  | 126 => ⟨S2x4x256x512, .f32⟩
  | 127 => ⟨S2x4x256x512, .f32⟩
  | _ => ⟨S2x4096x6160, .f32⟩

abbrev hbmTy0_1 (i : Nat) : BufTy := match i % 128 with
  | 0 => ⟨S2x4x256x512, .f32⟩
  | 1 => ⟨S2x4x64x512, .f32⟩
  | 2 => ⟨S1x2x4x64x512, .f32⟩
  | 3 => ⟨S_, .i32⟩
  | 4 => ⟨S_, .i32⟩
  | 5 => ⟨S_, .i32⟩
  | 6 => ⟨S_, .i32⟩
  | 7 => ⟨S64x2x4x64x512, .f32⟩
  | 8 => ⟨S_, .i32⟩
  | 9 => ⟨S_, .i32⟩
  | 10 => ⟨S2x64x64x4x512, .f32⟩
  | 11 => ⟨S2x4096x4x512, .f32⟩
  | 12 => ⟨S512, .f32⟩
  | 13 => ⟨S2x4096x4x512, .f32⟩
  | 14 => ⟨S_, .f32⟩
  | 15 => ⟨S2x4096x4, .f32⟩
  | 16 => ⟨S2x4096x4x1, .f32⟩
  | 17 => ⟨S_, .f32⟩
  | 18 => ⟨S2x4096x4x1, .f32⟩
  | 19 => ⟨S2x4096x4x1, .f32⟩
  | 20 => ⟨S_, .f32⟩
  | 21 => ⟨S2x4096x4x1, .f32⟩
  | 22 => ⟨S2x4096x4x1, .f32⟩
  | 23 => ⟨S2x4096x4x1, .f32⟩
  | 24 => ⟨S2x4096x4x512, .f32⟩
  | 25 => ⟨S2x4096x4x512, .f32⟩
  | 26 => ⟨S1x1x1x512, .f32⟩
  | 27 => ⟨S2x4096x4x512, .f32⟩
  | 28 => ⟨S2x4096x4x512, .f32⟩
  | 29 => ⟨S2x4096x2048, .f32⟩
  | 30 => ⟨S2x4096x2048, .f32⟩
  | 31 => ⟨S2x4096x2048, .f32⟩
  | 32 => ⟨S_, .f32⟩
  | 33 => ⟨S2x4096x2048, .f32⟩
  | 34 => ⟨S2x4096x2048, .f32⟩
  | 35 => ⟨S_, .f32⟩
  | 36 => ⟨S2x4096x2048, .f32⟩
  | 37 => ⟨S2x4096x2048, .f32⟩
  | 38 => ⟨S2x4096x2048, .f32⟩
  | 39 => ⟨S2x4096x4x512, .f32⟩
  | 40 => ⟨S2x4096x4x512, .f32⟩
  | 41 => ⟨S8192x2048, .f32⟩
  | 42 => ⟨S8192x2048, .bf16⟩
  | _ => ⟨S2x4096x6160, .f32⟩

abbrev hbmTy (i : Nat) : BufTy := match i / 128 with
  | 0 => hbmTy0_0 i
  | 1 => hbmTy0_1 i
  | _ => ⟨S2x4096x6160, .f32⟩

abbrev bufTy : (tb : Table) → Fin (tcTables nBuf tb) → BufTy
  | .hbm, ⟨i, _⟩ => hbmTy i
  | _, _ => ⟨S2x4096x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_call0_cst : Ref sig .tc := ⟨.hbm, 45, rfl⟩
abbrev main_call1_call0_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c : Ref sig .tc := ⟨.hbm, 58, rfl⟩
abbrev main_v35 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_0 : Ref sig .tc := ⟨.hbm, 66, rfl⟩
abbrev main_call2_v5 : Ref sig .tc := ⟨.hbm, 67, rfl⟩
abbrev main_v36 : Ref sig .tc := ⟨.hbm, 68, rfl⟩
abbrev main_cst_1 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_2 : Ref sig .tc := ⟨.hbm, 73, rfl⟩
abbrev main_v40 : Ref sig .tc := ⟨.hbm, 74, rfl⟩
abbrev main_c_3 : Ref sig .tc := ⟨.hbm, 75, rfl⟩
abbrev main_v41_0 : Ref sig .tc := ⟨.hbm, 76, rfl⟩
abbrev main_v41_1 : Ref sig .tc := ⟨.hbm, 77, rfl⟩
abbrev main_v41_2 : Ref sig .tc := ⟨.hbm, 78, rfl⟩
abbrev main_v41_3 : Ref sig .tc := ⟨.hbm, 79, rfl⟩
abbrev main_v41_4 : Ref sig .tc := ⟨.hbm, 80, rfl⟩
abbrev main_v41_5 : Ref sig .tc := ⟨.hbm, 81, rfl⟩
abbrev main_v41_6 : Ref sig .tc := ⟨.hbm, 82, rfl⟩
abbrev main_v41_7 : Ref sig .tc := ⟨.hbm, 83, rfl⟩
abbrev main_v41_8 : Ref sig .tc := ⟨.hbm, 84, rfl⟩
abbrev main_while0c_c_15 : Ref sig .tc := ⟨.hbm, 85, rfl⟩
abbrev main_while0c_v64 : Ref sig .tc := ⟨.hbm, 86, rfl⟩
abbrev main_while0b_call3_c : Ref sig .tc := ⟨.hbm, 87, rfl⟩
abbrev main_while0b_call3_c_0 : Ref sig .tc := ⟨.hbm, 88, rfl⟩
abbrev main_while0b_call3_c_1 : Ref sig .tc := ⟨.hbm, 89, rfl⟩
abbrev main_while0b_call3_c_2 : Ref sig .tc := ⟨.hbm, 90, rfl⟩
abbrev main_while0b_call3_v0 : Ref sig .tc := ⟨.hbm, 91, rfl⟩
abbrev main_while0b_v64 : Ref sig .tc := ⟨.hbm, 92, rfl⟩
abbrev main_while0b_call4_c : Ref sig .tc := ⟨.hbm, 93, rfl⟩
abbrev main_while0b_call4_c_0 : Ref sig .tc := ⟨.hbm, 94, rfl⟩
abbrev main_while0b_call4_c_1 : Ref sig .tc := ⟨.hbm, 95, rfl⟩
abbrev main_while0b_call4_c_2 : Ref sig .tc := ⟨.hbm, 96, rfl⟩
abbrev main_while0b_call4_v0 : Ref sig .tc := ⟨.hbm, 97, rfl⟩
abbrev main_while0b_v65 : Ref sig .tc := ⟨.hbm, 98, rfl⟩
abbrev main_while0b_call5_c : Ref sig .tc := ⟨.hbm, 99, rfl⟩
abbrev main_while0b_call5_c_0 : Ref sig .tc := ⟨.hbm, 100, rfl⟩
abbrev main_while0b_call5_c_1 : Ref sig .tc := ⟨.hbm, 101, rfl⟩
abbrev main_while0b_call5_c_2 : Ref sig .tc := ⟨.hbm, 102, rfl⟩
abbrev main_while0b_call5_v0 : Ref sig .tc := ⟨.hbm, 103, rfl⟩
abbrev main_while0b_v66 : Ref sig .tc := ⟨.hbm, 104, rfl⟩
abbrev main_while0b_call6_c : Ref sig .tc := ⟨.hbm, 105, rfl⟩
abbrev main_while0b_call6_c_0 : Ref sig .tc := ⟨.hbm, 106, rfl⟩
abbrev main_while0b_call6_c_1 : Ref sig .tc := ⟨.hbm, 107, rfl⟩
abbrev main_while0b_call6_c_2 : Ref sig .tc := ⟨.hbm, 108, rfl⟩
abbrev main_while0b_call6_v0 : Ref sig .tc := ⟨.hbm, 109, rfl⟩
abbrev main_while0b_v67 : Ref sig .tc := ⟨.hbm, 110, rfl⟩
abbrev main_while0b_call7_c : Ref sig .tc := ⟨.hbm, 111, rfl⟩
abbrev main_while0b_call7_c_0 : Ref sig .tc := ⟨.hbm, 112, rfl⟩
abbrev main_while0b_call7_c_1 : Ref sig .tc := ⟨.hbm, 113, rfl⟩
abbrev main_while0b_call7_v0 : Ref sig .tc := ⟨.hbm, 114, rfl⟩
abbrev main_while0b_v68 : Ref sig .tc := ⟨.hbm, 115, rfl⟩
abbrev main_while0b_v69 : Ref sig .tc := ⟨.hbm, 116, rfl⟩
abbrev main_while0b_cst_15 : Ref sig .tc := ⟨.hbm, 117, rfl⟩
abbrev main_while0b_call8_v0 : Ref sig .tc := ⟨.hbm, 118, rfl⟩
abbrev main_while0b_call8_v1 : Ref sig .tc := ⟨.hbm, 119, rfl⟩
abbrev main_while0b_call8_v2 : Ref sig .tc := ⟨.hbm, 120, rfl⟩
abbrev main_while0b_v70 : Ref sig .tc := ⟨.hbm, 121, rfl⟩
abbrev main_while0b_v71 : Ref sig .tc := ⟨.hbm, 122, rfl⟩
abbrev main_while0b_v72 : Ref sig .tc := ⟨.hbm, 123, rfl⟩
abbrev main_while0b_v73 : Ref sig .tc := ⟨.hbm, 124, rfl⟩
abbrev main_while0b_v74 : Ref sig .tc := ⟨.hbm, 125, rfl⟩
abbrev main_while0b_v75 : Ref sig .tc := ⟨.hbm, 126, rfl⟩
abbrev main_while0b_v76 : Ref sig .tc := ⟨.hbm, 127, rfl⟩
abbrev main_while0b_v77 : Ref sig .tc := ⟨.hbm, 128, rfl⟩
abbrev main_while0b_v78 : Ref sig .tc := ⟨.hbm, 129, rfl⟩
abbrev main_while0b_call9_v0 : Ref sig .tc := ⟨.hbm, 130, rfl⟩
abbrev main_while0b_call9_c : Ref sig .tc := ⟨.hbm, 131, rfl⟩
abbrev main_while0b_call9_c_0 : Ref sig .tc := ⟨.hbm, 132, rfl⟩
abbrev main_while0b_call9_c_1 : Ref sig .tc := ⟨.hbm, 133, rfl⟩
abbrev main_while0b_call9_c_2 : Ref sig .tc := ⟨.hbm, 134, rfl⟩
abbrev main_while0b_v79 : Ref sig .tc := ⟨.hbm, 135, rfl⟩
abbrev main_while0b_c_16 : Ref sig .tc := ⟨.hbm, 136, rfl⟩
abbrev main_while0b_v80 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_cst_4 : Ref sig .tc := ⟨.hbm, 142, rfl⟩
abbrev main_v46 : Ref sig .tc := ⟨.hbm, 143, rfl⟩
abbrev main_v47 : Ref sig .tc := ⟨.hbm, 144, rfl⟩
abbrev main_cst_5 : Ref sig .tc := ⟨.hbm, 145, rfl⟩
abbrev main_v48 : Ref sig .tc := ⟨.hbm, 146, rfl⟩
abbrev main_v49 : Ref sig .tc := ⟨.hbm, 147, rfl⟩
abbrev main_cst_6 : Ref sig .tc := ⟨.hbm, 148, rfl⟩
abbrev main_v50 : Ref sig .tc := ⟨.hbm, 149, rfl⟩
abbrev main_v51 : Ref sig .tc := ⟨.hbm, 150, rfl⟩
abbrev main_v52 : Ref sig .tc := ⟨.hbm, 151, rfl⟩
abbrev main_v53 : Ref sig .tc := ⟨.hbm, 152, rfl⟩
abbrev main_v54 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_call10_v0 : Ref sig .tc := ⟨.hbm, 158, rfl⟩
abbrev main_call10_v1 : Ref sig .tc := ⟨.hbm, 159, rfl⟩
abbrev main_call10_cst : Ref sig .tc := ⟨.hbm, 160, rfl⟩
abbrev main_call10_v2 : Ref sig .tc := ⟨.hbm, 161, rfl⟩
abbrev main_call10_v3 : Ref sig .tc := ⟨.hbm, 162, rfl⟩
abbrev main_call10_cst_0 : Ref sig .tc := ⟨.hbm, 163, rfl⟩
abbrev main_call10_v4 : Ref sig .tc := ⟨.hbm, 164, rfl⟩
abbrev main_call10_v5 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩

abbrev nD : Nat := 1
abbrev τ : Topo := Topo.v7x

variable {F : FTy → Type} [FloatOps F]

abbrev main_while0_count : Scf.Loop 32 := ⟨0#32, 64#32, 1#32⟩
-- ==== KernelDown.lean ====
abbrev S2x4096x2048 : Shape := ⟨3, ![2, 4096, 2048]⟩
abbrev S2x4096x5632 : Shape := ⟨3, ![2, 4096, 5632]⟩
abbrev S2x5632x2048 : Shape := ⟨3, ![2, 5632, 2048]⟩
abbrev S8192x5632 : Shape := ⟨2, ![8192, 5632]⟩
abbrev S1x5632x2048 : Shape := ⟨3, ![1, 5632, 2048]⟩
abbrev S8192x2048 : Shape := ⟨2, ![8192, 2048]⟩
abbrev S512x5632 : Shape := ⟨2, ![512, 5632]⟩
abbrev S1x5632x1024 : Shape := ⟨3, ![1, 5632, 1024]⟩
abbrev S512x1024 : Shape := ⟨2, ![512, 1024]⟩
abbrev S5632x1024 : Shape := ⟨2, ![5632, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x4096x5632, .f32⟩
  | .hbm, ⟨2, _⟩ => ⟨S2x5632x2048, .f32⟩
  | .hbm, ⟨3, _⟩ => ⟨S2x4096x5632, .bf16⟩
  | .hbm, ⟨4, _⟩ => ⟨S8192x5632, .bf16⟩
  | .hbm, ⟨5, _⟩ => ⟨S1x5632x2048, .f32⟩
  | .hbm, ⟨6, _⟩ => ⟨S1x5632x2048, .bf16⟩
  | .hbm, ⟨7, _⟩ => ⟨S8192x2048, .f32⟩
  | .hbm, ⟨8, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDownIdeal.lean ====
abbrev S2x4096x2048 : Shape := ⟨3, ![2, 4096, 2048]⟩
abbrev S2x4096x5632 : Shape := ⟨3, ![2, 4096, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x5632, .f32⟩
  | .hbm, ⟨2, _⟩ => ⟨S2x5632x2048, .f32⟩
  | .hbm, ⟨3, _⟩ => ⟨S1x5632x2048, .f32⟩
  | .hbm, ⟨4, _⟩ => ⟨S5632x2048, .f32⟩
  | .hbm, ⟨5, _⟩ => ⟨S2x4096x2048, .f32⟩
  | .hbm, ⟨6, _⟩ => ⟨S2x4096x2048, .f32⟩
  | .hbm, ⟨7, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelIn.lean ====
abbrev S2x4096x2048 : Shape := ⟨3, ![2, 4096, 2048]⟩
abbrev S1x2048x6160 : Shape := ⟨3, ![1, 2048, 6160]⟩
abbrev S8192x2048 : Shape := ⟨2, ![8192, 2048]⟩
abbrev S8192x6144 : Shape := ⟨2, ![8192, 6144]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6160, .f32⟩
  | .hbm, ⟨2, _⟩ => ⟨S2x4096x2048, .bf16⟩
  | .hbm, ⟨3, _⟩ => ⟨S8192x2048, .bf16⟩
  | .hbm, ⟨4, _⟩ => ⟨S1x2048x6160, .bf16⟩
  | .hbm, ⟨5, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S2x4096x2048 : Shape := ⟨3, ![2, 4096, 2048]⟩
abbrev S1x2048x6160 : Shape := ⟨3, ![1, 2048, 6160]⟩
abbrev S2048x6160 : Shape := ⟨2, ![2048, 6160]⟩
abbrev S2x4096x6160 : Shape := ⟨3, ![2, 4096, 6160]⟩
abbrev S2x4096x6144 : Shape := ⟨3, ![2, 4096, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6160, .f32⟩
  | .hbm, ⟨2, _⟩ => ⟨S2048x6160, .f32⟩
  | .hbm, ⟨3, _⟩ => ⟨S2x4096x6160, .f32⟩
  | .hbm, ⟨4, _⟩ => ⟨S2x4096x6144, .f32⟩
  | .hbm, ⟨5, _⟩ => ⟨S8192x6144, .f32⟩
  | .hbm, ⟨6, _⟩ => ⟨S8192x6144, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelOut.lean ====
abbrev S2x4096x2048 : Shape := ⟨3, ![2, 4096, 2048]⟩
abbrev S1x2048x2048 : Shape := ⟨3, ![1, 2048, 2048]⟩
abbrev S2x2048 : Shape := ⟨2, ![2, 2048]⟩
abbrev S8192x2048 : Shape := ⟨2, ![8192, 2048]⟩
abbrev S1x2048 : Shape := ⟨2, ![1, 2048]⟩
abbrev S2048 : Shape := ⟨1, ![2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S1x2048x2048, .f32⟩
  | .hbm, ⟨3, _⟩ => ⟨S2x2048, .f32⟩
  | .hbm, ⟨4, _⟩ => ⟨S2x4096x2048, .bf16⟩
  | .hbm, ⟨5, _⟩ => ⟨S8192x2048, .bf16⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8192x2048, .f32⟩
  | .hbm, ⟨11, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutIdeal.lean ====
abbrev S2x4096x2048 : Shape := ⟨3, ![2, 4096, 2048]⟩
abbrev S1x2048x2048 : Shape := ⟨3, ![1, 2048, 2048]⟩
abbrev S2x2048 : Shape := ⟨2, ![2, 2048]⟩
abbrev S2048x2048 : Shape := ⟨2, ![2048, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S1x2048x2048, .f32⟩
  | .hbm, ⟨3, _⟩ => ⟨S2x2048, .f32⟩
  | .hbm, ⟨4, _⟩ => ⟨S2048x2048, .f32⟩
  | .hbm, ⟨5, _⟩ => ⟨S2x4096x2048, .f32⟩
  | .hbm, ⟨6, _⟩ => ⟨S2x4096x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S2x4096x2048, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1, .f32⟩
  | .hbm, ⟨21, _⟩ => ⟨S2x4096x2048, .f32⟩
  | .hbm, ⟨22, _⟩ => ⟨S2x4096x2048, .f32⟩
  | .hbm, ⟨23, _⟩ => ⟨S1x1x2048, .f32⟩
  | .hbm, ⟨24, _⟩ => ⟨S2x4096x2048, .f32⟩
  | .hbm, ⟨25, _⟩ => ⟨S2x4096x2048, .f32⟩
  | .hbm, ⟨26, _⟩ => ⟨S8192x2048, .f32⟩
  | .hbm, ⟨27, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelQuery.lean ====
abbrev S2x4096x2048 : Shape := ⟨3, ![2, 4096, 2048]⟩
abbrev S1x2048x6144 : Shape := ⟨3, ![1, 2048, 6144]⟩
abbrev S8192x2048 : Shape := ⟨2, ![8192, 2048]⟩
abbrev S8192x4096 : Shape := ⟨2, ![8192, 4096]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6144, .f32⟩
  | .hbm, ⟨2, _⟩ => ⟨S2x4096x2048, .bf16⟩
  | .hbm, ⟨3, _⟩ => ⟨S8192x2048, .bf16⟩
  | .hbm, ⟨4, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelQueryIdeal.lean ====
variable {F : FTy → Type} [FloatOps F] [Named F]
def κ : String → Option EReal := fun
  | "q_scale" => some (((Real.log 2)⁻¹ * (Real.sqrt 128)⁻¹ : ℝ) : EReal)
  | _ => none
-- ==== ReferenceQueryIdeal.lean ====
abbrev S2x4096x2048 : Shape := ⟨3, ![2, 4096, 2048]⟩
abbrev S1x2048x6144 : Shape := ⟨3, ![1, 2048, 6144]⟩
abbrev S2048x6144 : Shape := ⟨2, ![2048, 6144]⟩
abbrev S2x4096x6144 : Shape := ⟨3, ![2, 4096, 6144]⟩
abbrev S2x4096x4096 : Shape := ⟨3, ![2, 4096, 4096]⟩
abbrev S_ : Shape := ⟨0, ![]⟩
abbrev S8192x4096 : Shape := ⟨2, ![8192, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6144, .f32⟩
  | .hbm, ⟨2, _⟩ => ⟨S2048x6144, .f32⟩
  | .hbm, ⟨3, _⟩ => ⟨S2x4096x6144, .f32⟩
  | .hbm, ⟨4, _⟩ => ⟨S2x4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x4096x4096, .f32⟩
  | .hbm, ⟨11, _⟩ => ⟨S2x4096x4096, .f32⟩
  | .hbm, ⟨12, _⟩ => ⟨S8192x4096, .f32⟩
  | .hbm, ⟨13, _⟩ => ⟨S8192x4096, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelUp.lean ====
abbrev S2x4096x2048 : Shape := ⟨3, ![2, 4096, 2048]⟩
abbrev S2x2048x11264 : Shape := ⟨3, ![2, 2048, 11264]⟩
abbrev S2x3x5632 : Shape := ⟨3, ![2, 3, 5632]⟩
abbrev S2x5632 : Shape := ⟨2, ![2, 5632]⟩
abbrev S2x5632x2048 : Shape := ⟨3, ![2, 5632, 2048]⟩
abbrev S8192x2048 : Shape := ⟨2, ![8192, 2048]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S8192x5632 : Shape := ⟨2, ![8192, 5632]⟩
abbrev S1x5632x2048 : Shape := ⟨3, ![1, 5632, 2048]⟩
abbrev S2048x2048 : Shape := ⟨2, ![2048, 2048]⟩
abbrev S1x2048x512 : Shape := ⟨3, ![1, 2048, 512]⟩
abbrev S3x512 : Shape := ⟨2, ![3, 512]⟩
abbrev S1x512 : Shape := ⟨2, ![1, 512]⟩
abbrev S1x128x2048 : Shape := ⟨3, ![1, 128, 2048]⟩
abbrev S2048x512 : Shape := ⟨2, ![2048, 512]⟩
abbrev S2x512x256 : Shape := ⟨3, ![2, 512, 256]⟩
abbrev S2x520x256 : Shape := ⟨3, ![2, 520, 256]⟩
abbrev S8x512 : Shape := ⟨2, ![8, 512]⟩
abbrev S128x2048 : Shape := ⟨2, ![128, 2048]⟩
abbrev S512x2048 : Shape := ⟨2, ![512, 2048]⟩
abbrev S2048x256 : Shape := ⟨2, ![2048, 256]⟩
abbrev S512x256 : Shape := ⟨2, ![512, 256]⟩
abbrev S1x512x256 : Shape := ⟨3, ![1, 512, 256]⟩
abbrev S8x256 : Shape := ⟨2, ![8, 256]⟩
abbrev S1x8x256 : Shape := ⟨3, ![1, 8, 256]⟩
abbrev S3x256 : Shape := ⟨2, ![3, 256]⟩
abbrev S1x256 : Shape := ⟨2, ![1, 256]⟩

abbrev nBuf : Space → Nat
  | .hbm => 14
  | .vmem => 21
  | .smem => 0
  | _ => 0

abbrev bufTy : (tb : Table) → Fin (tcTables nBuf tb) → BufTy
  | .hbm, ⟨0, _⟩ => ⟨S2x4096x2048, .f32⟩
  | .hbm, ⟨1, _⟩ => ⟨S2x2048x11264, .f32⟩
  | .hbm, ⟨2, _⟩ => ⟨S2x3x5632, .f32⟩
  | .hbm, ⟨3, _⟩ => ⟨S2x5632, .f32⟩
  | .hbm, ⟨4, _⟩ => ⟨S2x5632x2048, .f32⟩
  | .hbm, ⟨5, _⟩ => ⟨S2x4096x2048, .bf16⟩
  | .hbm, ⟨6, _⟩ => ⟨S8192x2048, .bf16⟩
  | .hbm, ⟨7, _⟩ => ⟨S1x3x5632, .f32⟩
  | .hbm, ⟨8, _⟩ => ⟨S3x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S8192x5632, .bf16⟩
  | .hbm, ⟨13, _⟩ => ⟨S1x5632x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1x128x2048, .f32⟩
  | .local _ .vmem, ⟨11, _⟩ => ⟨S1x128x2048, .f32⟩
  | .local _ .vmem, ⟨12, _⟩ => ⟨S2048x512, .bf16⟩
  | .local _ .vmem, ⟨13, _⟩ => ⟨S2048x512, .bf16⟩
  | .local _ .vmem, ⟨14, _⟩ => ⟨S1x128x2048, .bf16⟩
  | .local _ .vmem, ⟨15, _⟩ => ⟨S1x128x2048, .bf16⟩
  | .local _ .vmem, ⟨16, _⟩ => ⟨S2048x512, .bf16⟩
  | .local _ .vmem, ⟨17, _⟩ => ⟨S2048x512, .bf16⟩
  | .local _ .vmem, ⟨18, _⟩ => ⟨S2x512x256, .f32⟩
  | .local _ .vmem, ⟨19, _⟩ => ⟨S2x520x256, .f32⟩
  | .local _ .vmem, ⟨20, _⟩ => ⟨S8x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelUpIdeal.lean ====
variable {F : FTy → Type} [FloatOps F] [Named F]
def κ : String → Option EReal := fun
  | "sqrt2" => some ((Real.sqrt 2 : ℝ) : EReal)
  | _ => none
-- ==== ReferenceUpIdeal.lean ====
abbrev S2x4096x2048 : Shape := ⟨3, ![2, 4096, 2048]⟩
abbrev S2x2048x11264 : Shape := ⟨3, ![2, 2048, 11264]⟩
abbrev S2x3x5632 : Shape := ⟨3, ![2, 3, 5632]⟩
abbrev S2x5632 : Shape := ⟨2, ![2, 5632]⟩
abbrev S2x5632x2048 : Shape := ⟨3, ![2, 5632, 2048]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2048x11264 : Shape := ⟨3, ![1, 2048, 11264]⟩
abbrev S2048x11264 : Shape := ⟨2, ![2048, 11264]⟩
abbrev S2x4096x11264 : Shape := ⟨3, ![2, 4096, 11264]⟩
abbrev S2x4096x5632 : Shape := ⟨3, ![2, 4096, 5632]⟩
abbrev S_ : Shape := ⟨0, ![]⟩
abbrev S2x4098x5632 : Shape := ⟨3, ![2, 4098, 5632]⟩
abbrev S1x1x5632 : Shape := ⟨3, ![1, 1, 5632]⟩
abbrev S8192x5632 : Shape := ⟨2, ![8192, 5632]⟩
abbrev S1x5632x2048 : Shape := ⟨3, ![1, 5632, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048x11264, .f32⟩
  | .hbm, ⟨2, _⟩ => ⟨S2x3x5632, .f32⟩
  | .hbm, ⟨3, _⟩ => ⟨S2x5632, .f32⟩
  | .hbm, ⟨4, _⟩ => ⟨S2x5632x2048, .f32⟩
  | .hbm, ⟨5, _⟩ => ⟨S1x3x5632, .f32⟩
  | .hbm, ⟨6, _⟩ => ⟨S3x5632, .f32⟩
  | .hbm, ⟨7, _⟩ => ⟨S1x5632, .f32⟩
  | .hbm, ⟨8, _⟩ => ⟨S5632, .f32⟩
  | .hbm, ⟨9, _⟩ => ⟨S1x2048x11264, .f32⟩
  | .hbm, ⟨10, _⟩ => ⟨S2048x11264, .f32⟩
  | .hbm, ⟨11, _⟩ => ⟨S2x4096x11264, .f32⟩
  | .hbm, ⟨12, _⟩ => ⟨S2x4096x5632, .f32⟩
  | .hbm, ⟨13, _⟩ => ⟨S2x4096x5632, .f32⟩
  | .hbm, ⟨14, _⟩ => ⟨S_, .i32⟩
  | .hbm, ⟨15, _⟩ => ⟨S_, .f32⟩
  | .hbm, ⟨16, _⟩ => ⟨S2x4098x5632, .f32⟩
  | .hbm, ⟨17, _⟩ => ⟨S1x5632, .f32⟩
  | .hbm, ⟨18, _⟩ => ⟨S5632, .f32⟩
  | .hbm, ⟨19, _⟩ => ⟨S2x4096x5632, .f32⟩
  | .hbm, ⟨20, _⟩ => ⟨S1x1x5632, .f32⟩
  | .hbm, ⟨21, _⟩ => ⟨S2x4096x5632, .f32⟩
  | .hbm, ⟨22, _⟩ => ⟨S2x4096x5632, .f32⟩
  | .hbm, ⟨23, _⟩ => ⟨S1x5632, .f32⟩
  | .hbm, ⟨24, _⟩ => ⟨S5632, .f32⟩
  | .hbm, ⟨25, _⟩ => ⟨S2x4096x5632, .f32⟩
  | .hbm, ⟨26, _⟩ => ⟨S1x1x5632, .f32⟩
  | .hbm, ⟨27, _⟩ => ⟨S2x4096x5632, .f32⟩
  | .hbm, ⟨28, _⟩ => ⟨S2x4096x5632, .f32⟩
  | .hbm, ⟨29, _⟩ => ⟨S2x4096x5632, .f32⟩
  | .hbm, ⟨30, _⟩ => ⟨S1x5632, .f32⟩
  | .hbm, ⟨31, _⟩ => ⟨S5632, .f32⟩
  | .hbm, ⟨32, _⟩ => ⟨S2x4096x5632, .f32⟩
  | .hbm, ⟨33, _⟩ => ⟨S1x1x5632, .f32⟩
  | .hbm, ⟨34, _⟩ => ⟨S2x4096x5632, .f32⟩
  | .hbm, ⟨35, _⟩ => ⟨S2x4096x5632, .f32⟩
  | .hbm, ⟨36, _⟩ => ⟨S2x4096x5632, .f32⟩
  | .hbm, ⟨37, _⟩ => ⟨S1x1x5632, .f32⟩
  | .hbm, ⟨38, _⟩ => ⟨S2x4096x5632, .f32⟩
  | .hbm, ⟨39, _⟩ => ⟨S2x4096x5632, .f32⟩
  | .hbm, ⟨40, _⟩ => ⟨S_, .f32⟩
  | .hbm, ⟨41, _⟩ => ⟨S2x4096x5632, .f32⟩
  | .hbm, ⟨42, _⟩ => ⟨S2x4096x5632, .f32⟩
  | .hbm, ⟨43, _⟩ => ⟨S_, .f32⟩
  | .hbm, ⟨44, _⟩ => ⟨S_, .f32⟩
  | .hbm, ⟨45, _⟩ => ⟨S2x4096x5632, .f32⟩
  | .hbm, ⟨46, _⟩ => ⟨S2x4096x5632, .f32⟩
  | .hbm, ⟨47, _⟩ => ⟨S2x4096x5632, .f32⟩
  | .hbm, ⟨48, _⟩ => ⟨S_, .f32⟩
  | .hbm, ⟨49, _⟩ => ⟨S2x4096x5632, .f32⟩
  | .hbm, ⟨50, _⟩ => ⟨S2x4096x5632, .f32⟩
  | .hbm, ⟨51, _⟩ => ⟨S2x4096x5632, .f32⟩
  | .hbm, ⟨52, _⟩ => ⟨S2x4096x5632, .f32⟩
  | .hbm, ⟨53, _⟩ => ⟨S8192x5632, .f32⟩
  | .hbm, ⟨54, _⟩ => ⟨S8192x5632, .bf16⟩
  | .hbm, ⟨55, _⟩ => ⟨S1x5632x2048, .f32⟩
  | .hbm, ⟨56, _⟩ => ⟨S1x5632x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_1 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== KernelFinal.lean ====
abbrev S2x4096x2048 : Shape := ⟨3, ![2, 4096, 2048]⟩
abbrev S2048 : Shape := ⟨1, ![2048]⟩
abbrev S8192x2048 : Shape := ⟨2, ![8192, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceFinalIdeal.lean ====
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2x4096x2048, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x2048, .f32⟩
  | .hbm, ⟨14, _⟩ => ⟨S2x4096x2048, .f32⟩
  | .hbm, ⟨15, _⟩ => ⟨S1x1x2048, .f32⟩
  | .hbm, ⟨16, _⟩ => ⟨S2x4096x2048, .f32⟩
  | .hbm, ⟨17, _⟩ => ⟨S2x4096x2048, .f32⟩
  | .hbm, ⟨18, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelFirst.lean ====
abbrev S2x4096x2048 : Shape := ⟨3, ![2, 4096, 2048]⟩
abbrev S1x2048x6144 : Shape := ⟨3, ![1, 2048, 6144]⟩
abbrev S8192x2048 : Shape := ⟨2, ![8192, 2048]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6144, .f32⟩
  | .hbm, ⟨2, _⟩ => ⟨S2x4096x2048, .bf16⟩
  | .hbm, ⟨3, _⟩ => ⟨S8192x2048, .bf16⟩
  | .hbm, ⟨4, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelFirstIdeal.lean ====
variable {F : FTy → Type} [FloatOps F] [Named F]
def κ : String → Option EReal := fun
  | "q_scale" => some (((Real.log 2)⁻¹ * (Real.sqrt 128)⁻¹ : ℝ) : EReal)
  | _ => none
-- ==== ReferenceFirstIdeal.lean ====
abbrev S2x4096x2048 : Shape := ⟨3, ![2, 4096, 2048]⟩
abbrev S1x2048x6144 : Shape := ⟨3, ![1, 2048, 6144]⟩
abbrev S2048x6144 : Shape := ⟨2, ![2048, 6144]⟩
abbrev S2x4096x6144 : Shape := ⟨3, ![2, 4096, 6144]⟩
abbrev S_ : Shape := ⟨0, ![]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6144, .f32⟩
  | .hbm, ⟨2, _⟩ => ⟨S2048x6144, .f32⟩
  | .hbm, ⟨3, _⟩ => ⟨S2x4096x6144, .f32⟩
  | .hbm, ⟨4, _⟩ => ⟨S2x4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x4096x2048, .f32⟩
  | .hbm, ⟨11, _⟩ => ⟨S2x4096x2048, .f32⟩
  | .hbm, ⟨12, _⟩ => ⟨S8192x2048, .f32⟩
  | .hbm, ⟨13, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelKv.lean ====
abbrev S2x4096x2048 : Shape := ⟨3, ![2, 4096, 2048]⟩
abbrev S2048x4096 : Shape := ⟨2, ![2048, 4096]⟩
abbrev S256x256 : Shape := ⟨2, ![256, 256]⟩
abbrev S8192x2048 : Shape := ⟨2, ![8192, 2048]⟩
abbrev S1x2048x4096 : Shape := ⟨3, ![1, 2048, 4096]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S512x1024 : Shape := ⟨2, ![512, 1024]⟩
abbrev S256x1024 : Shape := ⟨2, ![256, 1024]⟩
abbrev S16x1024 : Shape := ⟨2, ![16, 1024]⟩

abbrev nBuf : Space → Nat
  | .hbm => 8
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2048x4096, .f32⟩
  | .hbm, ⟨2, _⟩ => ⟨S256x256, .bf16⟩
  | .hbm, ⟨3, _⟩ => ⟨S2x4096x2048, .bf16⟩
  | .hbm, ⟨4, _⟩ => ⟨S8192x2048, .bf16⟩
  | .hbm, ⟨5, _⟩ => ⟨S1x2048x4096, .f32⟩
  | .hbm, ⟨6, _⟩ => ⟨S8192x4096, .bf16⟩
  | .hbm, ⟨7, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S256x256, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S2048x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceKvIdeal.lean ====
abbrev S2x4096x2048 : Shape := ⟨3, ![2, 4096, 2048]⟩
abbrev S2048x4096 : Shape := ⟨2, ![2048, 4096]⟩
abbrev S2x4096x4096 : Shape := ⟨3, ![2, 4096, 4096]⟩
abbrev S8192x4096 : Shape := ⟨2, ![8192, 4096]⟩
abbrev S16x32x4x4x4096 : Shape := ⟨5, ![16, 32, 4, 4, 4096]⟩
abbrev S16x4x4x32x4096 : Shape := ⟨5, ![16, 4, 4, 32, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x4096, .f32⟩
  | .hbm, ⟨2, _⟩ => ⟨S2x4096x4096, .f32⟩
  | .hbm, ⟨3, _⟩ => ⟨S8192x4096, .f32⟩
  | .hbm, ⟨4, _⟩ => ⟨S16x32x4x4x4096, .f32⟩
  | .hbm, ⟨5, _⟩ => ⟨S16x4x4x32x4096, .f32⟩
  | .hbm, ⟨6, _⟩ => ⟨S8192x4096, .f32⟩
  | .hbm, ⟨7, _⟩ => ⟨S8192x4096, .bf16⟩
  | .hbm, ⟨8, _⟩ => ⟨S8192x4096, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Proof.Frames.lean ====
/-
  THE CLAIMS THAT NAME NO VALUE: the three programs' frames, and the named constant of the kernel's idealization.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one named constant: `log2 e / 16`. -/
theorem preserves : Cert.preserves_Kernel_KernelIdeal :=
  IdealRules.named_const.statement Cert.KernelIdeal.κ "log2e_16" .f32 0x3DB8AA3B#32 (((Real.log 2)⁻¹ * 16⁻¹ : ℝ) : EReal) rfl

end Cert.Proof

end
-- ==== Proof.Model.lean ====
/-
  THE RECURRENCE KERNEL'S BODY, HEAD BY HEAD. One grid point of the kernel handles 256 rows of a sequence for four heads, and each head's rows as four
  chunks of 64. Here is what a point computes for ONE head, as functions of the head's slices of the blocks, and the statement that what the point
  leaves in its output block and in its carried state is these functions at the four heads.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Model

open Cert.KernelIdeal Cert.KernelIdeal.Gen Idealize.ShloMosaic Idealize.ShloMosaic.TcCoe Idealize.SL.Sem

variable {F : FTy → Type} [FloatOps F] [Named F]

/-- `i / 64` rounded down, as the body computes it on the row (or lane) numbers `v`. -/
def chunkOf (v : IVec S256x256 32) : IVec S256x256 32 :=
  select (andi (cmpi .ne (subi (extui 32 (cmpi .sgt v (broadcast S256x256 0#32)) natLt_1_32) (extui 32 (cmpi .slt v (broadcast S256x256 0#32)) natLt_1_32)) (broadcast S256x256 1#32))
      (cmpi .ne (remsi v (broadcast S256x256 64#32)) (broadcast S256x256 0#32)))
    (subi (divsi v (broadcast S256x256 64#32)) (broadcast S256x256 1#32)) (divsi v (broadcast S256x256 64#32))

/-- The row numbers and the lane numbers of a block of scores. -/
def rows : IVec S256x256 32 := iota .tc S256x256 32 [0] iota_S256x256_d0_w32
def lanes : IVec S256x256 32 := iota .tc S256x256 32 [1] iota_S256x256_d1_w32

/-- The lanes of a row's own chunk that do not come after it. -/
def mask : IVec S256x256 1 :=
  andi (cmpi .eq (chunkOf rows) (chunkOf lanes)) (cmpi .sle lanes rows)

/-- The mask as zeros and ones. -/
def tri : FVec F S256x256 .bf16 :=
  truncf .bf16 (select mask (broadcast S256x256 (Scalar.ofBits .f32 0x3F800000#32)) (broadcast S256x256 (Scalar.ofBits .f32 0x00000000#32))) bitsLt_bf16_f32

/-- The head's cumulative log-decays (base 2), each chunk's from its own first row. -/
def cum (a : Vec F S256x128 .bf16) (w : Vec F S128x256 .bf16) (b : Vec F S1x256 .f32) : FVec F S256x256 .f32 :=
  k0_pay14 tri (k0_pay10 a w b) (k0_pay12 a w b) (k0_pay13 a w b)

/-- The head's outputs inside the chunks: masked scores times the values. -/
def intra (g kf : FVec F S256x256 .f32) (qd : FVec F S256x256 .bf16) (v : Vec F S256x512 .bf16) : FVec F S256x512 .f32 :=
  k0_pay33 (k0_pay31 mask g kf qd) v

/-- One chunk's step of the head's state (rows `o …`, the chunk's last row `e`). -/
def stStep (o e : ℕ) (ho : S256x256.Slices ![o, 0] S64x256) (he : S256x256.Slices ![e, 0] S1x256) (g kf : FVec F S256x256 .f32) (v : Vec F S64x512 .bf16)
    (st : Vec F S1x512x256 .f32) : FVec F S1x512x256 .f32 :=
  shapeCast S1x512x256 (addf
    (mulf (shapeCast S512x256 st shapeCasts_S1x512x256_S512x256) (broadcastTo S512x256 (exp2 (extractStridedSlice S1x256 ![e, 0] g he)) broadcasts_S1x256_S512x256))
    (matmul dot_S64x512_S64x256_S512x256_0_0_1_1_n_n none (shapeCast S64x512 v shapeCasts_S64x512_S64x512)
      (truncf .bf16 (mulf (extractStridedSlice S64x256 ![o, 0] kf ho)
        (exp2 (subf (broadcastTo S64x256 (extractStridedSlice S1x256 ![e, 0] g he) broadcasts_S1x256_S64x256) (extractStridedSlice S64x256 ![o, 0] g ho)))) bitsLt_bf16_f32)
      (constant S512x256 .f32 0x00000000#32))) shapeCasts_S512x256_S1x512x256

/-- One chunk's outputs of the head: the part inside the chunk plus the part through the state before it. -/
def oChunk (o : ℕ) (ho : S256x256.Slices ![o, 0] S64x256) (hi : S256x512.Slices ![o, 0] S64x512) (qd : FVec F S256x256 .bf16) (p : FVec F S256x512 .f32)
    (st : Vec F S1x512x256 .f32) : FVec F S64x512 .f32 :=
  addf (extractStridedSlice S64x512 ![o, 0] p hi)
    (matmul dot_S64x256_S512x256_S64x512_1_1_0_0_n_n none (extractStridedSlice S64x256 ![o, 0] qd ho)
      (truncf .bf16 (shapeCast S512x256 st shapeCasts_S1x512x256_S512x256) bitsLt_bf16_f32) (constant S64x512 .f32 0x00000000#32))

/-- The four chunks' steps of the head's state. -/
def chunkStep (g kf : FVec F S256x256 .f32) (v0 v1 v2 v3 : Vec F S64x512 .bf16) (st : Vec F S1x512x256 .f32) : ℕ → Vec F S1x512x256 .f32
  | 0 => stStep 0 63 (by decide) (by decide) g kf v0 st
  | 1 => stStep 64 127 (by decide) (by decide) g kf v1 st
  | 2 => stStep 128 191 (by decide) (by decide) g kf v2 st
  | _ => stStep 192 255 (by decide) (by decide) g kf v3 st

/-- The head's state after the first `n` chunks of a point that found it at `st`. -/
def stAfter (g kf : FVec F S256x256 .f32) (v0 v1 v2 v3 : Vec F S64x512 .bf16) (st : Vec F S1x512x256 .f32) : ℕ → Vec F S1x512x256 .f32
  | 0 => st
  | n + 1 => chunkStep g kf v0 v1 v2 v3 (stAfter g kf v0 v1 v2 v3 st n) n

/-- The head's output block: the four chunks' outputs, normalised over the head's lanes and gated. -/
def outHead (g kf : FVec F S256x256 .f32) (qd : FVec F S256x256 .bf16) (v : Vec F S256x512 .bf16) (v0 v1 v2 v3 : Vec F S64x512 .bf16) (st : Vec F S1x512x256 .f32)
    (hn : Vec F S1x512 .f32) (r : Vec F S256x512 .bf16) : FVec F S256x512 .bf16 :=
  k0_pay116 (oChunk 0 (by decide) (by decide) qd (intra g kf qd v) (stAfter g kf v0 v1 v2 v3 st 0))
    (oChunk 64 (by decide) (by decide) qd (intra g kf qd v) (stAfter g kf v0 v1 v2 v3 st 1))
    (oChunk 128 (by decide) (by decide) qd (intra g kf qd v) (stAfter g kf v0 v1 v2 v3 st 2))
    (oChunk 192 (by decide) (by decide) qd (intra g kf qd v) (stAfter g kf v0 v1 v2 v3 st 3)) hn r

/-- A block's columns: 256 (keys, queries, gates) or 512 (values, gate rows) of them from `o`, and 64 of the value rows. -/
abbrev sq (x : Vec F S256x1024 .bf16) (o : ℕ) (h : ∀ a, (![0, o] : Fin 2 → ℕ) a + S256x256.size a ≤ S256x1024.size a) : Vec F S256x256 .bf16 :=
  View.ld x (Rect.unit ![0, o] S256x256.size h)
abbrev wd (x : Vec F S256x2048 .bf16) (o : ℕ) (h : ∀ a, (![0, o] : Fin 2 → ℕ) a + S256x512.size a ≤ S256x2048.size a) : Vec F S256x512 .bf16 :=
  View.ld x (Rect.unit ![0, o] S256x512.size h)
abbrev rw64 (x : Vec F S256x2048 .bf16) (p o : ℕ) (h : ∀ a, (![p, o] : Fin 2 → ℕ) a + S64x512.size a ≤ S256x2048.size a) : Vec F S64x512 .bf16 :=
  View.ld x (Rect.unit ![p, o] S64x512.size h)
abbrev gw (x : Vec F S128x1024 .bf16) (o : ℕ) (h : ∀ a, (![0, o] : Fin 2 → ℕ) a + S128x256.size a ≤ S128x1024.size a) : Vec F S128x256 .bf16 :=
  View.ld x (Rect.unit ![0, o] S128x256.size h)
abbrev gb (x : Vec F S1x1024 .f32) (o : ℕ) (h : ∀ a, (![0, o] : Fin 2 → ℕ) a + S1x256.size a ≤ S1x1024.size a) : Vec F S1x256 .f32 :=
  View.ld x (Rect.unit ![0, o] S1x256.size h)
abbrev sth (x : Vec F S4x512x256 .f32) (o : ℕ) (h : ∀ a, (![o, 0, 0] : Fin 3 → ℕ) a + S1x512x256.size a ≤ S4x512x256.size a) : Vec F S1x512x256 .f32 :=
  View.ld x (Rect.unit ![o, 0, 0] S1x512x256.size h)

/-! The body's text read as the words above. -/

section
variable (a : Vec F S256x128 .bf16) (w : Vec F S128x256 .bf16) (b : Vec F S1x256 .f32) (g kf : FVec F S256x256 .f32) (qd : FVec F S256x256 .bf16) (v : Vec F S256x512 .bf16)
  (q : Vec F S256x256 .bf16) (p : FVec F S256x512 .f32) (s : Vec F S1x512x256 .f32) (vc : Vec F S64x512 .bf16)

theorem fold_cum0 : k0_pay14 tri (k0_pay10 a w b) (k0_pay12 a w b) (k0_pay13 a w b) = cum a w b := rfl
theorem fold_cum1 : k0_pay15 tri (k0_pay8 a) w b = cum a w b := rfl
theorem fold_cum2 : k0_pay17 tri (k0_pay16 (k0_pay8 a) w) b = cum a w b := rfl
theorem fold_cum3 : k0_pay19 tri (k0_pay18 (k0_pay8 a) w b) = cum a w b := rfl
theorem fold_k1 : k0_pay21 q = k0_pay20 q := rfl
theorem fold_k2 : k0_pay22 q = k0_pay20 q := rfl
theorem fold_k3 : k0_pay23 q = k0_pay20 q := rfl
theorem fold_q1 : k0_pay25 g q = k0_pay24 g q := rfl
theorem fold_q : truncf .bf16 (mulf (mulf (extf .f32 (shapeCast S256x256 q shapeCasts_S256x256_S256x256) bitsLt_bf16_f32)
    (broadcast S256x256 (FloatOps.ofBits .f32 1031798784#32))) (exp2 g)) bitsLt_bf16_f32 = k0_pay24 g q := rfl
theorem fold_intra : matmul dot_S256x256_S256x512_S256x512_1_0_0_1_n_n none (truncf .bf16 (select mask (matmul dot_S256x256_S256x256_S256x256_1_1_0_0_n_n none qd
      (truncf .bf16 (mulf kf (exp2 (subf (broadcast S256x256 (FloatOps.ofBits .f32 0#32)) g))) bitsLt_bf16_f32) (constant S256x256 .f32 0#32))
      (broadcast S256x256 (FloatOps.ofBits .f32 0#32))) bitsLt_bf16_f32) (shapeCast S256x512 v shapeCasts_S256x512_S256x512) (constant S256x512 .f32 0#32) = intra g kf qd v := rfl
theorem fold_st (o e : ℕ) (ho : S256x256.Slices ![o, 0] S64x256) (he : S256x256.Slices ![e, 0] S1x256) : shapeCast S1x512x256 (addf
    (mulf (shapeCast S512x256 s shapeCasts_S1x512x256_S512x256) (broadcastTo S512x256 (exp2 (extractStridedSlice S1x256 ![e, 0] g he)) broadcasts_S1x256_S512x256))
    (matmul dot_S64x512_S64x256_S512x256_0_0_1_1_n_n none (shapeCast S64x512 vc shapeCasts_S64x512_S64x512)
      (truncf .bf16 (mulf (extractStridedSlice S64x256 ![o, 0] kf ho)
        (exp2 (subf (broadcastTo S64x256 (extractStridedSlice S1x256 ![e, 0] g he) broadcasts_S1x256_S64x256) (extractStridedSlice S64x256 ![o, 0] g ho)))) bitsLt_bf16_f32)
      (constant S512x256 .f32 0#32))) shapeCasts_S512x256_S1x512x256 = stStep o e ho he g kf vc s := rfl
theorem fold_o (o : ℕ) (ho : S256x256.Slices ![o, 0] S64x256) (hi : S256x512.Slices ![o, 0] S64x512) : addf (extractStridedSlice S64x512 ![o, 0] p hi)
    (matmul dot_S64x256_S512x256_S64x512_1_1_0_0_n_n none (extractStridedSlice S64x256 ![o, 0] qd ho)
      (truncf .bf16 (shapeCast S512x256 s shapeCasts_S1x512x256_S512x256) bitsLt_bf16_f32) (constant S64x512 .f32 0#32)) = oChunk o ho hi qd p s := rfl
end

variable (x0 x1 : Vec F S256x1024 .bf16) (x2 x3 : Vec F S256x2048 .bf16) (x4 : Vec F S256x128 .bf16) (x5 : Vec F S128x1024 .bf16) (x6 : Vec F S1x1024 .f32)
  (x7 : Vec F S1x512 .f32) (st : Vec F S4x512x256 .f32)

/-- Head `h` of a point's blocks `x0 …` and found state `st`: its cumulative log-decays, its state after `n` chunks, its output block. -/
def cumH : Fin 4 → FVec F S256x256 .f32
  | 0 => cum x4 (gw x5 0 (by decide)) (gb x6 0 (by decide))
  | 1 => cum x4 (gw x5 256 (by decide)) (gb x6 256 (by decide))
  | 2 => cum x4 (gw x5 512 (by decide)) (gb x6 512 (by decide))
  | 3 => cum x4 (gw x5 768 (by decide)) (gb x6 768 (by decide))
def kH : Fin 4 → FVec F S256x256 .f32
  | 0 => k0_pay20 (sq x1 0 (by decide))
  | 1 => k0_pay20 (sq x1 256 (by decide))
  | 2 => k0_pay20 (sq x1 512 (by decide))
  | 3 => k0_pay20 (sq x1 768 (by decide))
def qH : Fin 4 → FVec F S256x256 .bf16
  | 0 => k0_pay24 (cumH x4 x5 x6 0) (sq x0 0 (by decide))
  | 1 => k0_pay24 (cumH x4 x5 x6 1) (sq x0 256 (by decide))
  | 2 => k0_pay24 (cumH x4 x5 x6 2) (sq x0 512 (by decide))
  | 3 => k0_pay24 (cumH x4 x5 x6 3) (sq x0 768 (by decide))
def stH : Fin 4 → ℕ → Vec F S1x512x256 .f32
  | 0 => stAfter (cumH x4 x5 x6 0) (kH x1 0) (rw64 x2 0 0 (by decide)) (rw64 x2 64 0 (by decide)) (rw64 x2 128 0 (by decide)) (rw64 x2 192 0 (by decide)) (sth st 0 (by decide))
  | 1 => stAfter (cumH x4 x5 x6 1) (kH x1 1) (rw64 x2 0 512 (by decide)) (rw64 x2 64 512 (by decide)) (rw64 x2 128 512 (by decide)) (rw64 x2 192 512 (by decide)) (sth st 1 (by decide))
  | 2 => stAfter (cumH x4 x5 x6 2) (kH x1 2) (rw64 x2 0 1024 (by decide)) (rw64 x2 64 1024 (by decide)) (rw64 x2 128 1024 (by decide)) (rw64 x2 192 1024 (by decide)) (sth st 2 (by decide))
  | 3 => stAfter (cumH x4 x5 x6 3) (kH x1 3) (rw64 x2 0 1536 (by decide)) (rw64 x2 64 1536 (by decide)) (rw64 x2 128 1536 (by decide)) (rw64 x2 192 1536 (by decide)) (sth st 3 (by decide))

/-- The stores of a point that found the state at `st`: into the state's buffer (the last of each head's, over earlier stores `L`), and into the output block. -/
def stOut (L : List (View.Piece (Elt F) S4x512x256 .f32)) : Vec F S4x512x256 .f32 :=
  View.canon (⟨Rect.unit ![3, 0, 0] S1x512x256.size (by decide), stH x1 x2 x4 x5 x6 st 3 4⟩ :: ⟨Rect.unit ![2, 0, 0] S1x512x256.size (by decide), stH x1 x2 x4 x5 x6 st 2 4⟩ ::
    ⟨Rect.unit ![1, 0, 0] S1x512x256.size (by decide), stH x1 x2 x4 x5 x6 st 1 4⟩ :: ⟨Rect.unit ![0, 0, 0] S1x512x256.size (by decide), stH x1 x2 x4 x5 x6 st 0 4⟩ :: L)
def outH : Fin 4 → FVec F S256x512 .bf16
  | 0 => outHead (cumH x4 x5 x6 0) (kH x1 0) (qH x0 x4 x5 x6 0) (wd x2 0 (by decide)) (rw64 x2 0 0 (by decide)) (rw64 x2 64 0 (by decide)) (rw64 x2 128 0 (by decide))
      (rw64 x2 192 0 (by decide)) (sth st 0 (by decide)) x7 (wd x3 0 (by decide))
  | 1 => outHead (cumH x4 x5 x6 1) (kH x1 1) (qH x0 x4 x5 x6 1) (wd x2 512 (by decide)) (rw64 x2 0 512 (by decide)) (rw64 x2 64 512 (by decide)) (rw64 x2 128 512 (by decide))
      (rw64 x2 192 512 (by decide)) (sth st 1 (by decide)) x7 (wd x3 512 (by decide))
  | 2 => outHead (cumH x4 x5 x6 2) (kH x1 2) (qH x0 x4 x5 x6 2) (wd x2 1024 (by decide)) (rw64 x2 0 1024 (by decide)) (rw64 x2 64 1024 (by decide)) (rw64 x2 128 1024 (by decide))
      (rw64 x2 192 1024 (by decide)) (sth st 2 (by decide)) x7 (wd x3 1024 (by decide))
  | 3 => outHead (cumH x4 x5 x6 3) (kH x1 3) (qH x0 x4 x5 x6 3) (wd x2 1536 (by decide)) (rw64 x2 0 1536 (by decide)) (rw64 x2 64 1536 (by decide)) (rw64 x2 128 1536 (by decide))
      (rw64 x2 192 1536 (by decide)) (sth st 3 (by decide)) x7 (wd x3 1536 (by decide))
def blkOut : Vec F S256x2048 .bf16 :=
  View.canon [⟨Rect.unit ![0, 1536] S256x512.size (by decide), outH x0 x1 x2 x3 x4 x5 x6 x7 st 3⟩, ⟨Rect.unit ![0, 1024] S256x512.size (by decide), outH x0 x1 x2 x3 x4 x5 x6 x7 st 2⟩,
    ⟨Rect.unit ![0, 512] S256x512.size (by decide), outH x0 x1 x2 x3 x4 x5 x6 x7 st 1⟩, ⟨Rect.unit ![0, 0] S256x512.size (by decide), outH x0 x1 x2 x3 x4 x5 x6 x7 st 0⟩]

/-- Equal arguments to a function of four. -/
theorem congr4 {α β : Sort*} (f : α → α → α → α → β) {a b c d a' b' c' d' : α} (ha : a = a') (hb : b = b') (hc : c = c') (hd : d = d') : f a b c d = f a' b' c' d' := by
  subst ha hb hc hd; rfl

set_option maxHeartbeats 1000000 in
/-- The output block of a point that found the state at `st`: the four heads' blocks. -/
theorem body_B (c : Dev nD) (i : grid0.Coords) (arg3 harg3 arg4 harg4 arg5 harg5 arg6 harg6 arg7 harg7 arg8 harg8 arg9 harg9 arg10 harg10 arg11 harg11 arg12 harg12 hc0) :
    out0_B_8 c i arg3 harg3 arg4 harg4 arg5 harg5 arg6 harg6 arg7 harg7 arg8 harg8 arg9 harg9 arg10 harg10 arg11 harg11 arg12 harg12 hc0 x0 x1 x2 x3 x4 x5 x6 x7 st = blkOut x0 x1 x2 x3 x4 x5 x6 x7 st := by
  have hm : kernelRun0_B.sl.r = mask := rfl
  have ht : kernelRun0_B.sl.r_1 (F := F) = tri := rfl
  obtain ⟨T, hT⟩ : ∃ T, out0_B_8 c i arg3 harg3 arg4 harg4 arg5 harg5 arg6 harg6 arg7 harg7 arg8 harg8 arg9 harg9 arg10 harg10 arg11 harg11 arg12 harg12 hc0 x0 x1 x2 x3 x4 x5 x6 x7 st = T := ⟨_, rfl⟩
  rw [hT]
  frame_open at hm
  frame_open at ht
  frame_open at hT
  rw [View.read_writes_junk_eq_canon] at hT
  refine hT.symm.trans (congrArg View.canon ?_)
  clear hT
  refine congrArg₂ List.cons (congrArg (Sigma.mk _) ?_) (congrArg₂ List.cons (congrArg (Sigma.mk _) ?_) (congrArg₂ List.cons (congrArg (Sigma.mk _) ?_)
    (congrArg₂ List.cons (congrArg (Sigma.mk _) ?_) rfl)))
  all_goals
    simp (disch := decide) only [↓View.readCov_skip, View.canon_cons_unit_lit', View.ld_unit_lit', View.readCov_unit_lit',
      View.readCov_cons_unit_lit', View.readAt_eq_ld, Memref.IsWhole.read_unread, read_unread_whole, ↓View.readCov_cons_toLoadRect]
  on_goal 4 => refine congr4 (fun o0 o1 o2 o3 => k0_pay116 o0 o1 o2 o3 x7 (wd x3 0 (by decide))) ?_ ?_ ?_ ?_
  on_goal 3 => refine congr4 (fun o0 o1 o2 o3 => k0_pay116 o0 o1 o2 o3 x7 (wd x3 512 (by decide))) ?_ ?_ ?_ ?_
  on_goal 2 => refine congr4 (fun o0 o1 o2 o3 => k0_pay116 o0 o1 o2 o3 x7 (wd x3 1024 (by decide))) ?_ ?_ ?_ ?_
  on_goal 1 => refine congr4 (fun o0 o1 o2 o3 => k0_pay116 o0 o1 o2 o3 x7 (wd x3 1536 (by decide))) ?_ ?_ ?_ ?_
  all_goals
    try simp (disch := decide) only [↓View.readCov_skip, View.canon_cons_unit_lit', View.ld_unit_lit', View.readCov_unit_lit',
      View.readCov_cons_unit_lit', View.readAt_eq_ld, Memref.IsWhole.read_unread, read_unread_whole, ↓View.readCov_cons_toLoadRect]
    simp only [hm, ht, fold_cum0, fold_cum1, fold_cum2, fold_cum3, fold_k1, fold_k2, fold_k3, fold_q1, fold_q]
    simp only [fold_intra, fold_st, fold_o]
    rfl

set_option maxHeartbeats 1000000 in
/-- The output block of a sequence's first point, which clears the state. -/
theorem body_A (c : Dev nD) (i : grid0.Coords) (arg3 harg3 arg4 harg4 arg5 harg5 arg6 harg6 arg7 harg7 arg8 harg8 arg9 harg9 arg10 harg10 arg11 harg11 arg12 harg12 hc0) :
    out0_A_8 c i arg3 harg3 arg4 harg4 arg5 harg5 arg6 harg6 arg7 harg7 arg8 harg8 arg9 harg9 arg10 harg10 arg11 harg11 arg12 harg12 hc0 x0 x1 x2 x3 x4 x5 x6 x7 = blkOut x0 x1 x2 x3 x4 x5 x6 x7 k0_pay2 := by
  have hm : kernelRun0_A.sl.r = mask := rfl
  have ht : kernelRun0_A.sl.r_1 (F := F) = tri := rfl
  obtain ⟨T, hT⟩ : ∃ T, out0_A_8 c i arg3 harg3 arg4 harg4 arg5 harg5 arg6 harg6 arg7 harg7 arg8 harg8 arg9 harg9 arg10 harg10 arg11 harg11 arg12 harg12 hc0 x0 x1 x2 x3 x4 x5 x6 x7 = T := ⟨_, rfl⟩
  rw [hT]
  frame_open at hm
  frame_open at ht
  frame_open at hT
  rw [View.read_writes_junk_eq_canon] at hT
  refine hT.symm.trans (congrArg View.canon ?_)
  clear hT
  refine congrArg₂ List.cons (congrArg (Sigma.mk _) ?_) (congrArg₂ List.cons (congrArg (Sigma.mk _) ?_) (congrArg₂ List.cons (congrArg (Sigma.mk _) ?_)
    (congrArg₂ List.cons (congrArg (Sigma.mk _) ?_) rfl)))
  all_goals
    simp (disch := decide) only [↓View.readCov_skip, ↓View.readCov_fill, View.canon_cons_unit_lit', View.ld_unit_lit', View.readCov_unit_lit',
      View.readCov_cons_unit_lit', View.readAt_eq_ld, Memref.IsWhole.read_unread, read_unread_whole, ↓View.readCov_cons_toLoadRect]
  on_goal 4 => refine congr4 (fun o0 o1 o2 o3 => k0_pay116 o0 o1 o2 o3 x7 (wd x3 0 (by decide))) ?_ ?_ ?_ ?_
  on_goal 3 => refine congr4 (fun o0 o1 o2 o3 => k0_pay116 o0 o1 o2 o3 x7 (wd x3 512 (by decide))) ?_ ?_ ?_ ?_
  on_goal 2 => refine congr4 (fun o0 o1 o2 o3 => k0_pay116 o0 o1 o2 o3 x7 (wd x3 1024 (by decide))) ?_ ?_ ?_ ?_
  on_goal 1 => refine congr4 (fun o0 o1 o2 o3 => k0_pay116 o0 o1 o2 o3 x7 (wd x3 1536 (by decide))) ?_ ?_ ?_ ?_
  all_goals
    try simp (disch := decide) only [↓View.readCov_skip, ↓View.readCov_fill, View.canon_cons_unit_lit', View.ld_unit_lit', View.readCov_unit_lit',
      View.readCov_cons_unit_lit', View.readAt_eq_ld, Memref.IsWhole.read_unread, read_unread_whole, ↓View.readCov_cons_toLoadRect]
    simp only [hm, ht, fold_cum0, fold_cum1, fold_cum2, fold_cum3, fold_k1, fold_k2, fold_k3, fold_q1, fold_q]
    simp only [fold_intra, fold_st, fold_o]
    rfl

variable (m : (ℓ : Loc nD τ sig) → Buf (Elt F) ℓ)

/-- A point that is not a sequence's first goes on from the state the point before it left. -/
theorem st_B (c : Dev nD) (t : Fin cfg0.N) (h : ¬ t.val % 16 = 0) : ∃ L, (outsAt0 m c t.val t.isLt).2 =
    stOut (iblk m c 1 t) (iblk m c 2 t) (iblk m c 4 t) (iblk m c 5 t) (iblk m c 6 t) (outsAt0 m c (t.val - 1) (Nat.lt_of_le_of_lt (Nat.sub_le _ _) t.isLt)).2 L := by
  obtain ⟨T, hT⟩ : ∃ T, (outsAt0 m c t.val t.isLt).2 = T := ⟨_, rfl⟩
  rw [hT]
  rw [outsAt0_B m c t h] at hT
  dsimp only at hT
  frame_open at hT
  simp (disch := decide) only [↓View.readCov_skip, View.read_writes_junk_eq_canon, View.canon_cons_unit_lit', View.ld_unit_lit', View.readCov_unit_lit',
    View.readCov_cons_unit_lit', View.readAt_eq_ld, Memref.IsWhole.read_unread, read_unread_whole, ↓View.readCov_cons_toLoadRect] at hT
  exact ⟨_, hT.symm.trans rfl⟩

theorem out_B (c : Dev nD) (t : Fin cfg0.N) (h : ¬ t.val % 16 = 0) : (outsAt0 m c t.val t.isLt).1 =
    blkOut (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2 := by
  rw [outsAt0_B m c t h]; dsimp only; apply body_B

/-- A sequence's first point starts from a state of zeros. -/
theorem st_A (c : Dev nD) (t : Fin cfg0.N) (h : t.val % 16 = 0) : ∃ L, (outsAt0 m c t.val t.isLt).2 =
    stOut (iblk m c 1 t) (iblk m c 2 t) (iblk m c 4 t) (iblk m c 5 t) (iblk m c 6 t) k0_pay2 L := by
  obtain ⟨T, hT⟩ : ∃ T, (outsAt0 m c t.val t.isLt).2 = T := ⟨_, rfl⟩
  rw [hT]
  rw [outsAt0_A m c t h] at hT
  dsimp only at hT
  frame_open at hT
  simp (disch := decide) only [↓View.readCov_skip, ↓View.readCov_fill, View.read_writes_junk_eq_canon, View.canon_cons_unit_lit', View.ld_unit_lit', View.readCov_unit_lit',
    View.readCov_cons_unit_lit', View.readAt_eq_ld, Memref.IsWhole.read_unread, read_unread_whole, ↓View.readCov_cons_toLoadRect] at hT
  exact ⟨_, hT.symm.trans rfl⟩

theorem out_A (c : Dev nD) (t : Fin cfg0.N) (h : t.val % 16 = 0) : (outsAt0 m c t.val t.isLt).1 =
    blkOut (iblk m c 0 t) (iblk m c 1 t) (iblk m c 2 t) (iblk m c 3 t) (iblk m c 4 t) (iblk m c 5 t) (iblk m c 6 t) (iblk m c 7 t) k0_pay2 := by
  rw [outsAt0_A m c t h]; dsimp only; apply body_A

end Cert.KernelIdeal.Model
-- ==== Proof.Spec.lean ====
/-
  THE GATED RECURRENCE, WRITTEN OUT. One sequence's queries, keys, values, gate pre-activations and output gates are functions of a row and a lane; here
  are the decays, the states and the outputs they give, chunk by chunk of 64 rows, and the few laws of the extended reals both programs' forms of them need.
-/
module

public import Idealize.ShloMosaic.PureOps.Ideal
public import Idealize.ShloMosaic.Lib.Pointwise

@[expose] public section

noncomputable section

namespace Cert.Gla

open Idealize.ShloMosaic

/-! ## Laws of the extended reals -/

/-- A sum times a real that is not negative is the sum of the products. -/
theorem sum_mul_real {n : ℕ} (c : ℝ) (hc : 0 ≤ c) (f : Fin n → EReal) : (∑ s, f s) * (c : EReal) = ∑ s, f s * (c : EReal) := by
  have h : ∀ a b : EReal, (a + b) * (c : EReal) = a * c + b * c := fun a b =>
    EReal.right_distrib_of_nonneg_of_ne_top (by exact_mod_cast hc) (EReal.coe_ne_top c) a b
  induction n with
  | zero => simp
  | succ n ih => rw [Fin.sum_univ_succ, Fin.sum_univ_succ, h, ih]

theorem sub_self_real {x : EReal} (h : x ≠ ⊤) (h' : x ≠ ⊥) : x - x = 0 := by
  induction x with
  | bot => exact absurd rfl h'
  | top => exact absurd rfl h
  | coe r => rw [← EReal.coe_sub, sub_self, EReal.coe_zero]

/-- A sum with what is left of its terms after taking each away from itself, once and twice: an extended real is not always zero then, but the sum is
    the same (where a term is `⊥`, all of it is). -/
theorem split_sum {n : ℕ} (p : Fin n → Prop) [DecidablePred p] (x : Fin n → EReal) (hx : ∀ s, x s ≠ ⊤) :
    (∑ s, if p s then x s else 0) + (∑ s, if p s then x s - x s else 0) + (∑ s, if p s then x s - x s - (x s - x s) else 0)
      = ∑ s, if p s then x s else 0 := by
  by_cases h : ∃ s, p s ∧ x s = ⊥
  · obtain ⟨s, hp, hs⟩ := h
    rw [← Finset.add_sum_erase _ _ (Finset.mem_univ s), if_pos hp, hs]
    simp only [EReal.bot_add]
  · have hz : ∀ s, p s → x s - x s = 0 := fun s hp => sub_self_real (hx s) fun hb => h ⟨s, hp, hb⟩
    rw [Finset.sum_eq_zero (f := fun s => if p s then x s - x s else 0), Finset.sum_eq_zero (f := fun s => if p s then x s - x s - (x s - x s) else 0), add_zero, add_zero]
    · intro s _; split
      · next hp => rw [hz s hp, sub_zero]
      · rfl
    · intro s _; split
      · next hp => exact hz s hp
      · rfl

/-- Of a block of 256 rows, the rows of `i`'s chunk up to `i`. -/
theorem sum_chunk (i : Fin 256) (f : ℕ → EReal) :
    (∑ x : Fin 256, if i.val / 64 = x.val / 64 ∧ x.val ≤ i.val then f x.val else 0) = ∑ s : Fin 64, if s.val ≤ i.val % 64 then f (64 * (i.val / 64) + s.val) else 0 := by
  have hi := i.isLt
  rw [Fin.sum_univ_tiles 4 64 rfl, Finset.sum_eq_single (⟨i.val / 64, by omega⟩ : Fin 4)]
  · refine Finset.sum_congr rfl fun s _ => ?_
    have hs := s.isLt
    dsimp only
    by_cases h : s.val ≤ i.val % 64
    · rw [if_pos h, if_pos ⟨by omega, by omega⟩, Nat.mul_comm]
    · rw [if_neg h, if_neg (by omega)]
  · intro b _ hb
    refine Finset.sum_eq_zero fun s _ => ?_
    have hs := s.isLt
    rw [if_neg]
    rintro ⟨h, -⟩
    exact hb (Fin.ext (by simp only at h ⊢; omega))
  · intro h; exact absurd (Finset.mem_univ _) h

/-! ## The logarithm of the sigmoid -/

theorem coe_max (r s : ℝ) : ((max r s : ℝ) : EReal) = max (r : EReal) s := EReal.coe_strictMono.monotone.map_max
theorem coe_min (r s : ℝ) : ((min r s : ℝ) : EReal) = min (r : EReal) s := EReal.coe_strictMono.monotone.map_min

/-- `log (sigmoid z)`. -/
def lsg (z : EReal) : EReal := min z 0 - Ideal.log (1 + Ideal.exp (0 - max z (-z)))

theorem lsg_bot : lsg ⊥ = ⊥ := by
  simp [lsg, EReal.bot_sub]
theorem lsg_top : lsg ⊤ = 0 := by
  have h : Ideal.log 1 = 0 := by
    have : (1 : EReal) = ((1 : ℝ) : EReal) := rfl
    rw [this, Ideal.log_coe]; simp
  simp [lsg, h]

theorem lsg_coe (r : ℝ) : lsg r = ((min r 0 - Real.log (1 + Real.exp (-max r (-r))) : ℝ) : EReal) := by
  have hp : ¬ (1 + Real.exp (-max r (-r)) ≤ 0) := not_le.mpr (by positivity)
  unfold lsg
  rw [zero_sub, ← EReal.coe_neg, ← coe_max, ← EReal.coe_neg, Ideal.exp_coe, ← EReal.coe_one, ← EReal.coe_add, Ideal.log_coe, if_neg hp, ← EReal.coe_zero, ← coe_min, ← EReal.coe_sub]

theorem lsg_ne_top (z : EReal) : lsg z ≠ ⊤ := by
  induction z with
  | bot => rw [lsg_bot]; exact bot_ne_top
  | top => rw [lsg_top]; exact EReal.zero_ne_top
  | coe r => rw [lsg_coe]; exact EReal.coe_ne_top _

/-- The same, as minus the softplus of `-z`. -/
theorem lsg_softplus (z : EReal) : -(max (-z) 0 + Ideal.log1p (Ideal.exp (-(max (-z - 0) (-(-z - 0)))))) = lsg z := by
  have h1 : Ideal.log 1 = 0 := by
    have : (1 : EReal) = ((1 : ℝ) : EReal) := rfl
    rw [this, Ideal.log_coe]; simp
  induction z with
  | bot => rw [lsg_bot]; simp [Ideal.log1p, h1]
  | top => rw [lsg_top]; simp [Ideal.log1p, h1]
  | coe r =>
    have hp : ¬ (1 + Real.exp (-max (-r) r) ≤ 0) := not_le.mpr (by positivity)
    rw [lsg_coe, sub_zero, neg_neg, Ideal.log1p, ← EReal.coe_neg, ← coe_max, ← EReal.coe_neg, Ideal.exp_coe, ← EReal.coe_one, ← EReal.coe_add, Ideal.log_coe, if_neg hp,
      ← EReal.coe_zero, ← coe_max, ← EReal.coe_add, ← EReal.coe_neg, max_comm (-r) r]
    congr 1
    rcases le_total r 0 with h | h
    · rw [max_eq_left (by linarith : (0:ℝ) ≤ -r), min_eq_left h]; ring
    · rw [max_eq_right (by linarith : -r ≤ 0), min_eq_right h]; ring

/-! ## Powers of two -/

/-- Logarithms to base two times this are natural ones. -/
abbrev l2 : EReal := (((Real.log 2)⁻¹ : ℝ) : EReal)

theorem l2_pos : 0 < (Real.log 2)⁻¹ := inv_pos.mpr (Real.log_pos one_lt_two)

theorem exp2_l2 (x : EReal) : Ideal.exp2 (x * l2) = Ideal.exp x := by
  induction x with
  | bot => rw [EReal.bot_mul_coe_of_pos l2_pos]; rfl
  | top => rw [EReal.top_mul_coe_of_pos l2_pos]; rfl
  | coe r =>
    rw [← EReal.coe_mul, Ideal.exp2_coe, Ideal.exp_coe]
    congr 1
    show (2 : ℝ) ^ (r * (Real.log 2)⁻¹) = _
    rw [Real.rpow_def_of_pos two_pos]
    congr 1
    field_simp

theorem exp2_neg_l2 (x : EReal) : Ideal.exp2 (0 - x * l2) = Ideal.exp (-x) := by
  rw [zero_sub, ← EReal.neg_mul, exp2_l2]

theorem exp2_sub_l2 (x y : EReal) : Ideal.exp2 (x * l2 - y * l2) = Ideal.exp (x - y) := by
  rw [sub_eq_add_neg, ← EReal.neg_mul, ← EReal.right_distrib_of_nonneg_of_ne_top (by exact_mod_cast l2_pos.le) (EReal.coe_ne_top _), exp2_l2, sub_eq_add_neg]

/-! ## The recurrence of one sequence -/

/-- One row's log-decay. -/
def lg (z : EReal) : EReal := lsg z * ((1 / 16 : ℝ) : EReal)

variable (Q K V Z R : ℕ → ℕ → EReal) (HN : ℕ → EReal)

/-- The log-decay from the start of chunk `n` to its row `t`, lane `j`. -/
def cum (n t j : ℕ) : EReal := ∑ s : Fin 64, if s.val ≤ t then lg (Z (64 * n + s.val) j) else 0
/-- The query decayed, the key's decay undone, and the key decayed to its chunk's end. -/
def qd (n t j : ℕ) : EReal := Q (64 * n + t) j * Ideal.ofBits .f32 0x3D800000#32 * Ideal.exp (cum Z n t j)
def ki (n t j : ℕ) : EReal := K (64 * n + t) j * Ideal.exp (-cum Z n t j)
def ke (n t j : ℕ) : EReal := K (64 * n + t) j * Ideal.exp (cum Z n 63 j - cum Z n t j)
/-- Head `h`'s state before chunk `n`, key lane `k`, value lane `a`. -/
def S (h : ℕ) : ℕ → ℕ → ℕ → EReal
  | 0, _, _ => 0
  | n + 1, k, a => S h n k a * Ideal.exp (cum Z n 63 (256 * h + k)) + ∑ s : Fin 64, ke K Z n s.val (256 * h + k) * V (64 * n + s.val) (512 * h + a)
/-- Head `h`'s output at chunk `n`, row `t`, lane `a`: inside the chunk, and through the state. -/
def o (h n t a : ℕ) : EReal :=
  (∑ s : Fin 64, if s.val ≤ t then (∑ k : Fin 256, qd Q Z n t (256 * h + k.val) * ki K Z n s.val (256 * h + k.val)) * V (64 * n + s.val) (512 * h + a) else 0)
    + ∑ k : Fin 256, qd Q Z n t (256 * h + k.val) * S K V Z h n k.val a
/-- … normalised over the head's lanes and gated. -/
def out (h n t a : ℕ) : EReal :=
  o Q K V Z h n t a * Ideal.rsqrt (Ideal.div (∑ b : Fin 512, o Q K V Z h n t b.val * o Q K V Z h n t b.val) (Ideal.ofBits .f32 0x44000000#32) + Ideal.ofBits .f32 0x358637BD#32) * HN a
    * (R (64 * n + t) (512 * h + a) * Ideal.div 1 (1 + Ideal.exp (-R (64 * n + t) (512 * h + a))))

/-! ## The streams of a call's arguments -/

/-- An array's entries at natural indices, zero outside it. -/
def at1 {a : ℕ} (f : Fin a → EReal) (i : ℕ) : EReal := if h : i < a then f ⟨i, h⟩ else 0
def at2 {a b : ℕ} (f : Fin a → Fin b → EReal) (i j : ℕ) : EReal := if h : i < a then at1 (f ⟨i, h⟩) j else 0
def at3 {a b c : ℕ} (f : Fin a → Fin b → Fin c → EReal) (i j k : ℕ) : EReal := if h : i < a then at2 (f ⟨i, h⟩) j k else 0

theorem at1_eq {a : ℕ} (f : Fin a → EReal) (i : Fin a) (n : ℕ) (h : n = i.val) : at1 f n = f i := by subst h; exact dif_pos i.isLt
theorem at2_eq {a b : ℕ} (f : Fin a → Fin b → EReal) (i : Fin a) (j : Fin b) (n k : ℕ) (h : n = i.val) (h' : k = j.val) : at2 f n k = f i j := by
  subst h; rw [at2, dif_pos i.isLt]; exact at1_eq _ j k h'
theorem at3_eq {a b c : ℕ} (f : Fin a → Fin b → Fin c → EReal) (i : Fin a) (j : Fin b) (k : Fin c) (n l p : ℕ) (h : n = i.val) (h' : l = j.val) (h'' : p = k.val) :
    at3 f n l p = f i j k := by
  subst h; rw [at3, dif_pos i.isLt]; exact at2_eq _ j k l p h' h''

section
variable (A : Fin 2 → Fin 4096 → Fin 6160 → EReal) (W : Fin 16 → Fin 1024 → EReal) (B : Fin 1024 → EReal) (N : Fin 512 → EReal) (b : ℕ)
/-- Sequence `b`'s queries, keys, values, gate rows and decay pre-activations, by row and lane. -/
def Qs (r j : ℕ) : EReal := at3 A b r j
def Ks (r j : ℕ) : EReal := at3 A b r (1024 + j)
def Vs (r j : ℕ) : EReal := at3 A b r (2048 + j)
def Rs (r j : ℕ) : EReal := at3 A b r (4096 + j)
def Zs (r j : ℕ) : EReal := (∑ l : Fin 16, at3 A b r (6144 + l.val) * at2 W l.val j) + at1 B j
/-- The call's result at row `n` of the two sequences laid end to end and lane `l` of the four heads side by side. -/
def res (n l : ℕ) : EReal :=
  out (Qs A (n / 4096)) (Ks A (n / 4096)) (Vs A (n / 4096)) (Zs A W B (n / 4096)) (Rs A (n / 4096)) (at1 N) (l / 512) (n % 4096 / 64) (n % 64) (l % 512)
end

end Cert.Gla

end
-- ==== Proof.Point.lean ====
/-
  THE KERNEL'S BODY AT AN INDEX. Each of the words the body is read as, at one row and lane, over the extended reals.
-/
module

public import proofs.«01_k».proof.Proof.Model
public import proofs.«01_k».proof.Proof.Spec

@[expose] public section

set_option maxRecDepth 16384

noncomputable section

namespace Cert.KernelIdeal.Point

open Cert.KernelIdeal Cert.KernelIdeal.Gen Cert.KernelIdeal.Model Idealize.ShloMosaic Idealize.ShloMosaic.TcCoe Idealize.SL.Sem

theorem andi_and (p q : Prop) [Decidable p] [Decidable q] : IntOp.andi (if p then 1#1 else 0#1) (if q then 1#1 else 0#1) = if p ∧ q then 1#1 else 0#1 := by
  by_cases p <;> by_cases q <;> simp [*] <;> rfl

theorem toInt_small : ∀ a : Fin 256, (BitVec.ofNat 32 a.val).toInt = a.val := by decide

theorem chunkOf_rows (i j : Fin 256) : chunkOf rows (ix2 i j) = BitVec.ofNat 32 (i.val / 64) := by
  pointwise [chunkOf, rows]; revert i; decide
theorem chunkOf_lanes (i j : Fin 256) : chunkOf lanes (ix2 i j) = BitVec.ofNat 32 (j.val / 64) := by
  pointwise [chunkOf, lanes]; revert j; decide

/-- The mask holds where the lane's row is in the row's chunk and not after it. -/
theorem mask_at (i j : Fin 256) : mask (ix2 i j) = if i.val / 64 = j.val / 64 ∧ j.val ≤ i.val then 1#1 else 0#1 := by
  have e1 : ∀ a b : Fin 256, IntOp.cmpi .eq (BitVec.ofNat 32 (a.val / 64)) (BitVec.ofNat 32 (b.val / 64)) = if a.val / 64 = b.val / 64 then 1#1 else 0#1 := by
    intro a b
    have ha := a.isLt; have hb := b.isLt
    by_cases h : a.val / 64 = b.val / 64
    · rw [if_pos h, h]; simp [IntOp.cmpi]
    · rw [if_neg h]
      have : BitVec.ofNat 32 (a.val / 64) ≠ BitVec.ofNat 32 (b.val / 64) := by
        intro q; apply h; have := congrArg BitVec.toNat q; simp only [BitVec.toNat_ofNat] at this; omega
      simp only [IntOp.cmpi, beq_eq_false_iff_ne.mpr this]; rfl
  have e2 : ∀ a b : Fin 256, IntOp.cmpi .sle (BitVec.ofNat 32 a.val) (BitVec.ofNat 32 b.val) = if a.val ≤ b.val then 1#1 else 0#1 := by
    intro a b
    by_cases h : a.val ≤ b.val
    · rw [if_pos h]; simp only [IntOp.cmpi, BitVec.sle, toInt_small]; rw [decide_eq_true (by exact_mod_cast h)]; rfl
    · rw [if_neg h]; simp only [IntOp.cmpi, BitVec.sle, toInt_small]; rw [decide_eq_false (by exact_mod_cast h)]; rfl
  unfold mask
  pointwise []
  rw [chunkOf_rows, chunkOf_lanes]
  pointwise [lanes, rows]
  rw [e1, e2, andi_and]

theorem sel_at (i j : Fin 256) (x y : EReal) : Scalar.select (mask (ix2 i j)) x y = if i.val / 64 = j.val / 64 ∧ j.val ≤ i.val then x else y := by
  rw [mask_at]; split <;> rfl

/-- A row's gate pre-activation in the kernel's block. -/
def zz (a : Vec Ideal S256x128 .bf16) (w : Vec Ideal S128x256 .bf16) (b : Vec Ideal S1x256 .f32) (i j : Fin 256) : EReal :=
  (∑ l : Fin 128, a (ix2 i l) * w (ix2 l j)) + b (ix2 0 j)

/-- The cumulative log-decays, to base two. -/
theorem cum_at (Z : ℕ → ℕ → EReal) (nb h : ℕ) (a : Vec Ideal S256x128 .bf16) (w : Vec Ideal S128x256 .bf16) (b : Vec Ideal S1x256 .f32)
    (hz : ∀ i j : Fin 256, zz a w b i j = Z (64 * nb + i.val) (256 * h + j.val)) (i j : Fin 256) :
    Model.cum a w b (ix2 i j) = Gla.cum Z (nb + i.val / 64) (i.val % 64) (256 * h + j.val) * Gla.l2 := by
  have hz' : ∀ x : Fin 256, ((min (∑ x_1 : Fin 128, a (ix2 x x_1) * w (ix2 x_1 j) + b (ix2 0 j)) 0 -
      Ideal.log (1 + Ideal.exp (0 - max (∑ x_1 : Fin 128, a (ix2 x x_1) * w (ix2 x_1 j) + b (ix2 0 j)) (-(∑ x_1 : Fin 128, a (ix2 x x_1) * w (ix2 x_1 j) + b (ix2 0 j)))))) *
      (((Real.log 2)⁻¹ * 16⁻¹ : ℝ) : EReal)) = Gla.lg (Z (64 * nb + x.val) (256 * h + j.val)) * Gla.l2 := by
    intro x
    rw [← hz x j]
    show Gla.lsg (zz a w b x j) * _ = _
    rw [Gla.lg, mul_assoc, ← EReal.coe_mul]
    congr 2
    ring
  have hn : Named.named (F := Ideal) κ (φ := .f32) "log2e_16" 1035512379#32 = (((Real.log 2)⁻¹ * 16⁻¹ : ℝ) : EReal) := rfl
  have ha : ∀ x : EReal, FloatOps.absf (F := Ideal) (φ := .f32) x = max x (-x) := fun _ => rfl
  pointwise [Model.cum, k0_pay14, k0_pay10, k0_pay12, k0_pay13, k0_pay11, k0_pay9, k0_pay8, tri]
  simp only [sel_at, hn, ha, hz']
  have hb : ∀ z : EReal, Gla.lg z * Gla.l2 ≠ ⊤ := by
    intro z
    have : Gla.lsg z ≠ ⊤ := Gla.lsg_ne_top z
    unfold Gla.lg
    generalize Gla.lsg z = y at this
    induction y with
    | bot => rw [EReal.bot_mul_coe_of_pos (by norm_num), EReal.bot_mul_coe_of_pos Gla.l2_pos]; exact bot_ne_top
    | top => exact absurd rfl this
    | coe r => rw [← EReal.coe_mul, ← EReal.coe_mul]; exact EReal.coe_ne_top _
  rw [Gla.split_sum (fun x : Fin 256 => i.val / 64 = x.val / 64 ∧ x.val ≤ i.val) (fun x => Gla.lg (Z (64 * nb + x.val) (256 * h + j.val)) * Gla.l2) (fun _ => hb _)]
  rw [Gla.sum_chunk i (fun x => Gla.lg (Z (64 * nb + x) (256 * h + j.val)) * Gla.l2), Gla.cum, Gla.sum_mul_real _ Gla.l2_pos.le]
  refine Finset.sum_congr rfl fun s _ => ?_
  rw [Nat.mul_add, Nat.add_assoc]
  split
  · rfl
  · rw [zero_mul]

/-! ## One head -/

section
variable (Q K V Z R : ℕ → ℕ → EReal) (HN : ℕ → EReal) (nb h : ℕ)
  (g kf : FVec Ideal S256x256 .f32) (q : Vec Ideal S256x256 .bf16) (v : Vec Ideal S256x512 .bf16) (v0 v1 v2 v3 : Vec Ideal S64x512 .bf16) (st : Vec Ideal S1x512x256 .f32)
  (hn : Vec Ideal S1x512 .f32) (r : Vec Ideal S256x512 .bf16)
  (hg : ∀ i j : Fin 256, g (ix2 i j) = Gla.cum Z (nb + i.val / 64) (i.val % 64) (256 * h + j.val) * Gla.l2)
  (hk : ∀ i j : Fin 256, kf (ix2 i j) = K (64 * nb + i.val) (256 * h + j.val))
  (hq : ∀ i j : Fin 256, q (ix2 i j) = Q (64 * nb + i.val) (256 * h + j.val))
  (hv : ∀ (i : Fin 256) (a : Fin 512), v (ix2 i a) = V (64 * nb + i.val) (512 * h + a.val))
  (hr : ∀ (i : Fin 256) (a : Fin 512), r (ix2 i a) = R (64 * nb + i.val) (512 * h + a.val))
  (hh : ∀ a : Fin 512, hn (ix2 0 a) = HN a.val)

include hg hk in
/-- A chunk's step takes the head's state to the one before the next chunk. -/
theorem step_at (c : ℕ) (hc : c < 4) (vc : Vec Ideal S64x512 .bf16) (ho : S256x256.Slices ![64 * c, 0] S64x256) (he : S256x256.Slices ![64 * c + 63, 0] S1x256)
    (hvc : ∀ (s : Fin 64) (a : Fin 512), vc (ix2 s a) = V (64 * nb + 64 * c + s.val) (512 * h + a.val))
    (s : Vec Ideal S1x512x256 .f32) (hs : ∀ (a : Fin 512) (k : Fin 256), s (ix3 0 a k) = Gla.S K V Z h (nb + c) k.val a.val) (a : Fin 512) (k : Fin 256) :
    stStep (64 * c) (64 * c + 63) ho he g kf vc s (ix3 0 a k) = Gla.S K V Z h (nb + c + 1) k.val a.val := by
  have e2 : ∀ x : EReal, FloatOps.exp2 (F := Ideal) (φ := .f32) x = Ideal.exp2 x := fun _ => rfl
  pointwise [stStep]
  simp only [e2, hg, hk, hs, hvc]
  rw [Gla.S]
  have hd : (64 * c + 63) / 64 = c := by omega
  have hm : (64 * c + 63) % 64 = 63 := by omega
  simp only [hd, hm, Gla.exp2_l2]
  congr 1
  refine Finset.sum_congr rfl fun x _ => ?_
  have hx := x.isLt
  have hd' : (64 * c + x.val) / 64 = c := by omega
  have hm' : (64 * c + x.val) % 64 = x.val := by omega
  rw [hd', hm', Gla.exp2_sub_l2, Gla.ke, mul_comm, Nat.mul_add, Nat.add_assoc]

include hg hk in
theorem stAfter_at (hst : ∀ (a : Fin 512) (k : Fin 256), st (ix3 0 a k) = Gla.S K V Z h nb k.val a.val)
    (h0 : ∀ (s : Fin 64) (a : Fin 512), v0 (ix2 s a) = V (64 * nb + s.val) (512 * h + a.val))
    (h1 : ∀ (s : Fin 64) (a : Fin 512), v1 (ix2 s a) = V (64 * nb + 64 + s.val) (512 * h + a.val))
    (h2 : ∀ (s : Fin 64) (a : Fin 512), v2 (ix2 s a) = V (64 * nb + 128 + s.val) (512 * h + a.val))
    (h3 : ∀ (s : Fin 64) (a : Fin 512), v3 (ix2 s a) = V (64 * nb + 192 + s.val) (512 * h + a.val)) :
    ∀ n ≤ 4, ∀ (a : Fin 512) (k : Fin 256), stAfter g kf v0 v1 v2 v3 st n (ix3 0 a k) = Gla.S K V Z h (nb + n) k.val a.val := by
  intro n
  induction n with
  | zero => intro _ a k; exact hst a k
  | succ n ih =>
    intro hn4 a k
    have ih := ih (by omega)
    unfold stAfter
    match n, ih, hn4 with
    | 0, ih, _ => exact step_at K V Z nb h g kf hg hk 0 (by omega) v0 _ _ h0 _ ih a k
    | 1, ih, _ => exact step_at K V Z nb h g kf hg hk 1 (by omega) v1 _ _ h1 _ ih a k
    | 2, ih, _ => exact step_at K V Z nb h g kf hg hk 2 (by omega) v2 _ _ h2 _ ih a k
    | 3, ih, _ => exact step_at K V Z nb h g kf hg hk 3 (by omega) v3 _ _ h3 _ ih a k

include hg hk hq hv in
/-- A row's output before the normalisation: inside the chunk and through the state. -/
theorem o_at (c : ℕ) (hc : c < 4) (ho : S256x256.Slices ![64 * c, 0] S64x256) (hi : S256x512.Slices ![64 * c, 0] S64x512)
    (s : Vec Ideal S1x512x256 .f32) (hs : ∀ (a : Fin 512) (k : Fin 256), s (ix3 0 a k) = Gla.S K V Z h (nb + c) k.val a.val) (t : Fin 64) (a : Fin 512) :
    oChunk (64 * c) ho hi (k0_pay24 g q) (intra g kf (k0_pay24 g q) v) s (ix2 t a) = Gla.o Q K V Z h (nb + c) t.val a.val := by
  have e2 : ∀ x : EReal, FloatOps.exp2 (F := Ideal) (φ := .f32) x = Ideal.exp2 x := fun _ => rfl
  have ht := t.isLt
  have hd' : (64 * c + t.val) / 64 = c := by omega
  have hm' : (64 * c + t.val) % 64 = t.val := by omega
  have hqd : ∀ i k : Fin 256, k0_pay24 g q (ix2 i k) = Gla.qd Q Z (nb + i.val / 64) (i.val % 64) (256 * h + k.val) := by
    intro i k
    pointwise [k0_pay24]
    rw [e2, hg, hq, Gla.exp2_l2, Gla.qd]
    congr 3
    omega
  have hki : ∀ i k : Fin 256, kf (ix2 i k) * FloatOps.exp2 (F := Ideal) (φ := .f32) (0 - g (ix2 i k)) = Gla.ki K Z (nb + i.val / 64) (i.val % 64) (256 * h + k.val) := by
    intro i k
    rw [e2, hg, hk, Gla.exp2_neg_l2, Gla.ki]
    congr 2
    omega
  pointwise [oChunk, intra, k0_pay33, k0_pay31]
  simp only [sel_at, hqd, hki, hs, hv, hd', hm']
  rw [Gla.o]
  congr 1
  have hsum := (Gla.sum_chunk ⟨64 * c + t.val, by omega⟩ (fun x => (∑ k : Fin 256, Gla.qd Q Z (nb + c) t.val (256 * h + k.val) * Gla.ki K Z (nb + x / 64) (x % 64) (256 * h + k.val)) *
    V (64 * nb + x) (512 * h + a.val)))
  simp only [hd', hm'] at hsum
  refine hsum.trans ?_
  refine Finset.sum_congr rfl fun x _ => ?_
  have hx := x.isLt
  have hd : (64 * c + x.val) / 64 = c := by omega
  have hm : (64 * c + x.val) % 64 = x.val := by omega
  rw [hd, hm, Nat.mul_add, Nat.add_assoc]

include hr hh in
theorem gate_at (o0 o1 o2 o3 : FVec Ideal S64x512 .f32)
    (h0 : ∀ (t : Fin 64) (a : Fin 512), o0 (ix2 t a) = Gla.o Q K V Z h nb t.val a.val)
    (h1 : ∀ (t : Fin 64) (a : Fin 512), o1 (ix2 t a) = Gla.o Q K V Z h (nb + 1) t.val a.val)
    (h2 : ∀ (t : Fin 64) (a : Fin 512), o2 (ix2 t a) = Gla.o Q K V Z h (nb + 2) t.val a.val)
    (h3 : ∀ (t : Fin 64) (a : Fin 512), o3 (ix2 t a) = Gla.o Q K V Z h (nb + 3) t.val a.val) (i : Fin 256) (a : Fin 512) :
    k0_pay116 o0 o1 o2 o3 hn r (ix2 i a) = Gla.out Q K V Z R HN h (nb + i.val / 64) (i.val % 64) a.val := by
  have key : ∀ (c : ℕ) (t : Fin 64) (hc : 64 * c + t.val < 256) (oc : FVec Ideal S64x512 .f32), (∀ (t : Fin 64) (a : Fin 512), oc (ix2 t a) = Gla.o Q K V Z h (nb + c) t.val a.val) →
      oc (ix2 t a) * Ideal.rsqrt (Ideal.div (∑ x : Fin 512, oc (ix2 t x) * oc (ix2 t x)) (Ideal.ofBits FTy.f32 1140850688#32) + Ideal.ofBits FTy.f32 897988541#32) * hn (ix2 0 a) *
        (r (ix2 ⟨64 * c + t.val, hc⟩ a) * Ideal.div 1 (1 + Ideal.exp (0 - r (ix2 ⟨64 * c + t.val, hc⟩ a)))) = Gla.out Q K V Z R HN h (nb + c) t.val a.val := by
    intro c t hc oc hoc
    simp only [hoc, hr, hh, zero_sub]
    rw [Gla.out, Nat.mul_add, Nat.add_assoc]
  obtain ⟨iv, hi⟩ := i
  have hdm : iv = 64 * (iv / 64) + iv % 64 := by omega
  obtain ⟨c, hc⟩ : ∃ c, iv / 64 = c := ⟨_, rfl⟩
  obtain ⟨t, ht⟩ : ∃ t, iv % 64 = t := ⟨_, rfl⟩
  have ht' : t < 64 := by omega
  simp only [hc, ht]
  rw [hc, ht] at hdm
  subst hdm
  have hc4 : c < 4 := by omega
  match c, hc4, hi with
  | 0, _, hi =>
    refine Eq.trans ?_ (key 0 ⟨t, ht'⟩ hi o0 h0)
    simp only [Nat.mul_zero, Nat.zero_add]
    pointwise [k0_pay116]
    simp only [eq_true ht', dite_true]
  | 1, _, hi =>
    refine Eq.trans ?_ (key 1 ⟨t, ht'⟩ hi o1 h1)
    pointwise [k0_pay116]
    simp only [eq_true ht', dite_true]
  | 2, _, hi =>
    refine Eq.trans ?_ (key 2 ⟨t, ht'⟩ hi o2 h2)
    pointwise [k0_pay116]
    simp only [eq_false (by omega : ¬ 128 + t < 64), (by omega : 128 + t - 64 = 64 + t), eq_false (by omega : ¬ 64 + t < 64), Nat.add_sub_cancel_left, dite_false, eq_true ht', dite_true]
  | 3, _, hi =>
    refine Eq.trans ?_ (key 3 ⟨t, ht'⟩ hi o3 h3)
    pointwise [k0_pay116]
    simp only [eq_false (by omega : ¬ 192 + t < 64), (by omega : 192 + t - 64 = 128 + t), eq_false (by omega : ¬ 128 + t < 64), (by omega : 128 + t - 64 = 64 + t), eq_false (by omega : ¬ 64 + t < 64), Nat.add_sub_cancel_left, dite_false, eq_true ht', dite_true]

include hg hk hq hv hr hh in
/-- The head's output block. -/
theorem outHead_at (hst : ∀ (a : Fin 512) (k : Fin 256), st (ix3 0 a k) = Gla.S K V Z h nb k.val a.val)
    (h0 : ∀ (s : Fin 64) (a : Fin 512), v0 (ix2 s a) = V (64 * nb + s.val) (512 * h + a.val))
    (h1 : ∀ (s : Fin 64) (a : Fin 512), v1 (ix2 s a) = V (64 * nb + 64 + s.val) (512 * h + a.val))
    (h2 : ∀ (s : Fin 64) (a : Fin 512), v2 (ix2 s a) = V (64 * nb + 128 + s.val) (512 * h + a.val))
    (h3 : ∀ (s : Fin 64) (a : Fin 512), v3 (ix2 s a) = V (64 * nb + 192 + s.val) (512 * h + a.val)) (i : Fin 256) (a : Fin 512) :
    outHead g kf (k0_pay24 g q) v v0 v1 v2 v3 st hn r (ix2 i a) = Gla.out Q K V Z R HN h (nb + i.val / 64) (i.val % 64) a.val := by
  have hs := stAfter_at K V Z nb h g kf v0 v1 v2 v3 st hg hk hst h0 h1 h2 h3
  unfold outHead
  exact gate_at Q K V Z R HN nb h hn r hr hh _ _ _ _
    (o_at Q K V Z nb h g kf q v hg hk hq hv 0 (by omega) _ _ _ (hs 0 (by omega)))
    (o_at Q K V Z nb h g kf q v hg hk hq hv 1 (by omega) _ _ _ (hs 1 (by omega)))
    (o_at Q K V Z nb h g kf q v hg hk hq hv 2 (by omega) _ _ _ (hs 2 (by omega)))
    (o_at Q K V Z nb h g kf q v hg hk hq hv 3 (by omega) _ _ _ (hs 3 (by omega))) i a
end

end Cert.KernelIdeal.Point

end
-- ==== Proof.Host.lean ====
/-
  THE KERNEL'S BLOCKS READ OFF THE CALL'S ARGUMENTS. The host code slices the projection, and pads the decay's small product from 16 to 128 with zeros.
-/
module

public import proofs.«01_k».proof.Proof.Point
public import Idealize.ShloMosaic.Lib.StableHlo.ReadAt

@[expose] public section

set_option maxRecDepth 16384

noncomputable section

namespace Cert.KernelIdeal.Host

open Cert.KernelIdeal Cert.KernelIdeal.Gen Cert.KernelIdeal.Model Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![t.val, 1] ∧ win0_2.index t = ![t.val, 1] ∧ win0_3.index t = ![t.val, 2]
    ∧ win0_4.index t = ![t.val, 0] ∧ win0_5.index t = ![0, 0] ∧ win0_6.index t = ![0, 0] ∧ win0_7.index t = ![0, 0] ∧ win0_8.index t = ![t.val, 0] :=
  (by decide +kernel : ∀ t : Fin grid0.N, _)

/-- The argument arrays. -/
def A (c : Dev nD) (b : Fin 2) (r : Fin 4096) (j : Fin 6160) : EReal := m ((c : Thread nD τ).loc main_arg0) (ix3 b r j)
def W (c : Dev nD) (l : Fin 16) (j : Fin 1024) : EReal := m ((c : Thread nD τ).loc main_arg1) (ix3 0 l j)
def B (c : Dev nD) (j : Fin 1024) : EReal := m ((c : Thread nD τ).loc main_arg2) (ix2 0 j)
def N (c : Dev nD) (j : Fin 512) : EReal := m ((c : Thread nD τ).loc main_arg3) (ix2 0 j)

theorem v7_at (c : Dev nD) (n : Fin 8192) (j : Fin 6144) : (V m c main_v7 : Vec Ideal S8192x6144 .bf16) (ix2 n j) = Gla.at3 (A m c) (n.val / 4096) (n.val % 4096) j.val := by
  unfold V
  simp only [List.flatten_cons, List.flatten_nil, List.append_nil, List.cons_append, List.nil_append]
  after_reads_at
  exact (Gla.at3_eq (A m c) _ _ _ _ _ _ rfl rfl rfl).symm
theorem v3_at (c : Dev nD) (n : Fin 8192) (j : Fin 128) : (V m c main_v3 : Vec Ideal S8192x128 .bf16) (ix2 n j) = if j.val < 16 then Gla.at3 (A m c) (n.val / 4096) (n.val % 4096) (6144 + j.val) else 0 := by
  unfold V
  simp only [List.flatten_cons, List.flatten_nil, List.append_nil, List.cons_append, List.nil_append]
  after_reads_at
  have z : FloatOps.sitofp (F := Ideal) .bf16 (0#32 : BitVec 32) = (0 : EReal) := by show (((0#32 : BitVec 32).toInt : ℝ) : EReal) = 0; simp
  split
  · exact (Gla.at3_eq (A m c) _ _ _ _ _ _ rfl rfl rfl).symm
  · exact z
theorem v6_at (c : Dev nD) (l : Fin 128) (j : Fin 1024) : (V m c main_v6 : Vec Ideal S128x1024 .bf16) (ix2 l j) = if l.val < 16 then Gla.at2 (W m c) l.val j.val else 0 := by
  unfold V
  simp only [List.flatten_cons, List.flatten_nil, List.append_nil, List.cons_append, List.nil_append]
  after_reads_at
  have z : FloatOps.sitofp (F := Ideal) .bf16 (0#32 : BitVec 32) = (0 : EReal) := by show (((0#32 : BitVec 32).toInt : ℝ) : EReal) = 0; simp
  split
  · exact (Gla.at2_eq (W m c) _ _ _ _ rfl rfl).symm
  · exact z
theorem v10_at (c : Dev nD) (j : Fin 1024) : (V m c main_v10 : Vec Ideal S1x1024 .f32) (ix2 0 j) = Gla.at1 (B m c) j.val := by
  unfold V
  simp only [List.flatten_cons, List.flatten_nil, List.append_nil, List.cons_append, List.nil_append]
  after_reads_at
  exact (Gla.at1_eq (B m c) _ _ rfl).symm
theorem v11_at (c : Dev nD) (j : Fin 512) : (V m c main_v11 : Vec Ideal S1x512 .f32) (ix2 0 j) = Gla.at1 (N m c) j.val := by
  unfold V
  simp only [List.flatten_cons, List.flatten_nil, List.append_nil, List.cons_append, List.nil_append]
  after_reads_at
  exact (Gla.at1_eq (N m c) _ _ rfl).symm

/-! ## The blocks of a grid point: 256 rows of sequence `t / 16`, from row `64 * (4 * (t % 16))` -/

section
variable (c : Dev nD) (t : Fin cfg0.N)

theorem q_at (i : Fin 256) (j : Fin 1024) : (iblk m c 0 t : Vec Ideal S256x1024 .bf16) (ix2 i j) = Gla.Qs (A m c) (t.val / 16) (64 * (4 * (t.val % 16)) + i.val) j.val := by
  have ht : t.val < 32 := lt_of_lt_of_eq t.isLt N_0
  have e : (iblk m c 0 t : Vec Ideal S256x1024 .bf16) (ix2 i j) = (V m c main_v7 : Vec Ideal S8192x6144 .bf16) (ix2 ⟨256 * t.val + i.val, by omega⟩ ⟨j.val, by omega⟩) := by
    blk_ext [iblk, idx t]
  rw [e, v7_at, Gla.Qs]
  congr 1 <;> dsimp only <;> omega
theorem k_at (i : Fin 256) (j : Fin 1024) : (iblk m c 1 t : Vec Ideal S256x1024 .bf16) (ix2 i j) = Gla.Ks (A m c) (t.val / 16) (64 * (4 * (t.val % 16)) + i.val) j.val := by
  have ht : t.val < 32 := lt_of_lt_of_eq t.isLt N_0
  have e : (iblk m c 1 t : Vec Ideal S256x1024 .bf16) (ix2 i j) = (V m c main_v7 : Vec Ideal S8192x6144 .bf16) (ix2 ⟨256 * t.val + i.val, by omega⟩ ⟨1024 + j.val, by omega⟩) := by
    blk_ext [iblk, idx t]
  rw [e, v7_at, Gla.Ks]
  congr 1 <;> dsimp only <;> omega
theorem v_at (i : Fin 256) (j : Fin 2048) : (iblk m c 2 t : Vec Ideal S256x2048 .bf16) (ix2 i j) = Gla.Vs (A m c) (t.val / 16) (64 * (4 * (t.val % 16)) + i.val) j.val := by
  have ht : t.val < 32 := lt_of_lt_of_eq t.isLt N_0
  have e : (iblk m c 2 t : Vec Ideal S256x2048 .bf16) (ix2 i j) = (V m c main_v7 : Vec Ideal S8192x6144 .bf16) (ix2 ⟨256 * t.val + i.val, by omega⟩ ⟨2048 + j.val, by omega⟩) := by
    blk_ext [iblk, idx t]
  rw [e, v7_at, Gla.Vs]
  congr 1 <;> dsimp only <;> omega
theorem r_at (i : Fin 256) (j : Fin 2048) : (iblk m c 3 t : Vec Ideal S256x2048 .bf16) (ix2 i j) = Gla.Rs (A m c) (t.val / 16) (64 * (4 * (t.val % 16)) + i.val) j.val := by
  have ht : t.val < 32 := lt_of_lt_of_eq t.isLt N_0
  have e : (iblk m c 3 t : Vec Ideal S256x2048 .bf16) (ix2 i j) = (V m c main_v7 : Vec Ideal S8192x6144 .bf16) (ix2 ⟨256 * t.val + i.val, by omega⟩ ⟨4096 + j.val, by omega⟩) := by
    blk_ext [iblk, idx t]
  rw [e, v7_at, Gla.Rs]
  congr 1 <;> dsimp only <;> omega
theorem a_at (i : Fin 256) (j : Fin 128) : (iblk m c 4 t : Vec Ideal S256x128 .bf16) (ix2 i j) =
    if j.val < 16 then Gla.at3 (A m c) (t.val / 16) (64 * (4 * (t.val % 16)) + i.val) (6144 + j.val) else 0 := by
  have ht : t.val < 32 := lt_of_lt_of_eq t.isLt N_0
  have e : (iblk m c 4 t : Vec Ideal S256x128 .bf16) (ix2 i j) = (V m c main_v3 : Vec Ideal S8192x128 .bf16) (ix2 ⟨256 * t.val + i.val, by omega⟩ j) := by
    blk_ext [iblk, idx t]
  rw [e, v3_at]
  congr 2 <;> dsimp only <;> omega
theorem w_at (l : Fin 128) (j : Fin 1024) : (iblk m c 5 t : Vec Ideal S128x1024 .bf16) (ix2 l j) = if l.val < 16 then Gla.at2 (W m c) l.val j.val else 0 := by
  have e : (iblk m c 5 t : Vec Ideal S128x1024 .bf16) (ix2 l j) = (V m c main_v6 : Vec Ideal S128x1024 .bf16) (ix2 l j) := by
    blk_ext [iblk, idx t]
  rw [e, v6_at]
theorem b_at (j : Fin 1024) : (iblk m c 6 t : Vec Ideal S1x1024 .f32) (ix2 0 j) = Gla.at1 (B m c) j.val := by
  have e : (iblk m c 6 t : Vec Ideal S1x1024 .f32) (ix2 0 j) = (V m c main_v10 : Vec Ideal S1x1024 .f32) (ix2 0 j) := by
    blk_ext [iblk, idx t]
  rw [e, v10_at]
theorem n_at (j : Fin 512) : (iblk m c 7 t : Vec Ideal S1x512 .f32) (ix2 0 j) = Gla.at1 (N m c) j.val := by
  have e : (iblk m c 7 t : Vec Ideal S1x512 .f32) (ix2 0 j) = (V m c main_v11 : Vec Ideal S1x512 .f32) (ix2 0 j) := by
    blk_ext [iblk, idx t]
  rw [e, v11_at]

/-- Sixteen terms and zeros. -/
theorem sum_pad (f g : ℕ → EReal) : ∑ l : Fin 128, (if l.val < 16 then f l.val else 0) * (if l.val < 16 then g l.val else 0) = ∑ l : Fin 16, f l.val * g l.val := by
  have h : ∀ l : Fin 128, (if l.val < 16 then f l.val else 0) * (if l.val < 16 then g l.val else 0) = if l.val < 16 then f l.val * g l.val else 0 := by
    intro l; split <;> simp
  simp only [h]
  rw [Fin.sum_univ_eq_sum_range (fun n => if n < 16 then f n * g n else 0) 128, Fin.sum_univ_eq_sum_range (fun n => f n * g n) 16, ← Finset.sum_filter]
  refine Finset.sum_congr ?_ fun _ _ => rfl
  decide

/-- The decay pre-activations of one head. -/
theorem zz_at (h : ℕ) (hh : h < 4) (w : Vec Ideal S128x256 .bf16) (b : Vec Ideal S1x256 .f32)
    (hw : ∀ (l : Fin 128) (j : Fin 256), w (ix2 l j) = if l.val < 16 then Gla.at2 (W m c) l.val (256 * h + j.val) else 0)
    (hb : ∀ j : Fin 256, b (ix2 0 j) = Gla.at1 (B m c) (256 * h + j.val)) (i j : Fin 256) :
    Point.zz (iblk m c 4 t) w b i j = Gla.Zs (A m c) (W m c) (B m c) (t.val / 16) (64 * (4 * (t.val % 16)) + i.val) (256 * h + j.val) := by
  unfold Point.zz
  have ha := a_at m c t i
  simp only [hw, hb]
  rw [Gla.Zs]
  congr 1
  refine Eq.trans (Finset.sum_congr rfl fun l _ => ?_) (sum_pad (fun l => Gla.at3 (A m c) (t.val / 16) (64 * (4 * (t.val % 16)) + i.val) (6144 + l)) (fun l => Gla.at2 (W m c) l (256 * h + j.val)))
  rw [ha l]

end

end Cert.KernelIdeal.Host

end
-- ==== Proof.KernelValue.lean ====
/-
  WHAT THE KERNEL LEAVES. The carried state by induction over a sequence's sixteen points, each point's output block, and the result array.
-/
module

public import proofs.«01_k».proof.Proof.Host

@[expose] public section

set_option maxRecDepth 16384

noncomputable section

namespace Cert.KernelIdeal.Result

open Cert.KernelIdeal Cert.KernelIdeal.Gen Cert.KernelIdeal.Model Cert.KernelIdeal.Host Idealize.ShloMosaic Idealize.ShloMosaic.TcCoe Idealize.SL.Sem

/-! ## Columns of a block -/

theorem sq_ld (x : Vec Ideal S256x1024 .bf16) (o : ℕ) (h) (i j : Fin 256) (ho : o + j.val < 1024) : Model.sq x o h (ix2 i j) = x (ix2 i ⟨o + j.val, ho⟩) := by
  unfold Model.sq; pointwise []
theorem wd_ld (x : Vec Ideal S256x2048 .bf16) (o : ℕ) (h) (i : Fin 256) (j : Fin 512) (ho : o + j.val < 2048) : Model.wd x o h (ix2 i j) = x (ix2 i ⟨o + j.val, ho⟩) := by
  unfold Model.wd; pointwise []
theorem rw64_ld (x : Vec Ideal S256x2048 .bf16) (p o : ℕ) (h) (i : Fin 64) (j : Fin 512) (hp : p + i.val < 256) (ho : o + j.val < 2048) :
    Model.rw64 x p o h (ix2 i j) = x (ix2 ⟨p + i.val, hp⟩ ⟨o + j.val, ho⟩) := by
  unfold Model.rw64; pointwise []
theorem gw_ld (x : Vec Ideal S128x1024 .bf16) (o : ℕ) (h) (i : Fin 128) (j : Fin 256) (ho : o + j.val < 1024) : Model.gw x o h (ix2 i j) = x (ix2 i ⟨o + j.val, ho⟩) := by
  unfold Model.gw; pointwise []
theorem gb_ld (x : Vec Ideal S1x1024 .f32) (o : ℕ) (h) (j : Fin 256) (ho : o + j.val < 1024) : Model.gb x o h (ix2 0 j) = x (ix2 0 ⟨o + j.val, ho⟩) := by
  unfold Model.gb; pointwise []
theorem sth_ld (x : Vec Ideal S4x512x256 .f32) (o : ℕ) (h) (a : Fin 512) (k : Fin 256) (ho : o < 4) : Model.sth x o h (ix3 0 a k) = x (ix3 ⟨o, ho⟩ a k) := by
  unfold Model.sth; pointwise []

variable (m : (ℓ : Loc nD τ sig) → Buf (Elt Ideal) ℓ) (c : Dev nD) (t : Fin cfg0.N)

theorem cumH_at (h : Fin 4) (i j : Fin 256) : cumH (iblk m c 4 t) (iblk m c 5 t) (iblk m c 6 t) h (ix2 i j) =
    Gla.cum (Gla.Zs (A m c) (W m c) (B m c) (t.val / 16)) (4 * (t.val % 16) + i.val / 64) (i.val % 64) (256 * h.val + j.val) * Gla.l2 := by
  have hw := w_at m c t
  have hb := b_at m c t
  match h with
  | 0 => exact Point.cum_at _ _ 0 _ _ _ (zz_at m c t 0 (by decide) _ _ (fun l j => (gw_ld _ 0 _ l j (by omega)).trans (hw l _)) (fun j => (gb_ld _ 0 _ j (by omega)).trans (hb _))) i j
  | 1 => exact Point.cum_at _ _ 1 _ _ _ (zz_at m c t 1 (by decide) _ _ (fun l j => (gw_ld _ 256 _ l j (by omega)).trans (hw l _)) (fun j => (gb_ld _ 256 _ j (by omega)).trans (hb _))) i j
  | 2 => exact Point.cum_at _ _ 2 _ _ _ (zz_at m c t 2 (by decide) _ _ (fun l j => (gw_ld _ 512 _ l j (by omega)).trans (hw l _)) (fun j => (gb_ld _ 512 _ j (by omega)).trans (hb _))) i j
  | 3 => exact Point.cum_at _ _ 3 _ _ _ (zz_at m c t 3 (by decide) _ _ (fun l j => (gw_ld _ 768 _ l j (by omega)).trans (hw l _)) (fun j => (gb_ld _ 768 _ j (by omega)).trans (hb _))) i j
theorem kH_at (h : Fin 4) (i j : Fin 256) : kH (iblk m c 1 t) h (ix2 i j) = Gla.Ks (A m c) (t.val / 16) (64 * (4 * (t.val % 16)) + i.val) (256 * h.val + j.val) := by
  have hk := k_at m c t
  have e : ∀ q : Vec Ideal S256x256 .bf16, k0_pay20 q (ix2 i j) = q (ix2 i j) := by intro q; pointwise [k0_pay20]
  match h with
  | 0 => exact (e _).trans ((sq_ld _ 0 _ i j (by omega)).trans (hk i _))
  | 1 => exact (e _).trans ((sq_ld _ 256 _ i j (by omega)).trans (hk i _))
  | 2 => exact (e _).trans ((sq_ld _ 512 _ i j (by omega)).trans (hk i _))
  | 3 => exact (e _).trans ((sq_ld _ 768 _ i j (by omega)).trans (hk i _))

/-- What a point that finds the state at `st` leaves of it, when `st` is the state before the point's first chunk. -/
theorem stH_at (st : Vec Ideal S4x512x256 .f32)
    (hst : ∀ (h : Fin 4) (a : Fin 512) (k : Fin 256), st (ix3 h a k) = Gla.S (Gla.Ks (A m c) (t.val / 16)) (Gla.Vs (A m c) (t.val / 16)) (Gla.Zs (A m c) (W m c) (B m c) (t.val / 16)) h.val (4 * (t.val % 16)) k.val a.val)
    (h : Fin 4) (a : Fin 512) (k : Fin 256) : stH (iblk m c 1 t) (iblk m c 2 t) (iblk m c 4 t) (iblk m c 5 t) (iblk m c 6 t) st h 4 (ix3 0 a k) =
      Gla.S (Gla.Ks (A m c) (t.val / 16)) (Gla.Vs (A m c) (t.val / 16)) (Gla.Zs (A m c) (W m c) (B m c) (t.val / 16)) h.val (4 * (t.val % 16) + 4) k.val a.val := by
  have hv := v_at m c t
  match h with
  | 0 => exact Point.stAfter_at _ _ _ _ 0 _ _ _ _ _ _ _ (cumH_at m c t 0) (kH_at m c t 0) (fun a k => (sth_ld _ 0 _ a k (by decide)).trans (hst 0 a k)) (fun s a => (rw64_ld _ 0 0 _ s a (by omega) (by omega)).trans ((hv _ _).trans (congrArg₂ _ (by dsimp only; omega) rfl))) (fun s a => (rw64_ld _ 64 0 _ s a (by omega) (by omega)).trans ((hv _ _).trans (congrArg₂ _ (by dsimp only; omega) rfl))) (fun s a => (rw64_ld _ 128 0 _ s a (by omega) (by omega)).trans ((hv _ _).trans (congrArg₂ _ (by dsimp only; omega) rfl))) (fun s a => (rw64_ld _ 192 0 _ s a (by omega) (by omega)).trans ((hv _ _).trans (congrArg₂ _ (by dsimp only; omega) rfl))) 4 (le_refl _) a k
  | 1 => exact Point.stAfter_at _ _ _ _ 1 _ _ _ _ _ _ _ (cumH_at m c t 1) (kH_at m c t 1) (fun a k => (sth_ld _ 1 _ a k (by decide)).trans (hst 1 a k)) (fun s a => (rw64_ld _ 0 512 _ s a (by omega) (by omega)).trans ((hv _ _).trans (congrArg₂ _ (by dsimp only; omega) rfl))) (fun s a => (rw64_ld _ 64 512 _ s a (by omega) (by omega)).trans ((hv _ _).trans (congrArg₂ _ (by dsimp only; omega) rfl))) (fun s a => (rw64_ld _ 128 512 _ s a (by omega) (by omega)).trans ((hv _ _).trans (congrArg₂ _ (by dsimp only; omega) rfl))) (fun s a => (rw64_ld _ 192 512 _ s a (by omega) (by omega)).trans ((hv _ _).trans (congrArg₂ _ (by dsimp only; omega) rfl))) 4 (le_refl _) a k
  | 2 => exact Point.stAfter_at _ _ _ _ 2 _ _ _ _ _ _ _ (cumH_at m c t 2) (kH_at m c t 2) (fun a k => (sth_ld _ 2 _ a k (by decide)).trans (hst 2 a k)) (fun s a => (rw64_ld _ 0 1024 _ s a (by omega) (by omega)).trans ((hv _ _).trans (congrArg₂ _ (by dsimp only; omega) rfl))) (fun s a => (rw64_ld _ 64 1024 _ s a (by omega) (by omega)).trans ((hv _ _).trans (congrArg₂ _ (by dsimp only; omega) rfl))) (fun s a => (rw64_ld _ 128 1024 _ s a (by omega) (by omega)).trans ((hv _ _).trans (congrArg₂ _ (by dsimp only; omega) rfl))) (fun s a => (rw64_ld _ 192 1024 _ s a (by omega) (by omega)).trans ((hv _ _).trans (congrArg₂ _ (by dsimp only; omega) rfl))) 4 (le_refl _) a k
  | 3 => exact Point.stAfter_at _ _ _ _ 3 _ _ _ _ _ _ _ (cumH_at m c t 3) (kH_at m c t 3) (fun a k => (sth_ld _ 3 _ a k (by decide)).trans (hst 3 a k)) (fun s a => (rw64_ld _ 0 1536 _ s a (by omega) (by omega)).trans ((hv _ _).trans (congrArg₂ _ (by dsimp only; omega) rfl))) (fun s a => (rw64_ld _ 64 1536 _ s a (by omega) (by omega)).trans ((hv _ _).trans (congrArg₂ _ (by dsimp only; omega) rfl))) (fun s a => (rw64_ld _ 128 1536 _ s a (by omega) (by omega)).trans ((hv _ _).trans (congrArg₂ _ (by dsimp only; omega) rfl))) (fun s a => (rw64_ld _ 192 1536 _ s a (by omega) (by omega)).trans ((hv _ _).trans (congrArg₂ _ (by dsimp only; omega) rfl))) 4 (le_refl _) a k

/-- A point's output block. -/
theorem outH_at (st : Vec Ideal S4x512x256 .f32)
    (hst : ∀ (h : Fin 4) (a : Fin 512) (k : Fin 256), st (ix3 h a k) = Gla.S (Gla.Ks (A m c) (t.val / 16)) (Gla.Vs (A m c) (t.val / 16)) (Gla.Zs (A m c) (W m c) (B m c) (t.val / 16)) h.val (4 * (t.val % 16)) k.val a.val)
    (h : Fin 4) (i : Fin 256) (a : Fin 512) :
    outH (iblk m c 0 t) (iblk m c 1 t) (iblk m c 2 t) (iblk m c 3 t) (iblk m c 4 t) (iblk m c 5 t) (iblk m c 6 t) (iblk m c 7 t) st h (ix2 i a) =
      Gla.out (Gla.Qs (A m c) (t.val / 16)) (Gla.Ks (A m c) (t.val / 16)) (Gla.Vs (A m c) (t.val / 16)) (Gla.Zs (A m c) (W m c) (B m c) (t.val / 16)) (Gla.Rs (A m c) (t.val / 16)) (Gla.at1 (N m c))
        h.val (4 * (t.val % 16) + i.val / 64) (i.val % 64) a.val := by
  have hq := q_at m c t
  have hv := v_at m c t
  have hr := r_at m c t
  have hn := n_at m c t
  match h with
  | 0 => exact Point.outHead_at _ _ _ _ _ _ _ 0 _ _ _ _ _ _ _ _ _ _ _ (cumH_at m c t 0) (kH_at m c t 0) (fun i j => (sq_ld _ 0 _ i j (by omega)).trans (hq i _)) (fun i a => (wd_ld _ 0 _ i a (by omega)).trans (hv i _)) (fun i a => (wd_ld _ 0 _ i a (by omega)).trans (hr i _)) hn (fun a k => (sth_ld _ 0 _ a k (by decide)).trans (hst 0 a k)) (fun s a => (rw64_ld _ 0 0 _ s a (by omega) (by omega)).trans ((hv _ _).trans (congrArg₂ _ (by dsimp only; omega) rfl))) (fun s a => (rw64_ld _ 64 0 _ s a (by omega) (by omega)).trans ((hv _ _).trans (congrArg₂ _ (by dsimp only; omega) rfl))) (fun s a => (rw64_ld _ 128 0 _ s a (by omega) (by omega)).trans ((hv _ _).trans (congrArg₂ _ (by dsimp only; omega) rfl))) (fun s a => (rw64_ld _ 192 0 _ s a (by omega) (by omega)).trans ((hv _ _).trans (congrArg₂ _ (by dsimp only; omega) rfl))) i a
  | 1 => exact Point.outHead_at _ _ _ _ _ _ _ 1 _ _ _ _ _ _ _ _ _ _ _ (cumH_at m c t 1) (kH_at m c t 1) (fun i j => (sq_ld _ 256 _ i j (by omega)).trans (hq i _)) (fun i a => (wd_ld _ 512 _ i a (by omega)).trans (hv i _)) (fun i a => (wd_ld _ 512 _ i a (by omega)).trans (hr i _)) hn (fun a k => (sth_ld _ 1 _ a k (by decide)).trans (hst 1 a k)) (fun s a => (rw64_ld _ 0 512 _ s a (by omega) (by omega)).trans ((hv _ _).trans (congrArg₂ _ (by dsimp only; omega) rfl))) (fun s a => (rw64_ld _ 64 512 _ s a (by omega) (by omega)).trans ((hv _ _).trans (congrArg₂ _ (by dsimp only; omega) rfl))) (fun s a => (rw64_ld _ 128 512 _ s a (by omega) (by omega)).trans ((hv _ _).trans (congrArg₂ _ (by dsimp only; omega) rfl))) (fun s a => (rw64_ld _ 192 512 _ s a (by omega) (by omega)).trans ((hv _ _).trans (congrArg₂ _ (by dsimp only; omega) rfl))) i a
  | 2 => exact Point.outHead_at _ _ _ _ _ _ _ 2 _ _ _ _ _ _ _ _ _ _ _ (cumH_at m c t 2) (kH_at m c t 2) (fun i j => (sq_ld _ 512 _ i j (by omega)).trans (hq i _)) (fun i a => (wd_ld _ 1024 _ i a (by omega)).trans (hv i _)) (fun i a => (wd_ld _ 1024 _ i a (by omega)).trans (hr i _)) hn (fun a k => (sth_ld _ 2 _ a k (by decide)).trans (hst 2 a k)) (fun s a => (rw64_ld _ 0 1024 _ s a (by omega) (by omega)).trans ((hv _ _).trans (congrArg₂ _ (by dsimp only; omega) rfl))) (fun s a => (rw64_ld _ 64 1024 _ s a (by omega) (by omega)).trans ((hv _ _).trans (congrArg₂ _ (by dsimp only; omega) rfl))) (fun s a => (rw64_ld _ 128 1024 _ s a (by omega) (by omega)).trans ((hv _ _).trans (congrArg₂ _ (by dsimp only; omega) rfl))) (fun s a => (rw64_ld _ 192 1024 _ s a (by omega) (by omega)).trans ((hv _ _).trans (congrArg₂ _ (by dsimp only; omega) rfl))) i a
  | 3 => exact Point.outHead_at _ _ _ _ _ _ _ 3 _ _ _ _ _ _ _ _ _ _ _ (cumH_at m c t 3) (kH_at m c t 3) (fun i j => (sq_ld _ 768 _ i j (by omega)).trans (hq i _)) (fun i a => (wd_ld _ 1536 _ i a (by omega)).trans (hv i _)) (fun i a => (wd_ld _ 1536 _ i a (by omega)).trans (hr i _)) hn (fun a k => (sth_ld _ 3 _ a k (by decide)).trans (hst 3 a k)) (fun s a => (rw64_ld _ 0 1536 _ s a (by omega) (by omega)).trans ((hv _ _).trans (congrArg₂ _ (by dsimp only; omega) rfl))) (fun s a => (rw64_ld _ 64 1536 _ s a (by omega) (by omega)).trans ((hv _ _).trans (congrArg₂ _ (by dsimp only; omega) rfl))) (fun s a => (rw64_ld _ 128 1536 _ s a (by omega) (by omega)).trans ((hv _ _).trans (congrArg₂ _ (by dsimp only; omega) rfl))) (fun s a => (rw64_ld _ 192 1536 _ s a (by omega) (by omega)).trans ((hv _ _).trans (congrArg₂ _ (by dsimp only; omega) rfl))) i a

theorem zeros_at (h : Fin 4) (a : Fin 512) (k : Fin 256) : k0_pay2 (F := Ideal) (ix3 h a k) = 0 := by pointwise [k0_pay2]

/-- A store of one head's state, at the head's place in the buffer. -/
theorem st_piece (G : Fin 4 → Vec Ideal S1x512x256 .f32) (e : ℕ) (he : e < 4) (h : ∀ a, (![e, 0, 0] : Fin 3 → ℕ) a + S1x512x256.size a ≤ S4x512x256.size a) (x : S1x512x256.Idx) :
    G ⟨e, he⟩ x = G ((Rect.unit (s := S4x512x256) ![e, 0, 0] S1x512x256.size h).emb x 0)
      (ix3 0 ((Rect.unit (s := S4x512x256) ![e, 0, 0] S1x512x256.size h).emb x 1) ((Rect.unit (s := S4x512x256) ![e, 0, 0] S1x512x256.size h).emb x 2)) := by
  have x0 : (x 0).val < 1 := (x 0).isLt
  have h0 : (Rect.unit (s := S4x512x256) ![e, 0, 0] S1x512x256.size h).emb x 0 = (⟨e, he⟩ : Fin 4) := Fin.ext (by
    show e + 1 * (x 0).val = e; omega)
  have hx : (ix3 0 ((Rect.unit (s := S4x512x256) ![e, 0, 0] S1x512x256.size h).emb x 1) ((Rect.unit (s := S4x512x256) ![e, 0, 0] S1x512x256.size h).emb x 2) : S1x512x256.Idx) = x := by
    funext a; apply Fin.ext
    match a with
    | ⟨0, _⟩ => show 0 = (x 0).val; omega
    | ⟨1, _⟩ => show 0 + 1 * (x 1).val = (x 1).val; omega
    | ⟨2, _⟩ => show 0 + 1 * (x 2).val = (x 2).val; omega
  exact (congrArg₂ (fun p q => G p q) h0 hx).symm
theorem st_mem (e : ℕ) (he : e < 4) (h : ∀ a, (![e, 0, 0] : Fin 3 → ℕ) a + S1x512x256.size a ≤ S4x512x256.size a) (a : Fin 512) (k : Fin 256) :
    (ix3 ⟨e, he⟩ a k : S4x512x256.Idx) ∈ (Rect.unit (s := S4x512x256) ![e, 0, 0] S1x512x256.size h).set := by
  rw [Rect.mem_set_unit]
  intro d
  match d with
  | ⟨0, _⟩ => show e ≤ e ∧ e < e + 1; omega
  | ⟨1, _⟩ => show 0 ≤ a.val ∧ a.val < 0 + 512; omega
  | ⟨2, _⟩ => show 0 ≤ k.val ∧ k.val < 0 + 256; omega

/-- A store of one head's output block, at the head's lanes. -/
theorem out_piece (G : Fin 4 → FVec Ideal S256x512 .bf16) (e : ℕ) (he : e < 4) (o : ℕ) (ho : o = 512 * e) (h : ∀ a, (![0, o] : Fin 2 → ℕ) a + S256x512.size a ≤ S256x2048.size a) (x : S256x512.Idx) :
    G ⟨e, he⟩ x = G ⟨((Rect.unit (s := S256x2048) ![0, o] S256x512.size h).emb x 1).val / 512, Nat.div_lt_of_lt_mul (Fin.isLt _)⟩
      (ix2 ((Rect.unit (s := S256x2048) ![0, o] S256x512.size h).emb x 0) ⟨((Rect.unit (s := S256x2048) ![0, o] S256x512.size h).emb x 1).val % 512, Nat.mod_lt _ (by decide)⟩) := by
  have x1 : (x 1).val < 512 := (x 1).isLt
  refine (congrArg₂ (fun p q => G p q) (Fin.ext ?_) ?_).symm
  · show (o + 1 * (x 1).val) / 512 = e; omega
  · funext a; apply Fin.ext
    match a with
    | ⟨0, _⟩ => show 0 + 1 * (x 0).val = (x 0).val; omega
    | ⟨1, _⟩ => show (o + 1 * (x 1).val) % 512 = (x 1).val; omega
theorem out_mem (o : ℕ) (h : ∀ a, (![0, o] : Fin 2 → ℕ) a + S256x512.size a ≤ S256x2048.size a) (i : Fin 256) (l : Fin 2048) (hl : o ≤ l.val ∧ l.val < o + 512) :
    (ix2 i l : S256x2048.Idx) ∈ (Rect.unit (s := S256x2048) ![0, o] S256x512.size h).set := by
  rw [Rect.mem_set_unit]
  intro d
  match d with
  | ⟨0, _⟩ => show 0 ≤ i.val ∧ i.val < 0 + 256; omega
  | ⟨1, _⟩ => exact hl

/-- The state's buffer read head by head. -/
theorem stOut_at (x1 : Vec Ideal S256x1024 .bf16) (x2 : Vec Ideal S256x2048 .bf16) (x4 : Vec Ideal S256x128 .bf16) (x5 : Vec Ideal S128x1024 .bf16) (x6 : Vec Ideal S1x1024 .f32)
    (st : Vec Ideal S4x512x256 .f32) (L : List (View.Piece (Elt Ideal) S4x512x256 .f32)) (h : Fin 4) (a : Fin 512) (k : Fin 256) :
    stOut x1 x2 x4 x5 x6 st L (ix3 h a k) = stH x1 x2 x4 x5 x6 st h 4 (ix3 0 a k) := by
  unfold stOut
  refine View.canon_append_of_piecesOf (fun y : S4x512x256.Idx => stH x1 x2 x4 x5 x6 st (y 0) 4 (ix3 0 (y 1) (y 2))) L [_, _, _, _]
    ⟨?_, ?_, ?_, ?_, trivial⟩ (ix3 h a k) ?_
  · exact st_piece (fun e => stH x1 x2 x4 x5 x6 st e 4) 3 (by decide) (by decide)
  · exact st_piece (fun e => stH x1 x2 x4 x5 x6 st e 4) 2 (by decide) (by decide)
  · exact st_piece (fun e => stH x1 x2 x4 x5 x6 st e 4) 1 (by decide) (by decide)
  · exact st_piece (fun e => stH x1 x2 x4 x5 x6 st e 4) 0 (by decide) (by decide)
  match h with
  | 3 => exact ⟨_, List.mem_cons_self, st_mem 3 (by decide) (by decide) a k⟩
  | 2 => exact ⟨_, List.mem_cons_of_mem _ List.mem_cons_self, st_mem 2 (by decide) (by decide) a k⟩
  | 1 => exact ⟨_, List.mem_cons_of_mem _ (List.mem_cons_of_mem _ List.mem_cons_self), st_mem 1 (by decide) (by decide) a k⟩
  | 0 => exact ⟨_, List.mem_cons_of_mem _ (List.mem_cons_of_mem _ (List.mem_cons_of_mem _ List.mem_cons_self)), st_mem 0 (by decide) (by decide) a k⟩

/-- The output block read head by head. -/
theorem blkOut_at (x0 x1 : Vec Ideal S256x1024 .bf16) (x2 x3 : Vec Ideal S256x2048 .bf16) (x4 : Vec Ideal S256x128 .bf16) (x5 : Vec Ideal S128x1024 .bf16) (x6 : Vec Ideal S1x1024 .f32)
    (x7 : Vec Ideal S1x512 .f32) (st : Vec Ideal S4x512x256 .f32) (i : Fin 256) (l : Fin 2048) :
    blkOut x0 x1 x2 x3 x4 x5 x6 x7 st (ix2 i l) = outH x0 x1 x2 x3 x4 x5 x6 x7 st ⟨l.val / 512, Nat.div_lt_of_lt_mul l.isLt⟩ (ix2 i ⟨l.val % 512, Nat.mod_lt _ (by decide)⟩) := by
  unfold blkOut
  refine View.canon_append_of_piecesOf (Val := Elt Ideal) (e := .bf16) (fun y : S256x2048.Idx => (outH x0 x1 x2 x3 x4 x5 x6 x7 st ⟨(y 1).val / 512, Nat.div_lt_of_lt_mul (y 1).isLt⟩ (ix2 (y 0) ⟨(y 1).val % 512, Nat.mod_lt _ (by decide)⟩) : Elt Ideal .bf16))
    [] [_, _, _, _]
    ⟨?_, ?_, ?_, ?_, trivial⟩ (ix2 i l) ?_
  · exact out_piece (outH x0 x1 x2 x3 x4 x5 x6 x7 st) 3 (by decide) 1536 rfl (by decide)
  · exact out_piece (outH x0 x1 x2 x3 x4 x5 x6 x7 st) 2 (by decide) 1024 rfl (by decide)
  · exact out_piece (outH x0 x1 x2 x3 x4 x5 x6 x7 st) 1 (by decide) 512 rfl (by decide)
  · exact out_piece (outH x0 x1 x2 x3 x4 x5 x6 x7 st) 0 (by decide) 0 rfl (by decide)
  have hl := l.isLt
  by_cases h3 : 1536 ≤ l.val
  · exact ⟨_, List.mem_cons_self, out_mem 1536 (by decide) i l (by omega)⟩
  by_cases h2 : 1024 ≤ l.val
  · exact ⟨_, List.mem_cons_of_mem _ List.mem_cons_self, out_mem 1024 (by decide) i l (by omega)⟩
  by_cases h1 : 512 ≤ l.val
  · exact ⟨_, List.mem_cons_of_mem _ (List.mem_cons_of_mem _ List.mem_cons_self), out_mem 512 (by decide) i l (by omega)⟩
  · exact ⟨_, List.mem_cons_of_mem _ (List.mem_cons_of_mem _ (List.mem_cons_of_mem _ List.mem_cons_self)), out_mem 0 (by decide) i l (by omega)⟩

/-- The state after each point: the one before the next point's first chunk. -/
theorem state_at : ∀ (n : ℕ) (hn : n < cfg0.N) (h : Fin 4) (a : Fin 512) (k : Fin 256), (outsAt0 m c n hn).2 (ix3 h a k) =
    Gla.S (Gla.Ks (A m c) (n / 16)) (Gla.Vs (A m c) (n / 16)) (Gla.Zs (A m c) (W m c) (B m c) (n / 16)) h.val (4 * (n % 16) + 4) k.val a.val := by
  intro n
  induction n with
  | zero =>
    intro hn h a k
    obtain ⟨L, hL⟩ := st_A m c ⟨0, hn⟩ rfl
    refine (congrFun hL _).trans ((stOut_at _ _ _ _ _ _ _ h a k).trans (stH_at m c ⟨0, hn⟩ _ (fun h a k => ?_) h a k))
    rw [zeros_at]; rfl
  | succ n ih =>
    intro hn h a k
    by_cases h0 : (n + 1) % 16 = 0
    · obtain ⟨L, hL⟩ := st_A m c ⟨n + 1, hn⟩ h0
      refine (congrFun hL _).trans ((stOut_at _ _ _ _ _ _ _ h a k).trans (stH_at m c ⟨n + 1, hn⟩ _ (fun h a k => ?_) h a k))
      rw [zeros_at]; dsimp only; rw [h0]; rfl
    · obtain ⟨L, hL⟩ := st_B m c ⟨n + 1, hn⟩ h0
      refine (congrFun hL _).trans ((stOut_at _ _ _ _ _ _ _ h a k).trans (stH_at m c ⟨n + 1, hn⟩ _ (fun h a k => ?_) h a k))
      refine (ih (by omega) h a k).trans ?_
      have e1 : n / 16 = (n + 1) / 16 := by omega
      have e2 : 4 * (n % 16) + 4 = 4 * ((n + 1) % 16) := by omega
      rw [e1, e2]

/-- A point's output block at a row and a lane. -/
theorem block_at (i : Fin 256) (l : Fin 2048) : (outsAt0 m c t.val t.isLt).1 (ix2 i l) = Gla.res (A m c) (W m c) (B m c) (N m c) (256 * t.val + i.val) l.val := by
  have ht : t.val < 32 := lt_of_lt_of_eq t.isLt N_0
  have key : ∀ st : Vec Ideal S4x512x256 .f32, (∀ (h : Fin 4) (a : Fin 512) (k : Fin 256), st (ix3 h a k) = Gla.S (Gla.Ks (A m c) (t.val / 16)) (Gla.Vs (A m c) (t.val / 16)) (Gla.Zs (A m c) (W m c) (B m c) (t.val / 16)) h.val (4 * (t.val % 16)) k.val a.val) →
      blkOut (iblk m c 0 t) (iblk m c 1 t) (iblk m c 2 t) (iblk m c 3 t) (iblk m c 4 t) (iblk m c 5 t) (iblk m c 6 t) (iblk m c 7 t) st (ix2 i l) = Gla.res (A m c) (W m c) (B m c) (N m c) (256 * t.val + i.val) l.val := by
    intro st hst
    refine (blkOut_at _ _ _ _ _ _ _ _ _ i l).trans ((outH_at m c t st hst _ _ _).trans ?_)
    unfold Gla.res
    have e1 : (256 * t.val + i.val) / 4096 = t.val / 16 := by omega
    have e2 : (256 * t.val + i.val) % 4096 / 64 = 4 * (t.val % 16) + i.val / 64 := by omega
    have e3 : (256 * t.val + i.val) % 64 = i.val % 64 := by omega
    rw [e1, e2, e3]
  by_cases h0 : t.val % 16 = 0
  · rw [out_A m c t h0]
    refine key _ fun h a k => ?_
    rw [zeros_at, h0]; rfl
  · rw [out_B m c t h0]
    refine key _ fun h a k => ?_
    refine (state_at m c (t.val - 1) _ h a k).trans ?_
    have e1 : (t.val - 1) / 16 = t.val / 16 := by omega
    have e2 : 4 * ((t.val - 1) % 16) + 4 = 4 * (t.val % 16) := by omega
    rw [e1, e2]

/-- The result array. -/
theorem final : (dats m 0 c).arrAt 8 cfg0.N = fun i : S8192x2048.Idx => Gla.res (A m c) (W m c) (B m c) (N m c) (i 0).val (i 1).val := by
  refine (dats m 0 c).arrAt_eq_of_covers 8 _ (by decide +kernel) fun t _ y => ?_
  blk_simp
  rw [after0_8]
  refine Eq.trans (b := (outsAt0 m c t.val t.isLt).1 (ix2 (y 0) (y 1))) ?_ ((block_at m c t _ _).trans ?_)
  · refine congrArg _ ?_
    funext a
    match a with
    | ⟨0, _⟩ => rfl
    | ⟨1, _⟩ => rfl
  · blk_simp [idx t]
    rw [Nat.mul_comm]

end Cert.KernelIdeal.Result

end
-- ==== Proof.RefEntry.lean ====
/-
  THE REFERENCE'S CHUNKED OPERANDS. What the host operations before the loop over the chunks compute, at an index.
-/
module

public import proofs.«01_k».proof.Proof.Gen.ReferenceIdeal.Run
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Entry

open Cert.ReferenceIdeal Cert.ReferenceIdeal.Gen Cert.ReferenceIdeal.Value Idealize.ShloMosaic Idealize.ShloMosaic.TcCoe Idealize.SL.Sem Idealize.ShloMosaic.StableHlo

/-! ## The running sum over a chunk's rows -/

theorem foldl_sum {ι : Type} (g : ι → EReal) : ∀ (l : List ι) (v : EReal), l.foldl (fun r n => r + g n) v = v + (l.map g).sum
  | [], v => by simp
  | a :: l, v => by rw [List.foldl_cons, foldl_sum g l, List.map_cons, List.sum_cons, add_assoc]

/-- The window's positions are its rows. -/
def winRow : (⟨5, ![1, 1, 1, 64, 1]⟩ : Shape).Idx ≃ Fin 64 where
  toFun w := w 3
  invFun k := ix5 (0 : Fin 1) (0 : Fin 1) (0 : Fin 1) k (0 : Fin 1)
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  right_inv _ := rfl

theorem sum_shift (t : Fin 64) (f : Fin 64 → EReal) :
    ∑ k : Fin 64, (if h : 63 ≤ t.val + k.val then f ⟨t.val + k.val - 63, by omega⟩ else 0) = ∑ s : Fin 64, if s.val ≤ t.val then f s else 0 := by
  have e : ∀ k : Fin 64, (if h : 63 ≤ t.val + k.val then f ⟨t.val + k.val - 63, by omega⟩ else 0) = if 63 ≤ t.val + k.val then f ⟨t.val + k.val - 63, by omega⟩ else 0 := by
    intro k; split <;> rfl
  simp only [e]
  rw [← Finset.sum_filter, ← Finset.sum_filter]
  refine Finset.sum_nbij' (fun k => ⟨t.val + k.val - 63, by omega⟩) (fun s => ⟨(s.val + 63 - t.val) % 64, Nat.mod_lt _ (by decide)⟩) ?_ ?_ ?_ ?_ ?_
  · intro k hk; simp only [Finset.mem_filter, Finset.mem_univ, true_and] at hk ⊢; omega
  · intro s hs; simp only [Finset.mem_filter, Finset.mem_univ, true_and] at hs ⊢; omega
  · intro k hk; simp only [Finset.mem_filter, Finset.mem_univ, true_and] at hk; apply Fin.ext; dsimp only; omega
  · intro s hs; simp only [Finset.mem_filter, Finset.mem_univ, true_and] at hs; apply Fin.ext; dsimp only; omega
  · intro k _; rfl

theorem sum_win (g : (⟨5, ![1, 1, 1, 64, 1]⟩ : Shape).Idx → EReal) :
    ∑ i, g ((Shape.rowMajor (⟨5, ![1, 1, 1, 64, 1]⟩ : Shape)).symm i) = ∑ k : Fin 64, g (ix5 (0 : Fin 1) (0 : Fin 1) (0 : Fin 1) k (0 : Fin 1)) :=
  (Equiv.sum_comp (Shape.rowMajor _).symm g).trans (Equiv.sum_comp winRow.symm g).symm

theorem cumsum_at (x : FVec Ideal S64x2x4x64x256 .f32) (init : FVec Ideal S_ .f32) (h hu) (h0 : init (Shape.Idx.first hu) = 0)
    (n : Fin 64) (b : Fin 2) (e : Fin 4) (t : Fin 64) (j : Fin 256) :
    Host.reduceWindowAdd (t := S64x2x4x64x256) ![1, 1, 1, 64, 1] ![1, 1, 1, 1, 1] ![0, 0, 0, 63, 0] ![0, 0, 0, 0, 0] x init h hu (ix5 n b e t j) =
      ∑ s : Fin 64, if s.val ≤ t.val then x (ix5 n b e s j) else 0 := by
  show Host.reduceWindow (· + ·) ![1, 1, 1, 64, 1] ![1, 1, 1, 1, 1] ![0, 0, 0, 63, 0] ![0, 0, 0, 0, 0] x (fun _ : S_.Idx => init (Shape.Idx.first hu)) h hu (ix5 n b e t j) = _
  unfold Host.reduceWindow
  rw [h0]
  refine (foldl_sum _ _ _).trans ?_
  rw [zero_add, ← Fin.sum_univ_def]
  refine (Finset.sum_congr rfl fun i _ => dite_congr rfl (fun _ => rfl) (fun _ => rfl)).trans ((sum_win (fun w => if hin : ∀ a : Fin 5, (![0, 0, 0, 63, 0] : Fin 5 → ℕ) a ≤ (ix5 n b e t j a).val * (![1, 1, 1, 1, 1] : Fin 5 → ℕ) a + (w a).val ∧
        (ix5 n b e t j a).val * (![1, 1, 1, 1, 1] : Fin 5 → ℕ) a + (w a).val - (![0, 0, 0, 63, 0] : Fin 5 → ℕ) a < S64x2x4x64x256.size a then
      x (fun a => ⟨(ix5 n b e t j a).val * (![1, 1, 1, 1, 1] : Fin 5 → ℕ) a + (w a).val - (![0, 0, 0, 63, 0] : Fin 5 → ℕ) a, (hin a).2⟩) else 0)).trans ?_)
  rw [← sum_shift t (fun s => x (ix5 n b e s j))]
  refine Finset.sum_congr rfl fun k _ => ?_
  have hn := n.isLt; have hb := b.isLt; have he := e.isLt; have ht := t.isLt; have hj := j.isLt; have hk := k.isLt
  by_cases hc : 63 ≤ t.val + k.val
  · rw [dif_pos hc, dif_pos]
    · refine congrArg x (funext fun a => Fin.ext ?_)
      match a with
      | ⟨0, _⟩ => show n.val * 1 + 0 - 0 = n.val; omega
      | ⟨1, _⟩ => show b.val * 1 + 0 - 0 = b.val; omega
      | ⟨2, _⟩ => show e.val * 1 + 0 - 0 = e.val; omega
      | ⟨3, _⟩ => show t.val * 1 + k.val - 63 = t.val + k.val - 63; omega
      | ⟨4, _⟩ => show j.val * 1 + 0 - 0 = j.val; omega
    · intro a
      match a with
      | ⟨0, _⟩ => show 0 ≤ n.val * 1 + 0 ∧ n.val * 1 + 0 - 0 < 64; omega
      | ⟨1, _⟩ => show 0 ≤ b.val * 1 + 0 ∧ b.val * 1 + 0 - 0 < 2; omega
      | ⟨2, _⟩ => show 0 ≤ e.val * 1 + 0 ∧ e.val * 1 + 0 - 0 < 4; omega
      | ⟨3, _⟩ => show 63 ≤ t.val * 1 + k.val ∧ t.val * 1 + k.val - 63 < 64; omega
      | ⟨4, _⟩ => show 0 ≤ j.val * 1 + 0 ∧ j.val * 1 + 0 - 0 < 256; omega
  · rw [dif_neg hc, dif_neg]
    intro hin
    have h3 : 63 ≤ t.val * 1 + k.val := (hin 3).1
    omega

variable (m : (ℓ : Loc nD τ sig) → Buf (Elt Ideal) ℓ) (c : Dev nD)

/-- The argument arrays. -/
def A (b : Fin 2) (r : Fin 4096) (j : Fin 6160) : EReal := m ((c : Thread nD τ).loc main_arg0) (ix3 b r j)
def W (l : Fin 16) (j : Fin 1024) : EReal := m ((c : Thread nD τ).loc main_arg1) (ix3 0 l j)
def B (j : Fin 1024) : EReal := m ((c : Thread nD τ).loc main_arg2) (ix2 0 j)
def N (j : Fin 512) : EReal := m ((c : Thread nD τ).loc main_arg3) (ix2 0 j)

/-! ## The arrays before the loop -/

def gate : FVec Ideal S64x2x4x64x256 .f32 := entryContents preI m c (Proc.devRef .tc main_v23)
def cg : FVec Ideal S64x2x4x64x256 .f32 := entryContents preI m c (Proc.devRef .tc main_v24)
def qc : FVec Ideal S64x2x4x64x256 .f32 := entryContents preI m c (Proc.devRef .tc main_v17)
def kc : FVec Ideal S64x2x4x64x256 .f32 := entryContents preI m c (Proc.devRef .tc main_v19)
def qdB : FVec Ideal S64x2x4x64x256 .f32 := entryContents preI m c (Proc.devRef .tc main_v41_0)
def kiB : FVec Ideal S64x2x4x64x256 .f32 := entryContents preI m c (Proc.devRef .tc main_v41_1)
def keB : FVec Ideal S64x2x4x64x256 .f32 := entryContents preI m c (Proc.devRef .tc main_v41_2)
def vcB : FVec Ideal S64x2x4x64x512 .f32 := entryContents preI m c (Proc.devRef .tc main_v41_3)
def decB : FVec Ideal S64x2x4x256 .f32 := entryContents preI m c (Proc.devRef .tc main_v41_4)
def maskB : IVec S64x64 1 := entryContents preI m c (Proc.devRef .tc main_v41_5)
def stB : FVec Ideal S2x4x256x512 .f32 := entryContents preI m c (Proc.devRef .tc main_v41_7)

theorem a0_at (b : Fin 2) (r : Fin 4096) (j : Fin 6160) (p q : ℕ) (hp : p = r.val) (hq : q = j.val) : A m c b r j = Gla.at3 (A m c) b.val p q :=
  (Gla.at3_eq (A m c) b r j _ _ _ rfl hp hq).symm

/-- The reference's log-sigmoid, divided by 16. -/
theorem gate_law (z z' : EReal) (h : z = z') [Decidable (-z ≠ -z)] :
    Ideal.div (-if -z ≠ -z then -z else max (-z) 0 + Ideal.log1p (Ideal.exp (-FloatOps.absf (F := Ideal) (φ := .f32) (-z)))) (Ideal.ofBits .f32 1098907648#32) = Gla.lg z' := by
  subst h
  have hs : Ideal.ofBits .f32 1098907648#32 = ((16 : ℝ) : EReal) := by
    simp [Ideal.ofBits, Ideal.ieee, -EReal.coe_mul]; norm_num
  have ha : ∀ x : EReal, FloatOps.absf (F := Ideal) (φ := .f32) x = max x (-x) := fun _ => rfl
  rw [ha, if_neg (by simp)]
  have := Gla.lsg_softplus z
  simp only [sub_zero] at this
  rw [this, hs, Ideal.div_coe (by norm_num), Gla.lg]

theorem v23_at (n : Fin 64) (b : Fin 2) (e : Fin 4) (t : Fin 64) (j : Fin 256) :
    gate m c (ix5 n b e t j) = Gla.lg (Gla.Zs (A m c) (W m c) (B m c) b.val (64 * n.val + t.val) (256 * e.val + j.val)) := by
  unfold gate
  simp only [entryContents, afterL_cons, afterL_nil]
  after_reads_at
  refine gate_law _ _ ?_
  unfold Gla.Zs
  refine congrArg₂ (fun p q : EReal => p + q) (Finset.sum_congr rfl fun x _ => congrArg₂ (fun p q : EReal => p * q) (a0_at m c _ _ _ _ _ (by dsimp only; omega) rfl) ?_) ?_
  · exact (Gla.at2_eq (W m c) _ _ _ _ rfl (by dsimp only; omega)).symm
  · exact (Gla.at1_eq (B m c) _ _ (by dsimp only; omega)).symm

theorem v24_at (n : Fin 64) (b : Fin 2) (e : Fin 4) (t : Fin 64) (j : Fin 256) :
    cg m c (ix5 n b e t j) = Gla.cum (Gla.Zs (A m c) (W m c) (B m c) b.val) n.val t.val (256 * e.val + j.val) := by
  have e24 : cg m c =
      Host.reduceWindowAdd (s := S64x2x4x64x256) (t := S64x2x4x64x256) (φ := .f32) ![1, 1, 1, 64, 1] ![1, 1, 1, 1, 1] ![0, 0, 0, 63, 0] ![0, 0, 0, 0, 0]
        (gate m c) (broadcastInDim S_ ![] bcast_S_S_ (constant S_ .f32 0x00000000#32))
        reduceWindows_S64x2x4x64x256_S64x2x4x64x256_w1s1p0_0_w1s1p0_0_w1s1p0_0_w64s1p63_0_w1s1p0_0 h_S_ := by
    unfold cg
    simp only [entryContents, afterL_cons, afterL_nil]
    after_reads_simp
    rfl
  rw [e24, cumsum_at]
  · exact Finset.sum_congr rfl fun s _ => by rw [v23_at m c]
  · rw [Idealize.ShloMosaic.ValueIdx.eq_ix0 (Shape.Idx.first h_S_)]; pointwise []

theorem v17_at (n : Fin 64) (b : Fin 2) (e : Fin 4) (t : Fin 64) (j : Fin 256) :
    qc m c (ix5 n b e t j) = Gla.Qs (A m c) b.val (64 * n.val + t.val) (256 * e.val + j.val) * Ideal.ofBits .f32 0x3D800000#32 := by
  unfold qc
  simp only [entryContents, afterL_cons, afterL_nil]
  after_reads_at
  exact congrArg₂ (· * ·) (a0_at m c _ _ _ _ _ (by dsimp only; omega) (by dsimp only; omega)) rfl
theorem v19_at (n : Fin 64) (b : Fin 2) (e : Fin 4) (t : Fin 64) (j : Fin 256) :
    kc m c (ix5 n b e t j) = Gla.Ks (A m c) b.val (64 * n.val + t.val) (256 * e.val + j.val) := by
  unfold kc
  simp only [entryContents, afterL_cons, afterL_nil]
  after_reads_at
  exact a0_at m c _ _ _ _ _ (by dsimp only; omega) (by dsimp only; omega)

/-! ## The loop's operands -/

theorem qd_at (n : Fin 64) (b : Fin 2) (e : Fin 4) (t : Fin 64) (j : Fin 256) :
    qdB m c (ix5 n b e t j) =
      Gla.qd (Gla.Qs (A m c) b.val) (Gla.Zs (A m c) (W m c) (B m c) b.val) n.val t.val (256 * e.val + j.val) := by
  have e0 : qdB m c =
      mulf (qc m c) (Host.exp (cg m c)) := by
    unfold qdB
    simp only [entryContents, afterL_cons, afterL_nil]
    after_reads_simp
    rfl
  rw [e0]
  pointwise []
  rw [v17_at, v24_at, Gla.qd]
theorem ki_at (n : Fin 64) (b : Fin 2) (e : Fin 4) (t : Fin 64) (j : Fin 256) :
    kiB m c (ix5 n b e t j) =
      Gla.ki (Gla.Ks (A m c) b.val) (Gla.Zs (A m c) (W m c) (B m c) b.val) n.val t.val (256 * e.val + j.val) := by
  have e0 : kiB m c =
      mulf (kc m c) (Host.exp (Host.negf (cg m c))) := by
    unfold kiB
    simp only [entryContents, afterL_cons, afterL_nil]
    after_reads_simp
    rfl
  rw [e0]
  pointwise []
  rw [v19_at, v24_at, Gla.ki]
theorem ke_at (n : Fin 64) (b : Fin 2) (e : Fin 4) (t : Fin 64) (j : Fin 256) :
    keB m c (ix5 n b e t j) =
      Gla.ke (Gla.Ks (A m c) b.val) (Gla.Zs (A m c) (W m c) (B m c) b.val) n.val t.val (256 * e.val + j.val) := by
  have e0 : keB m c =
      mulf (kc m c) (Host.exp (subf (broadcastInDim S64x2x4x64x256 ![0, 1, 2, 3, 4] bcast_S64x2x4x1x256_S64x2x4x64x256_0_1_2_3_4
        (extractStridedSlice S64x2x4x1x256 ![0, 0, 0, 63, 0] (cg m c) slices_S64x2x4x64x256_S64x2x4x1x256_0_0_0_63_0))
        (cg m c))) := by
    unfold keB
    simp only [entryContents, afterL_cons, afterL_nil]
    after_reads_simp
    rfl
  rw [e0]
  pointwise []
  rw [v19_at, v24_at, v24_at, Gla.ke]
  rfl
theorem vc_at (n : Fin 64) (b : Fin 2) (e : Fin 4) (t : Fin 64) (a : Fin 512) :
    vcB m c (ix5 n b e t a) = Gla.Vs (A m c) b.val (64 * n.val + t.val) (512 * e.val + a.val) := by
  unfold vcB
  simp only [entryContents, afterL_cons, afterL_nil]
  after_reads_at
  simp only [id_eq]
  pointwise []
  exact a0_at m c _ _ _ _ _ (by dsimp only; omega) (by dsimp only; omega)
theorem dec_at (n : Fin 64) (b : Fin 2) (e : Fin 4) (j : Fin 256) :
    decB m c (ix4 n b e j) =
      Ideal.exp (Gla.cum (Gla.Zs (A m c) (W m c) (B m c) b.val) n.val 63 (256 * e.val + j.val)) := by
  have e0 : decB m c =
      Host.exp (shapeCast S64x2x4x256 (extractStridedSlice S64x2x4x1x256 ![0, 0, 0, 63, 0] (cg m c)
        slices_S64x2x4x64x256_S64x2x4x1x256_0_0_0_63_0) shapeCasts_S64x2x4x1x256_S64x2x4x256) := by
    unfold decB
    simp only [entryContents, afterL_cons, afterL_nil]
    after_reads_simp
    rfl
  rw [e0]
  pointwise []
  rw [v24_at]
  rfl
theorem mask_word : ∀ s t : Fin 64, Scalar.select (IntOp.cmpi CmpIPredicate.sge (IntOp.addi (BitVec.ofNat 32 t.val) 0#32) (BitVec.ofNat 32 s.val)) 1#1 0#1 = if s.val ≤ t.val then 1#1 else 0#1 := by
  decide +kernel
theorem mask_at (s t : Fin 64) :
    maskB m c (ix2 t s) = if s.val ≤ t.val then 1#1 else 0#1 := by
  have e0 : maskB m c = (select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1)) : IVec S64x64 1) := by
    unfold maskB
    simp only [entryContents, afterL_cons, afterL_nil]
    after_reads_simp
    rfl
  rw [e0]
  pointwise []
  exact mask_word s t
theorem zero_at (b : Fin 2) (e : Fin 4) (k : Fin 256) (a : Fin 512) :
    stB m c (ix4 b e k a) = 0 := by
  have e0 : stB m c = broadcastInDim S2x4x256x512 ![] bcast_S_S2x4x256x512 (constant S_ .f32 0x00000000#32) := by
    unfold stB
    simp only [entryContents, afterL_cons, afterL_nil]
    after_reads_simp
    rfl
  rw [e0]
  pointwise []

end Cert.ReferenceIdeal.Entry

end
-- ==== Proof.RefLoop.lean ====
/-
  THE REFERENCE'S LOOP AND RESULT. One trip of the loop over the chunks is one step of the recurrence, and the operations after it normalise and gate
  what the trips have written.
-/
module

public import proofs.«01_k».proof.Proof.RefEntry
public import Idealize.ShloMosaic.Lib.DynamicIndex

@[expose] public section

set_option maxRecDepth 16384

noncomputable section

namespace Cert.ReferenceIdeal.Loop

open Cert.ReferenceIdeal Cert.ReferenceIdeal.Gen Cert.ReferenceIdeal.Value Cert.ReferenceIdeal.Entry Idealize.ShloMosaic Idealize.ShloMosaic.TcCoe Idealize.SL.Sem Idealize.ShloMosaic.StableHlo

/-! ## A chunk of an operand -/

/-- The loop's counter. -/
def ctr (k : ℕ) : IVec S_ 32 := fun _ => BitVec.ofNat 32 k
theorem toInt_ctr (k : ℕ) (hk : k < 64) (i) : (ctr k i).toInt = (k : Int) := toInt_ofNat_of_lt (by omega)
theorem toInt_zero (i) : ((constantI S_ 32 0#32 : IVec S_ 32) i).toInt = ((0 : ℕ) : Int) := rfl

def rowK (x : FVec Ideal S64x2x4x64x256 .f32) (k : Fin 64) : FVec Ideal S2x4x64x256 .f32 := fun i => x (ix5 k (i 0) (i 1) (i 2) (i 3))
def rowV (x : FVec Ideal S64x2x4x64x512 .f32) (k : Fin 64) : FVec Ideal S2x4x64x512 .f32 := fun i => x (ix5 k (i 0) (i 1) (i 2) (i 3))
def rowD (x : FVec Ideal S64x2x4x256 .f32) (k : Fin 64) : FVec Ideal S2x4x256 .f32 := fun i => x (ix4 k (i 0) (i 1) (i 2))

theorem rowK_eq (x : FVec Ideal S64x2x4x64x256 .f32) (k : Fin 64) :
    shapeCast S2x4x64x256 (Host.dynamicSlice S1x2x4x64x256 x (fun q => (((![ctr k.val, constantI S_ 32 0#32, constantI S_ 32 0#32, constantI S_ 32 0#32, constantI S_ 32 0#32] : Fin 5 → (⟨S_, .i32⟩ : BufTy).Contents (Elt Ideal))) q (Shape.Idx.first h_S_)).toInt)
      sliceFits_S64x2x4x64x256_S1x2x4x64x256) shapeCasts_S1x2x4x64x256_S2x4x64x256 = rowK x k := by
  have hk := k.isLt
  rw [Host.dynamicSlice_eq_extractStridedSlice S1x2x4x64x256 x _ ![k.val, 0, 0, 0, 0] _ ⟨rfl, fun a => by
      match a with
      | ⟨0, _⟩ => show k.val + 1 ≤ 64; omega
      | ⟨1, _⟩ => show 0 + 2 ≤ 2; omega
      | ⟨2, _⟩ => show 0 + 4 ≤ 4; omega
      | ⟨3, _⟩ => show 0 + 64 ≤ 64; omega
      | ⟨4, _⟩ => show 0 + 256 ≤ 256; omega⟩ (fun a => by
      match a with
      | ⟨0, _⟩ => exact toInt_ctr k.val hk (Shape.Idx.first h_S_)
      | ⟨1, _⟩ => rfl
      | ⟨2, _⟩ => rfl
      | ⟨3, _⟩ => rfl
      | ⟨4, _⟩ => rfl)]
  funext i
  pointwise [rowK]
theorem rowV_eq (x : FVec Ideal S64x2x4x64x512 .f32) (k : Fin 64) :
    shapeCast S2x4x64x512 (Host.dynamicSlice S1x2x4x64x512 x (fun q => (((![ctr k.val, constantI S_ 32 0#32, constantI S_ 32 0#32, constantI S_ 32 0#32, constantI S_ 32 0#32] : Fin 5 → (⟨S_, .i32⟩ : BufTy).Contents (Elt Ideal))) q (Shape.Idx.first h_S_)).toInt)
      sliceFits_S64x2x4x64x512_S1x2x4x64x512) shapeCasts_S1x2x4x64x512_S2x4x64x512 = rowV x k := by
  have hk := k.isLt
  rw [Host.dynamicSlice_eq_extractStridedSlice S1x2x4x64x512 x _ ![k.val, 0, 0, 0, 0] _ ⟨rfl, fun a => by
      match a with
      | ⟨0, _⟩ => show k.val + 1 ≤ 64; omega
      | ⟨1, _⟩ => show 0 + 2 ≤ 2; omega
      | ⟨2, _⟩ => show 0 + 4 ≤ 4; omega
      | ⟨3, _⟩ => show 0 + 64 ≤ 64; omega
      | ⟨4, _⟩ => show 0 + 512 ≤ 512; omega⟩ (fun a => by
      match a with
      | ⟨0, _⟩ => exact toInt_ctr k.val hk (Shape.Idx.first h_S_)
      | ⟨1, _⟩ => rfl
      | ⟨2, _⟩ => rfl
      | ⟨3, _⟩ => rfl
      | ⟨4, _⟩ => rfl)]
  funext i
  pointwise [rowV]
theorem rowD_eq (x : FVec Ideal S64x2x4x256 .f32) (k : Fin 64) :
    shapeCast S2x4x256 (Host.dynamicSlice S1x2x4x256 x (fun q => (((![ctr k.val, constantI S_ 32 0#32, constantI S_ 32 0#32, constantI S_ 32 0#32] : Fin 4 → (⟨S_, .i32⟩ : BufTy).Contents (Elt Ideal))) q (Shape.Idx.first h_S_)).toInt)
      sliceFits_S64x2x4x256_S1x2x4x256) shapeCasts_S1x2x4x256_S2x4x256 = rowD x k := by
  have hk := k.isLt
  rw [Host.dynamicSlice_eq_extractStridedSlice S1x2x4x256 x _ ![k.val, 0, 0, 0] _ ⟨rfl, fun a => by
      match a with
      | ⟨0, _⟩ => show k.val + 1 ≤ 64; omega
      | ⟨1, _⟩ => show 0 + 2 ≤ 2; omega
      | ⟨2, _⟩ => show 0 + 4 ≤ 4; omega
      | ⟨3, _⟩ => show 0 + 256 ≤ 256; omega⟩ (fun a => by
      match a with
      | ⟨0, _⟩ => exact toInt_ctr k.val hk (Shape.Idx.first h_S_)
      | ⟨1, _⟩ => rfl
      | ⟨2, _⟩ => rfl
      | ⟨3, _⟩ => rfl)]
  funext i
  pointwise [rowD]
/-- The write of a chunk's rows. -/
theorem write_at (x : FVec Ideal S64x2x4x64x512 .f32) (u : FVec Ideal S2x4x64x512 .f32) (k : Fin 64) (n : Fin 64) (b : Fin 2) (e : Fin 4) (t : Fin 64) (a : Fin 512) :
    Host.dynamicUpdateSlice x (broadcastInDim S1x2x4x64x512 ![1, 2, 3, 4] bcast_S2x4x64x512_S1x2x4x64x512_1_2_3_4 u) (fun q => (((![ctr k.val, constantI S_ 32 0#32, constantI S_ 32 0#32, constantI S_ 32 0#32, constantI S_ 32 0#32] : Fin 5 → (⟨S_, .i32⟩ : BufTy).Contents (Elt Ideal))) q (Shape.Idx.first h_S_)).toInt)
      updateFits_S64x2x4x64x512_S1x2x4x64x512 (ix5 n b e t a) = if n = k then u (ix4 b e t a) else x (ix5 n b e t a) := by
  have hk := k.isLt
  refine (congrFun (Host.dynamicUpdateSlice_eq_updateSlice x (broadcastInDim S1x2x4x64x512 ![1, 2, 3, 4] bcast_S2x4x64x512_S1x2x4x64x512_1_2_3_4 u) (fun q => (((![ctr k.val, constantI S_ 32 0#32, constantI S_ 32 0#32, constantI S_ 32 0#32, constantI S_ 32 0#32] : Fin 5 → (⟨S_, .i32⟩ : BufTy).Contents (Elt Ideal))) q (Shape.Idx.first h_S_)).toInt) updateFits_S64x2x4x64x512_S1x2x4x64x512 ![k.val, 0, 0, 0, 0] (fun a => by
      match a with
      | ⟨0, _⟩ => show (min (max (ctr k.val (Shape.Idx.first h_S_)).toInt 0) ((64 - 1 : ℕ) : Int)).toNat = k.val; rw [toInt_ctr k.val hk]; omega
      | ⟨1, _⟩ => rfl
      | ⟨2, _⟩ => rfl
      | ⟨3, _⟩ => rfl
      | ⟨4, _⟩ => rfl) ⟨rfl, fun a => by
      match a with
      | ⟨0, _⟩ => show k.val + 1 ≤ 64; omega
      | ⟨1, _⟩ => show 0 + 2 ≤ 2; omega
      | ⟨2, _⟩ => show 0 + 4 ≤ 4; omega
      | ⟨3, _⟩ => show 0 + 64 ≤ 64; omega
      | ⟨4, _⟩ => show 0 + 512 ≤ 512; omega⟩) _).trans ?_
  pointwise []
  by_cases hn : n = k
  · subst hn
    rw [dif_pos ⟨le_refl _, Nat.lt_succ_self _⟩, if_pos rfl]
  · rw [dif_neg (fun h => hn (Fin.ext (by omega))), if_neg hn]

variable (m : (ℓ : Loc nD τ sig) → Buf (Elt Ideal) ℓ) (c : Dev nD)

/-- What the loop carries before trip `k`. -/
structure Carried (k : ℕ) (V : Valuation τ sig (Elt Ideal)) : Prop where
  qd : V (Proc.devRef .tc main_v41_0) = qdB m c
  ki : V (Proc.devRef .tc main_v41_1) = kiB m c
  ke : V (Proc.devRef .tc main_v41_2) = keB m c
  vc : V (Proc.devRef .tc main_v41_3) = vcB m c
  dec : V (Proc.devRef .tc main_v41_4) = decB m c
  mask : V (Proc.devRef .tc main_v41_5) = maskB m c
  ctr : V (Proc.devRef .tc main_v41_6) = ctr k
  st : ∀ (b : Fin 2) (e : Fin 4) (i : Fin 256) (a : Fin 512), (show FVec Ideal S2x4x256x512 .f32 from V (Proc.devRef .tc main_v41_7)) (ix4 b e i a) =
    Gla.S (Gla.Ks (A m c) b.val) (Gla.Vs (A m c) b.val) (Gla.Zs (A m c) (W m c) (B m c) b.val) e.val k i.val a.val
  out : ∀ (n : Fin 64), n.val < k → ∀ (b : Fin 2) (e : Fin 4) (t : Fin 64) (a : Fin 512), (show FVec Ideal S64x2x4x64x512 .f32 from V (Proc.devRef .tc main_v41_8)) (ix5 n b e t a) =
    Gla.o (Gla.Qs (A m c) b.val) (Gla.Ks (A m c) b.val) (Gla.Vs (A m c) b.val) (Gla.Zs (A m c) (W m c) (B m c) b.val) e.val n.val t.val a.val

theorem carried_zero : Carried m c 0 (entryContents preI m c) where
  qd := rfl
  ki := rfl
  ke := rfl
  vc := rfl
  dec := rfl
  mask := rfl
  ctr := ctr_entry m c
  st b e i a := zero_at m c b e i a
  out n h := absurd h (Nat.not_lt_zero _)

theorem v64_eq (k : Fin 64) (V : Valuation τ sig (Elt Ideal)) (h : Carried m c k.val V) : res_main_while0b_v64 V = rowK (qdB m c) k := by
  unfold res_main_while0b_v64
  rw [h.qd, h.ctr]
  exact rowK_eq _ k
theorem v67_eq (k : Fin 64) (V : Valuation τ sig (Elt Ideal)) (h : Carried m c k.val V) : res_main_while0b_v67 V = rowV (vcB m c) k := by
  unfold res_main_while0b_v67
  rw [h.vc, h.ctr]
  exact rowV_eq _ k

theorem step7_at (k : Fin 64) (V : Valuation τ sig (Elt Ideal)) (h : Carried m c k.val V) (b : Fin 2) (e : Fin 4) (i : Fin 256) (a : Fin 512) :
    (show FVec Ideal S2x4x256x512 .f32 from step_main_v41_7 V) (ix4 b e i a) =
    Gla.S (Gla.Ks (A m c) b.val) (Gla.Vs (A m c) b.val) (Gla.Zs (A m c) (W m c) (B m c) b.val) e.val (k.val + 1) i.val a.val := by
  have hs := h.st b e i a
  unfold step_main_v41_7
  rw [v67_eq m c k V h, h.ke, h.dec, h.ctr]
  erw [rowK_eq, rowD_eq]
  revert hs
  generalize V (Proc.devRef .tc main_v41_7) = st
  intro hs
  simp only [id_eq]
  pointwise [rowK, rowD, rowV]
  rw [Gla.S, ← hs, dec_at]
  refine congrArg₂ (fun p q : EReal => p + q) rfl (Finset.sum_congr rfl fun s _ => ?_)
  rw [ke_at, vc_at]

theorem step8_at (k : Fin 64) (V : Valuation τ sig (Elt Ideal)) (h : Carried m c k.val V) (n : Fin 64) (b : Fin 2) (e : Fin 4) (t : Fin 64) (a : Fin 512) :
    (show FVec Ideal S64x2x4x64x512 .f32 from step_main_v41_8 V) (ix5 n b e t a) = if n = k then
    Gla.o (Gla.Qs (A m c) b.val) (Gla.Ks (A m c) b.val) (Gla.Vs (A m c) b.val) (Gla.Zs (A m c) (W m c) (B m c) b.val) e.val k.val t.val a.val
    else (show FVec Ideal S64x2x4x64x512 .f32 from V (Proc.devRef .tc main_v41_8)) (ix5 n b e t a) := by
  have hs := h.st b e
  unfold step_main_v41_8
  rw [v67_eq m c k V h, v64_eq m c k V h, h.ki, h.mask, h.ctr]
  erw [rowK_eq]
  revert hs
  generalize V (Proc.devRef .tc main_v41_7) = st
  generalize V (Proc.devRef .tc main_v41_8) = out
  intro hs
  simp only [id_eq]
  refine (write_at _ _ k n b e t a).trans (if_congr Iff.rfl ?_ rfl)
  pointwise [rowK, rowV]
  rw [Gla.o]
  refine congrArg₂ (fun p q : EReal => p + q) (Finset.sum_congr rfl fun s _ => ?_) (Finset.sum_congr rfl fun i _ => ?_)
  · rw [mask_at, vc_at]
    by_cases hst : s.val ≤ t.val
    · rw [if_pos hst, if_pos hst]
      refine congrArg₂ (fun p q : EReal => p * q) (Finset.sum_congr rfl fun i _ => ?_) rfl
      rw [qd_at, ki_at]
    · rw [if_neg hst, if_neg hst]
      rfl
  · rw [← hs, qd_at]

theorem carried_succ (k : Fin 64) (V : Valuation τ sig (Elt Ideal)) (h : Carried m c k.val V) : Carried m c (k.val + 1) (STEP V) where
  qd := (STEP_main_v41_0 V).trans h.qd
  ki := (STEP_main_v41_1 V).trans h.ki
  ke := (STEP_main_v41_2 V).trans h.ke
  vc := (STEP_main_v41_3 V).trans h.vc
  dec := (STEP_main_v41_4 V).trans h.dec
  mask := (STEP_main_v41_5 V).trans h.mask
  ctr := by
    rw [STEP_main_v41_6, step_main_v41_6, h.ctr]
    funext i
    show BitVec.ofNat 32 k.val + 1#32 = BitVec.ofNat 32 (k.val + 1)
    rw [BitVec.ofNat_add]
  st b e i a := by rw [STEP_main_v41_7]; exact step7_at m c k V h b e i a
  out n hn b e t a := by
    rw [STEP_main_v41_8]
    refine (step8_at m c k V h n b e t a).trans ?_
    by_cases hk : n = k
    · rw [if_pos hk, hk]
    · rw [if_neg hk]; exact h.out n (by have : n.val ≠ k.val := fun q => hk (Fin.ext q); omega) b e t a

theorem carried : ∀ k ≤ 64, Carried m c k (STEP^[k] (entryContents preI m c))
  | 0, _ => carried_zero m c
  | k + 1, hk => by
    rw [Function.iterate_succ_apply']
    exact carried_succ m c ⟨k, by omega⟩ _ (carried k (by omega))

/-! ## The result -/

theorem out_at (V : Valuation τ sig (Elt Ideal)) (v : FVec Ideal S64x2x4x64x512 .f32) (hv : V (Proc.devRef .tc main_v41_8) = v)
    (h0 : V (Proc.devRef .tc main_arg0) = m ((c : Thread nD τ).loc main_arg0)) (h3 : V (Proc.devRef .tc main_arg3) = m ((c : Thread nD τ).loc main_arg3))
    (h : ∀ (n : Fin 64) (b : Fin 2) (e : Fin 4) (t : Fin 64) (a : Fin 512), v (ix5 n b e t a) =
      Gla.o (Gla.Qs (A m c) b.val) (Gla.Ks (A m c) b.val) (Gla.Vs (A m c) b.val) (Gla.Zs (A m c) (W m c) (B m c) b.val) e.val n.val t.val a.val)
    (n : Fin 8192) (l : Fin 2048) :
    (show FVec Ideal S8192x2048 .bf16 from out_main_v63 V) (ix2 n l) = Gla.res (A m c) (W m c) (B m c) (N m c) n.val l.val := by
  unfold out_main_v63
  rw [hv, h0, h3]
  pointwise []
  simp only [h]
  have e3 : n.val % 4096 % 64 = n.val % 64 := by omega
  have hR : ∀ (p : Fin 2) (q : Fin 4096) (r : Fin 6160), p.val = n.val / 4096 → q.val = n.val % 4096 → r.val = 4096 + l.val →
      m ((c : Thread nD τ).loc main_arg0) (ix3 p q r) = Gla.Rs (A m c) (n.val / 4096) (64 * (n.val % 4096 / 64) + n.val % 64) (512 * (l.val / 512) + l.val % 512) := by
    intro p q r hp hq hr
    exact (a0_at m c p q r (64 * (n.val % 4096 / 64) + n.val % 64) (4096 + (512 * (l.val / 512) + l.val % 512)) (by omega) (by omega)).trans (by rw [hp]; rfl)
  have hN : ∀ p : Fin 512, p.val = l.val % 512 → m ((c : Thread nD τ).loc main_arg3) (ix2 0 p) = Gla.at1 (N m c) (l.val % 512) := fun p hp => (Gla.at1_eq (N m c) p _ hp.symm).symm
  unfold Gla.res Gla.out
  rw [e3, hR _ _ _ rfl rfl rfl, hN _ rfl]

theorem result (n : Fin 8192) (l : Fin 2048) :
    (show FVec Ideal S8192x2048 .bf16 from out_main_v63 (STEP^[64] (entryContents preI m c))) (ix2 n l) = Gla.res (A m c) (W m c) (B m c) (N m c) n.val l.val :=
  out_at m c _ _ rfl (iter_main_arg0 m c 64) (iter_main_arg3 m c 64) (fun n => (carried m c 64 (le_refl _)).out n n.isLt) n l

/-- The reference's result array. -/
def resArr : S8192x2048.Idx → EReal := fun i => Gla.res (A m c) (W m c) (B m c) (N m c) (i 0).val (i 1).val

theorem run_res (ρ : Dev nD → PrngReg) : θ_run (defs (F := Ideal)) (onTc (τ := τ) (main (F := Ideal))) ⟨m, fun _ => 0, ρ⟩ fun r => ∀ c : Dev nD,
      r.2.mem ((c.tc : Thread nD τ).loc main_v63) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun i => by rw [ValueIdx.eq_ix2 i]; exact result m c (i 0) (i 1)), (h c).2⟩) (run m ρ)

end Cert.ReferenceIdeal.Loop

end
-- ==== Proof.Algebraic.lean ====
/-
  THE RECURRENCE AND ITS REFERENCE COMPUTE THE SAME ARRAY.
-/
module

public import proofs.«01_k».proof.Proof.KernelValue
public import proofs.«01_k».proof.Proof.RefLoop
public import proofs.«01_k».proof.Defs
public import Idealize.ShloMosaic.Lib.Claim

@[expose] public section

noncomputable section

namespace Cert.Proof

open Idealize.ShloMosaic Idealize.ShloMosaic.TcCoe Idealize.SL.Sem

/-- The kernel's result array. -/
def resArr (m : (ℓ : Loc Cert.KernelIdeal.nD Cert.KernelIdeal.τ Cert.KernelIdeal.sig) → Buf (Elt Ideal) ℓ) (c : Dev Cert.KernelIdeal.nD) : Cert.KernelIdeal.S8192x2048.Idx → EReal :=
  fun i => Gla.res (Cert.KernelIdeal.Host.A m c) (Cert.KernelIdeal.Host.W m c) (Cert.KernelIdeal.Host.B m c) (Cert.KernelIdeal.Host.N m c) (i 0).val (i 1).val

section
open Cert.KernelIdeal Cert.KernelIdeal.Gen
theorem run_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v12) = resArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (Result.final m c), (h c).2⟩) (Value.run_blocks m ρ)
end

theorem algebraic : Cert.algebraic_KernelIdeal_ReferenceIdeal := by
  pair_intro
  · run_from run_res m g
  · run_from Cert.ReferenceIdeal.Loop.run_res m' g'
    obtain ⟨h0, h1, h2, h3⟩ := hagree c
    have eA : Cert.ReferenceIdeal.Entry.A m' c = Cert.KernelIdeal.Host.A m c := funext fun b => funext fun r => funext fun j => congrFun h0 _
    have eW : Cert.ReferenceIdeal.Entry.W m' c = Cert.KernelIdeal.Host.W m c := funext fun l => funext fun j => congrFun h1 _
    have eB : Cert.ReferenceIdeal.Entry.B m' c = Cert.KernelIdeal.Host.B m c := funext fun j => congrFun h2 _
    have eN : Cert.ReferenceIdeal.Entry.N m' c = Cert.KernelIdeal.Host.N m c := funext fun j => congrFun h3 _
    unfold Cert.ReferenceIdeal.Loop.resArr resArr
    rw [eA, eW, eB, eN]

end Cert.Proof

end
-- ==== Proof.Down.lean ====
/-
  THE DOWN PROJECTION of the feed-forward part, added to the residual: the call's result array and the reference's, read at a row and a column.
-/
module

public import proofs.«01_k».proof.Proof.Spec
public import proofs.«01_k».proof.Proof.Gen.KernelDownIdeal.Value
public import proofs.«01_k».proof.Proof.Gen.ReferenceDownIdeal.Run
public import Idealize.ShloMosaic.Lib.Pipeline.ValueKit
public import Idealize.ShloMosaic.Lib.Pointwise
public import Idealize.ShloMosaic.Lib.StableHlo.ReadAt

@[expose] public section

set_option maxRecDepth 16384

noncomputable section

/-! ## The result -/

namespace Cert.Down

open Cert.Gla

/-- The result at row `r` and column `j`: the residual plus the product, over the two sequences of 4096 rows. -/
def res (H : Fin 2 → Fin 4096 → Fin 2048 → EReal) (A : Fin 2 → Fin 4096 → Fin 5632 → EReal) (W : Fin 2 → Fin 5632 → Fin 2048 → EReal) (r j : ℕ) : EReal :=
  at3 H (r / 4096) (r % 4096) j + ∑ k : Fin 5632, at3 A (r / 4096) (r % 4096) k.val * at3 W 0 k.val j

end Cert.Down

/-! ## The call -/

namespace Cert.KernelDownIdeal.Result

open Cert.KernelDownIdeal Cert.KernelDownIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 16, 0] ∧ win0_1.index t = ![0, 0, t.val / 16] ∧ win0_2.index t = ![t.val % 16, t.val / 16] ∧ win0_3.index t = ![t.val % 16, t.val / 16] :=
  (by decide +kernel : ∀ t : Fin grid0.N, _)

/-- The argument arrays. -/
def H (b : Fin 2) (r : Fin 4096) (j : Fin 2048) : EReal := m ((c : Thread nD τ).loc main_arg0) (ix3 b r j)
def A (b : Fin 2) (r : Fin 4096) (k : Fin 5632) : EReal := m ((c : Thread nD τ).loc main_arg1) (ix3 b r k)
def W (b : Fin 2) (k : Fin 5632) (j : Fin 2048) : EReal := m ((c : Thread nD τ).loc main_arg2) (ix3 b k j)

theorem v1_at (n : Fin 8192) (k : Fin 5632) : (V m c main_v1 : Vec Ideal S8192x5632 .bf16) (ix2 n k) = Gla.at3 (A m c) (n.val / 4096) (n.val % 4096) k.val := by
  unfold V
  try simp only [List.flatten_cons, List.flatten_nil, List.append_nil, List.cons_append, List.nil_append]
  after_reads_at
  exact (Gla.at3_eq (A m c) _ _ _ _ _ _ rfl rfl rfl).symm
theorem v3_at (k : Fin 5632) (j : Fin 2048) : (V m c main_v3 : Vec Ideal S1x5632x2048 .bf16) (ix3 0 k j) = Gla.at3 (W m c) 0 k.val j.val := by
  unfold V
  try simp only [List.flatten_cons, List.flatten_nil, List.append_nil, List.cons_append, List.nil_append]
  after_reads_at
  exact (Gla.at3_eq (W m c) _ _ _ _ _ _ rfl rfl rfl).symm
theorem v4_at (n : Fin 8192) (j : Fin 2048) : (V m c main_v4 : Vec Ideal S8192x2048 .f32) (ix2 n j) = Gla.at3 (H m c) (n.val / 4096) (n.val % 4096) j.val := by
  unfold V
  try simp only [List.flatten_cons, List.flatten_nil, List.append_nil, List.cons_append, List.nil_append]
  after_reads_at
  exact (Gla.at3_eq (H m c) _ _ _ _ _ _ rfl rfl rfl).symm

variable (t : Fin cfg0.N)

theorem a_at (i : Fin 512) (k : Fin 5632) : (iblk m c 0 t : Vec Ideal S512x5632 .bf16) (ix2 i k) = Gla.at3 (A m c) ((t.val % 16 * 512 + i.val) / 4096) ((t.val % 16 * 512 + i.val) % 4096) k.val := by
  have e : (iblk m c 0 t : Vec Ideal S512x5632 .bf16) (ix2 i k) = (V m c main_v1 : Vec Ideal S8192x5632 .bf16) (ix2 ⟨t.val % 16 * 512 + i.val, by omega⟩ k) := by
    blk_ext [iblk, idx t]
  rw [e, v1_at]
theorem w_at (k : Fin 5632) (j : Fin 1024) : (iblk m c 1 t : Vec Ideal S1x5632x1024 .bf16) (ix3 0 k j) = Gla.at3 (W m c) 0 k.val (t.val / 16 * 1024 + j.val) := by
  have ht : t.val < 32 := lt_of_lt_of_eq t.isLt N_0
  have e : (iblk m c 1 t : Vec Ideal S1x5632x1024 .bf16) (ix3 0 k j) = (V m c main_v3 : Vec Ideal S1x5632x2048 .bf16) (ix3 0 k ⟨t.val / 16 * 1024 + j.val, by omega⟩) := by
    blk_ext [iblk, idx t]
  rw [e, v3_at]
theorem h_at (i : Fin 512) (j : Fin 1024) : (iblk m c 2 t : Vec Ideal S512x1024 .f32) (ix2 i j) = Gla.at3 (H m c) ((t.val % 16 * 512 + i.val) / 4096) ((t.val % 16 * 512 + i.val) % 4096) (t.val / 16 * 1024 + j.val) := by
  have ht : t.val < 32 := lt_of_lt_of_eq t.isLt N_0
  have e : (iblk m c 2 t : Vec Ideal S512x1024 .f32) (ix2 i j) = (V m c main_v4 : Vec Ideal S8192x2048 .f32) (ix2 ⟨t.val % 16 * 512 + i.val, by omega⟩ ⟨t.val / 16 * 1024 + j.val, by omega⟩) := by
    blk_ext [iblk, idx t]
  rw [e, v4_at]

theorem pay_at (x0 : Vec Ideal S512x5632 .bf16) (x1 : Vec Ideal S1x5632x1024 .bf16) (x2 : Vec Ideal S512x1024 .f32) (i : Fin 512) (j : Fin 1024) :
    k0_pay1 x0 x1 x2 (ix2 i j) = x2 (ix2 i j) + ∑ k : Fin 5632, x0 (ix2 i k) * x1 (ix3 0 k j) := by
  pointwise [k0_pay1]

theorem point (i : Fin 512) (j : Fin 1024) :
    k0_pay1 (iblk m c 0 t) (iblk m c 1 t) (iblk m c 2 t) (ix2 i j) = Down.res (H m c) (A m c) (W m c) (t.val % 16 * 512 + i.val) (t.val / 16 * 1024 + j.val) := by
  refine (pay_at _ _ _ i j).trans ?_
  unfold Down.res
  rw [h_at]
  refine congrArg _ (Finset.sum_congr rfl fun k _ => ?_)
  rw [a_at, w_at]

theorem final : (dats m 0 c).arrAt 3 (cfgs 0).N = fun i : S8192x2048.Idx => Down.res (H m c) (A m c) (W m c) (i 0).val (i 1).val := by
  refine (dats m 0 c).arrAt_eq_of_covers 3 _ (by decide +kernel) fun t _ y => ?_
  blk_simp
  rw [after0_3]
  frame_out
  refine Eq.trans (b := k0_pay1 (iblk m c 0 t) (iblk m c 1 t) (iblk m c 2 t) (ix2 (y 0) (y 1))) ?_ ((point m c t _ _).trans ?_)
  · refine congrArg _ ?_
    funext a
    match a with
    | ⟨0, _⟩ => rfl
    | ⟨1, _⟩ => rfl
  · blk_simp [idx t]

end Cert.KernelDownIdeal.Result

/-! ## The reference -/

namespace Cert.ReferenceDownIdeal.Result

open Cert.ReferenceDownIdeal Cert.ReferenceDownIdeal.Gen Idealize.ShloMosaic Idealize.ShloMosaic.TcCoe Idealize.SL.Sem

def REF (h : FVec Ideal S2x4096x2048 .f32) (a : FVec Ideal S2x4096x5632 .f32) (w : FVec Ideal S2x5632x2048 .f32) : FVec Ideal S8192x2048 .f32 :=
  shapeCast _ (addf h (Host.dotGeneral (φ₁ := .f32) (φ₂ := .f32) dot_S2x4096x5632_S5632x2048_S2x4096x2048_2_0_01_1_n_n none a (shapeCast S5632x2048 (extractStridedSlice S1x5632x2048 ![0, 0, 0] w slices_S2x5632x2048_S1x5632x2048_0_0_0) shapeCasts_S1x5632x2048_S5632x2048))) shapeCasts_S2x4096x2048_S8192x2048

theorem ref_at (h : FVec Ideal S2x4096x2048 .f32) (a : FVec Ideal S2x4096x5632 .f32) (w : FVec Ideal S2x5632x2048 .f32) :
    REF h a w = fun i => Down.res (fun b r j => h (ix3 b r j)) (fun b r j => a (ix3 b r j)) (fun b r j => w (ix3 b r j)) (i 0).val (i 1).val := by
  funext i
  unfold Down.res
  pointwise [REF]
  refine congrArg₂ (· + ·) (Gla.at3_eq (fun b r j => h (ix3 b r j)) _ _ _ _ _ _ rfl rfl rfl).symm (Finset.sum_congr rfl fun k _ => ?_)
  exact congrArg₂ (· * ·) (Gla.at3_eq (fun b r j => a (ix3 b r j)) _ _ _ _ _ _ rfl rfl rfl).symm (Gla.at3_eq (fun b r j => w (ix3 b r j)) _ _ _ _ _ _ rfl rfl rfl).symm

end Cert.ReferenceDownIdeal.Result

end
-- ==== Proof.In.lean ====
/-
  THE COMBINED PROJECTION into the gated linear attention: the call's result array and the reference's, read at a row and a column.
-/
module

public import proofs.«01_k».proof.Proof.Spec
public import proofs.«01_k».proof.Proof.Gen.KernelInIdeal.Value
public import proofs.«01_k».proof.Proof.Gen.ReferenceInIdeal.Run
public import Idealize.ShloMosaic.Lib.Pipeline.ValueKit
public import Idealize.ShloMosaic.Lib.Pointwise
public import Idealize.ShloMosaic.Lib.StableHlo.ReadAt

@[expose] public section

set_option maxRecDepth 16384

noncomputable section

namespace Cert.In

open Cert.Gla

/-- The result at row `r` and column `j`. -/
def res (A : Fin 2 → Fin 4096 → Fin 2048 → EReal) (W : Fin 1 → Fin 2048 → Fin 6160 → EReal) (r j : ℕ) : EReal :=
  ∑ k : Fin 2048, at3 A (r / 4096) (r % 4096) k.val * at3 W 0 k.val j

end Cert.In

/-! ## The call -/

namespace Cert.KernelInIdeal.Result

open Cert.KernelInIdeal Cert.KernelInIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 8, 0] ∧ win0_1.index t = ![0, 0, t.val / 8] ∧ win0_2.index t = ![t.val % 8, t.val / 8] :=
  (by decide +kernel : ∀ t : Fin grid0.N, _)

/-- The argument arrays. -/
def A (b : Fin 2) (r : Fin 4096) (k : Fin 2048) : EReal := m ((c : Thread nD τ).loc main_arg0) (ix3 b r k)
def W (b : Fin 1) (k : Fin 2048) (j : Fin 6160) : EReal := m ((c : Thread nD τ).loc main_arg1) (ix3 b k j)

theorem v1_at (n : Fin 8192) (k : Fin 2048) : (V m c main_v1 : Vec Ideal S8192x2048 .bf16) (ix2 n k) = Gla.at3 (A m c) (n.val / 4096) (n.val % 4096) k.val := by
  unfold V
  try simp only [List.flatten_cons, List.flatten_nil, List.append_nil, List.cons_append, List.nil_append]
  after_reads_at
  exact (Gla.at3_eq (A m c) _ _ _ _ _ _ rfl rfl rfl).symm
theorem v2_at (k : Fin 2048) (j : Fin 6160) : (V m c main_v2 : Vec Ideal S1x2048x6160 .bf16) (ix3 0 k j) = Gla.at3 (W m c) 0 k.val j.val := by
  unfold V
  try simp only [List.flatten_cons, List.flatten_nil, List.append_nil, List.cons_append, List.nil_append]
  after_reads_at
  exact (Gla.at3_eq (W m c) _ _ _ _ _ _ rfl rfl rfl).symm

variable (t : Fin cfg0.N)

theorem a_at (i : Fin 1024) (k : Fin 2048) : (iblk m c 0 t : Vec Ideal S1024x2048 .bf16) (ix2 i k) = Gla.at3 (A m c) ((t.val % 8 * 1024 + i.val) / 4096) ((t.val % 8 * 1024 + i.val) % 4096) k.val := by
  have e : (iblk m c 0 t : Vec Ideal S1024x2048 .bf16) (ix2 i k) = (V m c main_v1 : Vec Ideal S8192x2048 .bf16) (ix2 ⟨t.val % 8 * 1024 + i.val, by omega⟩ k) := by
    blk_ext [iblk, idx t]
  rw [e, v1_at]
/-- The weights' block, which is inside its array at every point, as the body reads it. -/
theorem w_at (k : Fin 2048) (j : Fin 2048) : (X0_1 m c t : Vec Ideal S1x2048x2048 .bf16) (ix3 0 k j) = Gla.at3 (W m c) 0 k.val (t.val / 8 * 2048 + j.val) := by
  have ht : t.val < 24 := lt_of_lt_of_eq t.isLt N_0
  have e : (X0_1 m c t : Vec Ideal S1x2048x2048 .bf16) (ix3 0 k j) = (V m c main_v2 : Vec Ideal S1x2048x6160 .bf16) (ix3 0 k ⟨t.val / 8 * 2048 + j.val, by omega⟩) := by
    unfold X0_1 Pipeline.Window.fill
    rw [dif_pos (moved0_1 t _)]
    blk_ext [iblk, idx t]
  rw [e, v2_at]

theorem pay_at (x0 : Vec Ideal S1024x2048 .bf16) (x1 : Vec Ideal S1x2048x2048 .bf16) (i : Fin 1024) (j : Fin 2048) :
    k0_pay1 x0 x1 (ix2 i j) = ∑ k : Fin 2048, x0 (ix2 i k) * x1 (ix3 0 k j) := by
  pointwise [k0_pay1]

theorem point (i : Fin 1024) (j : Fin 2048) :
    k0_pay1 (iblk m c 0 t) (X0_1 m c t) (ix2 i j) = In.res (A m c) (W m c) (t.val % 8 * 1024 + i.val) (t.val / 8 * 2048 + j.val) := by
  refine (pay_at _ _ i j).trans (Finset.sum_congr rfl fun k _ => ?_)
  rw [a_at, w_at]

theorem final : (dats m 0 c).arrAt 2 (cfgs 0).N = fun i : S8192x6144.Idx => In.res (A m c) (W m c) (i 0).val (i 1).val := by
  refine (dats m 0 c).arrAt_eq_of_covers 2 _ (by decide +kernel) fun t _ y => ?_
  blk_simp
  rw [after0_2]
  unfold outsAt0
  frame_out
  refine Eq.trans (b := k0_pay1 (iblk m c 0 t) (X0_1 m c t) (ix2 (y 0) (y 1))) ?_ ((point m c t _ _).trans ?_)
  · refine congrArg _ ?_
    funext a
    match a with
    | ⟨0, _⟩ => rfl
    | ⟨1, _⟩ => rfl
  · blk_simp [idx t]

end Cert.KernelInIdeal.Result

/-! ## The reference -/

namespace Cert.ReferenceInIdeal.Result

open Cert.ReferenceInIdeal Cert.ReferenceInIdeal.Gen Idealize.ShloMosaic Idealize.ShloMosaic.TcCoe Idealize.SL.Sem

def REF (a : FVec Ideal S2x4096x2048 .f32) (w : FVec Ideal S1x2048x6160 .f32) : FVec Ideal S8192x6144 .bf16 :=
  truncf .bf16 (shapeCast _ (extractStridedSlice S2x4096x6144 ![0, 0, 0] (Host.dotGeneral (φ₁ := .f32) (φ₂ := .f32) dot_S2x4096x2048_S2048x6160_S2x4096x6160_2_0_01_1_n_n none a (shapeCast S2048x6160 w shapeCasts_S1x2048x6160_S2048x6160)) slices_S2x4096x6160_S2x4096x6144_0_0_0) shapeCasts_S2x4096x6144_S8192x6144) bitsLt_bf16_f32

theorem ref_at (a : FVec Ideal S2x4096x2048 .f32) (w : FVec Ideal S1x2048x6160 .f32) :
    REF a w = fun i => In.res (fun b r j => a (ix3 b r j)) (fun b r j => w (ix3 b r j)) (i 0).val (i 1).val := by
  funext i
  unfold In.res
  pointwise [REF]
  refine Finset.sum_congr rfl fun k _ => ?_
  exact congrArg₂ (· * ·) (Gla.at3_eq (fun b r j => a (ix3 b r j)) _ _ _ _ _ _ rfl rfl rfl).symm (Gla.at3_eq (fun b r j => w (ix3 b r j)) _ _ _ _ _ _ rfl rfl rfl).symm

end Cert.ReferenceInIdeal.Result

end
-- ==== Proof.Out.lean ====
/-
  THE OUTPUT PROJECTION with the residual and the following normalisation: the call's two result arrays and the reference's, read at a row
  and a column. The call keeps the weights in scratch from the first block on.
-/
module

public import proofs.«01_k».proof.Proof.Spec
public import proofs.«01_k».proof.Proof.Gen.KernelOutIdeal.Value
public import proofs.«01_k».proof.Proof.Gen.ReferenceOutIdeal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Out

open Cert.Gla Idealize.ShloMosaic

/-- A row `f` normalised by the root of its mean square and scaled by `g`, at column `j`; the length and the summand are literals. -/
def nrm (f g : ℕ → EReal) (j : ℕ) : EReal :=
  f j * Ideal.rsqrt (Ideal.div (∑ k : Fin 2048, f k.val * f k.val) (Ideal.ofBits .f32 0x45000000#32) + Ideal.ofBits .f32 0x358637BD#32) * g j

section
variable (H A : Fin 2 → Fin 4096 → Fin 2048 → EReal) (W : Fin 1 → Fin 2048 → Fin 2048 → EReal) (N : Fin 2 → Fin 2048 → EReal)

/-- The residual's row `r` plus the projected row, at column `j`. -/
def sum (r j : ℕ) : EReal :=
  at3 H (r / 4096) (r % 4096) j + ∑ k : Fin 2048, at3 A (r / 4096) (r % 4096) k.val * at3 W 0 k.val j

/-- That row normalised with the first layer's scale. -/
def norm (r j : ℕ) : EReal := nrm (sum H A W r) (at2 N 0) j

end

end Cert.Out

/-! ## The call -/

namespace Cert.KernelOutIdeal.Result

open Cert.KernelOutIdeal Cert.KernelOutIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0] ∧ win0_3.index t = ![0, 0] ∧ win0_4.index t = ![t.val, 0] ∧ win0_5.index t = ![t.val, 0] :=
  (by decide +kernel : ∀ t : Fin grid0.N, _)

/-- The argument arrays. -/
def H (b : Fin 2) (r : Fin 4096) (k : Fin 2048) : EReal := m ((c : Thread nD τ).loc main_arg0) (ix3 b r k)
def A (b : Fin 2) (r : Fin 4096) (k : Fin 2048) : EReal := m ((c : Thread nD τ).loc main_arg1) (ix3 b r k)
def W (b : Fin 1) (k : Fin 2048) (j : Fin 2048) : EReal := m ((c : Thread nD τ).loc main_arg2) (ix3 b k j)
def N (b : Fin 2) (j : Fin 2048) : EReal := m ((c : Thread nD τ).loc main_arg3) (ix2 b j)

theorem v1_at (n : Fin 8192) (k : Fin 2048) : (V m c main_v1 : Vec Ideal S8192x2048 .bf16) (ix2 n k) = Gla.at3 (A m c) (n.val / 4096) (n.val % 4096) k.val := by
  unfold V
  try simp only [List.flatten_cons, List.flatten_nil, List.append_nil, List.cons_append, List.nil_append]
  after_reads_at
  exact (Gla.at3_eq (A m c) _ _ _ _ _ _ rfl rfl rfl).symm
theorem v2_at (n : Fin 8192) (k : Fin 2048) : (V m c main_v2 : Vec Ideal S8192x2048 .f32) (ix2 n k) = Gla.at3 (H m c) (n.val / 4096) (n.val % 4096) k.val := by
  unfold V
  try simp only [List.flatten_cons, List.flatten_nil, List.append_nil, List.cons_append, List.nil_append]
  after_reads_at
  exact (Gla.at3_eq (H m c) _ _ _ _ _ _ rfl rfl rfl).symm
theorem v5_at (j : Fin 2048) : (V m c main_v5 : Vec Ideal S1x2048 .f32) (ix2 0 j) = Gla.at2 (N m c) 0 j.val := by
  unfold V
  try simp only [List.flatten_cons, List.flatten_nil, List.append_nil, List.cons_append, List.nil_append]
  after_reads_at
  exact (Gla.at2_eq (N m c) _ _ _ _ rfl rfl).symm

theorem a_at (t : Fin cfg0.N) (i : Fin 512) (k : Fin 2048) : (iblk m c 0 t : Vec Ideal S512x2048 .bf16) (ix2 i k) = Gla.at3 (A m c) ((t.val * 512 + i.val) / 4096) ((t.val * 512 + i.val) % 4096) k.val := by
  have ht : t.val < 16 := lt_of_lt_of_eq t.isLt N_0
  have e : (iblk m c 0 t : Vec Ideal S512x2048 .bf16) (ix2 i k) = (V m c main_v1 : Vec Ideal S8192x2048 .bf16) (ix2 ⟨t.val * 512 + i.val, by omega⟩ k) := by
    blk_ext [iblk, idx t]
  rw [e, v1_at]
theorem w_at (t : Fin cfg0.N) (k : Fin 2048) (j : Fin 2048) : (iblk m c 1 t : Vec Ideal S1x2048x2048 .f32) (ix3 0 k j) = Gla.at3 (W m c) 0 k.val j.val := by
  have e : (iblk m c 1 t : Vec Ideal S1x2048x2048 .f32) (ix3 0 k j) = (m ((c : Thread nD τ).loc main_arg2) : Vec Ideal S1x2048x2048 .f32) (ix3 0 k j) := by
    blk_ext [iblk, V, idx t]
  rw [e]
  exact (Gla.at3_eq (W m c) _ _ _ _ _ _ rfl rfl rfl).symm
theorem h_at (t : Fin cfg0.N) (i : Fin 512) (k : Fin 2048) : (iblk m c 2 t : Vec Ideal S512x2048 .f32) (ix2 i k) = Gla.at3 (H m c) ((t.val * 512 + i.val) / 4096) ((t.val * 512 + i.val) % 4096) k.val := by
  have ht : t.val < 16 := lt_of_lt_of_eq t.isLt N_0
  have e : (iblk m c 2 t : Vec Ideal S512x2048 .f32) (ix2 i k) = (V m c main_v2 : Vec Ideal S8192x2048 .f32) (ix2 ⟨t.val * 512 + i.val, by omega⟩ k) := by
    blk_ext [iblk, idx t]
  rw [e, v2_at]
theorem n_at (t : Fin cfg0.N) (j : Fin 2048) : (iblk m c 3 t : Vec Ideal S1x2048 .f32) (ix2 0 j) = Gla.at2 (N m c) 0 j.val := by
  have e : (iblk m c 3 t : Vec Ideal S1x2048 .f32) (ix2 0 j) = (V m c main_v5 : Vec Ideal S1x2048 .f32) (ix2 0 j) := by
    blk_ext [iblk, idx t]
  rw [e, v5_at]

theorem scr_at (x : Vec Ideal S1x2048x2048 .f32) (k : Fin 2048) (j : Fin 2048) : k0_pay1 x (ix2 k j) = x (ix3 0 k j) := by
  pointwise [k0_pay1]

theorem sum_pay (h : Vec Ideal S512x2048 .f32) (a : Vec Ideal S512x2048 .bf16) (w : Vec Ideal S2048x2048 .bf16) (i : Fin 512) (j : Fin 2048) :
    k0_pay2 h a w (ix2 i j) = h (ix2 i j) + ∑ k : Fin 2048, a (ix2 i k) * w (ix2 k j) := by
  pointwise [k0_pay2]

theorem norm_pay (h : Vec Ideal S512x2048 .f32) (a : Vec Ideal S512x2048 .bf16) (w : Vec Ideal S2048x2048 .bf16) (g : Vec Ideal S1x2048 .f32) (i : Fin 512) (j : Fin 2048) :
    k0_pay3 h a w g (ix2 i j) = k0_pay2 h a w (ix2 i j) * Ideal.rsqrt (Ideal.div (∑ k : Fin 2048, k0_pay2 h a w (ix2 i k) * k0_pay2 h a w (ix2 i k)) (Ideal.ofBits .f32 0x45000000#32) + Ideal.ofBits .f32 0x358637BD#32) * g (ix2 0 j) := by
  pointwise [k0_pay3]

/-- The scratch stays as it is where it is not written. -/
theorem scratch_kept (t : Fin cfg0.N) (h0 : ¬t.val % 16 = 0) : (outsAt0 m c t.val t.isLt).2.2 = (outsAt0 m c (t.val - 1) (Nat.lt_of_le_of_lt (Nat.sub_le _ _) t.isLt)).2.2 := by
  rw [outsAt0_B m c t h0]
  rfl

/-- The scratch after a point: the weights. -/
theorem scratch_at (n : ℕ) : ∀ hn : n < cfg0.N, ∀ (k : Fin 2048) (j : Fin 2048), (outsAt0 m c n hn).2.2 (ix2 k j) = Gla.at3 (W m c) 0 k.val j.val := by
  induction n with
  | zero =>
    intro hn k j
    rw [outsAt0_A m c ⟨0, hn⟩ rfl]
    frame_out
    refine (scr_at _ k j).trans ?_
    rw [w_at]
  | succ n ih =>
    intro hn k j
    by_cases h0 : (n + 1) % 16 = 0
    · rw [outsAt0_A m c ⟨n + 1, hn⟩ h0]
      frame_out
      refine (scr_at _ k j).trans ?_
      rw [w_at]
    · rw [← ih (Nat.lt_of_succ_lt hn) k j]
      exact congrFun (scratch_kept m c ⟨n + 1, hn⟩ h0) _

variable (t : Fin cfg0.N)

theorem sum_point (w : Vec Ideal S2048x2048 .bf16) (hw : ∀ (k : Fin 2048) (j : Fin 2048), w (ix2 k j) = Gla.at3 (W m c) 0 k.val j.val) (i : Fin 512) (j : Fin 2048) :
    k0_pay2 (iblk m c 2 t) (iblk m c 0 t) w (ix2 i j) = Out.sum (H m c) (A m c) (W m c) (t.val * 512 + i.val) j.val := by
  refine (sum_pay _ _ _ i j).trans ?_
  simp only [a_at, h_at, hw]
  rfl

theorem norm_point (w : Vec Ideal S2048x2048 .bf16) (hw : ∀ (k : Fin 2048) (j : Fin 2048), w (ix2 k j) = Gla.at3 (W m c) 0 k.val j.val) (i : Fin 512) (j : Fin 2048) :
    k0_pay3 (iblk m c 2 t) (iblk m c 0 t) w (iblk m c 3 t) (ix2 i j) = Out.norm (H m c) (A m c) (W m c) (N m c) (t.val * 512 + i.val) j.val := by
  refine (norm_pay _ _ _ _ i j).trans ?_
  simp only [sum_point m c t w hw, n_at]
  rfl

theorem sum_out (i : Fin 512) (j : Fin 2048) : (outsAt0 m c t.val t.isLt).1 (ix2 i j) = Out.sum (H m c) (A m c) (W m c) (t.val * 512 + i.val) j.val := by
  by_cases h0 : t.val % 16 = 0
  · rw [outsAt0_A m c t h0]
    frame_out
    exact sum_point m c t _ (fun k j => (scr_at _ k j).trans (w_at m c t k j)) i j
  · rw [outsAt0_B m c t h0]
    frame_out
    refine sum_point m c t _ (fun k j => ?_) i j
    rw [read_unread_whole, scratch_at]

theorem norm_out (i : Fin 512) (j : Fin 2048) : (outsAt0 m c t.val t.isLt).2.1 (ix2 i j) = Out.norm (H m c) (A m c) (W m c) (N m c) (t.val * 512 + i.val) j.val := by
  by_cases h0 : t.val % 16 = 0
  · rw [outsAt0_A m c t h0]
    frame_out
    exact norm_point m c t _ (fun k j => (scr_at _ k j).trans (w_at m c t k j)) i j
  · rw [outsAt0_B m c t h0]
    frame_out
    refine norm_point m c t _ (fun k j => ?_) i j
    rw [read_unread_whole, scratch_at]

theorem final_sum : (dats m 0 c).arrAt 4 (cfgs 0).N = fun i : S8192x2048.Idx => Out.sum (H m c) (A m c) (W m c) (i 0).val (i 1).val := by
  refine (dats m 0 c).arrAt_eq_of_covers 4 _ (by decide +kernel) fun t _ y => ?_
  blk_simp
  rw [after0_4]
  refine Eq.trans (b := (outsAt0 m c t.val t.isLt).1 (ix2 (y 0) (y 1))) ?_ ((sum_out m c t _ _).trans ?_)
  · refine congrArg _ ?_
    funext a
    match a with
    | ⟨0, _⟩ => rfl
    | ⟨1, _⟩ => rfl
  · blk_simp [idx t]

theorem final_norm : (dats m 0 c).arrAt 5 (cfgs 0).N = fun i : S8192x2048.Idx => Out.norm (H m c) (A m c) (W m c) (N m c) (i 0).val (i 1).val := by
  refine (dats m 0 c).arrAt_eq_of_covers 5 _ (by decide +kernel) fun t _ y => ?_
  blk_simp
  rw [after0_5]
  refine Eq.trans (b := (outsAt0 m c t.val t.isLt).2.1 (ix2 (y 0) (y 1))) ?_ ((norm_out m c t _ _).trans ?_)
  · refine congrArg _ ?_
    funext a
    match a with
    | ⟨0, _⟩ => rfl
    | ⟨1, _⟩ => rfl
  · blk_simp [idx t]

end Cert.KernelOutIdeal.Result

/-! ## The reference -/

namespace Cert.ReferenceOutIdeal.Result

open Cert.ReferenceOutIdeal Cert.ReferenceOutIdeal.Gen Idealize.ShloMosaic Idealize.ShloMosaic.TcCoe Idealize.SL.Sem

def SUM (h a : FVec Ideal S2x4096x2048 .f32) (w : FVec Ideal S1x2048x2048 .f32) : FVec Ideal S2x4096x2048 .f32 :=
  addf h (Host.dotGeneral (φ₁ := .f32) (φ₂ := .f32) dot_S2x4096x2048_S2048x2048_S2x4096x2048_2_0_01_1_n_n none a (shapeCast S2048x2048 w shapeCasts_S1x2048x2048_S2048x2048))

def NORM (s : FVec Ideal S2x4096x2048 .f32) (g : FVec Ideal S2x2048 .f32) : FVec Ideal S8192x2048 .bf16 :=
  truncf .bf16 (shapeCast _ (mulf (mulf s (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf s s) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast S2048 (extractStridedSlice S1x2048 ![0, 0] g slices_S2x2048_S1x2048_0_0) shapeCasts_S1x2048_S2048)))) shapeCasts_S2x4096x2048_S8192x2048) bitsLt_bf16_f32

variable (h a : FVec Ideal S2x4096x2048 .f32) (w : FVec Ideal S1x2048x2048 .f32) (g : FVec Ideal S2x2048 .f32)

theorem sum_at (b : Fin 2) (r : Fin 4096) (j : Fin 2048) (n : ℕ) (hb : n / 4096 = b.val) (hr : n % 4096 = r.val) :
    SUM h a w (ix3 b r j) = Out.sum (fun b r j => h (ix3 b r j)) (fun b r j => a (ix3 b r j)) (fun b r j => w (ix3 b r j)) n j.val := by
  unfold Out.sum
  rw [hb, hr]
  pointwise [SUM]
  refine congrArg₂ (· + ·) (Gla.at3_eq (fun b r j => h (ix3 b r j)) _ _ _ _ _ _ rfl rfl rfl).symm (Finset.sum_congr rfl fun k _ => ?_)
  exact congrArg₂ (· * ·) (Gla.at3_eq (fun b r j => a (ix3 b r j)) _ _ _ _ _ _ rfl rfl rfl).symm (Gla.at3_eq (fun b r j => w (ix3 b r j)) _ _ _ _ _ _ rfl rfl rfl).symm

theorem sum_ref : (shapeCast S8192x2048 (SUM h a w) shapeCasts_S2x4096x2048_S8192x2048 : FVec Ideal S8192x2048 .f32) =
    fun i => Out.sum (fun b r j => h (ix3 b r j)) (fun b r j => a (ix3 b r j)) (fun b r j => w (ix3 b r j)) (i 0).val (i 1).val := by
  funext i
  pointwise
  exact sum_at h a w _ _ _ _ rfl rfl

theorem norm_ref : NORM (SUM h a w) g =
    fun i => Out.norm (fun b r j => h (ix3 b r j)) (fun b r j => a (ix3 b r j)) (fun b r j => w (ix3 b r j)) (fun b j => g (ix2 b j)) (i 0).val (i 1).val := by
  funext i
  have hi : (i 0).val < 8192 := (i 0).isLt
  have e : ∀ k : Fin 2048, SUM h a w (ix3 ⟨(i 0).val / 4096, by omega⟩ ⟨(i 0).val % 4096, by omega⟩ k) = _ :=
    fun k => sum_at h a w _ _ k (i 0).val rfl rfl
  unfold Out.norm Out.nrm
  obtain ⟨f, hf⟩ : ∃ f, f = fun b j => g (ix2 b j) := ⟨_, rfl⟩
  have eg : ∀ k : Fin 2048, g (ix2 0 k) = Gla.at2 f 0 k.val := fun k => ((Gla.at2_eq f 0 k _ _ rfl rfl).trans (by rw [hf])).symm
  rw [← hf]
  generalize SUM h a w = s at e ⊢
  pointwise [NORM]
  have ej := e (i 1)
  simp only [e]
  exact congrArg₂ (· * ·) (congrArg (· * _) ej) (eg _)

end Cert.ReferenceOutIdeal.Result

end
-- ==== Proof.Query.lean ====
/-
  THE QUERY PROJECTION of the two dilated branches: the call's result array and the reference's, read at a row and a column. The call keeps the
  weights of a block column in scratch from the first block row on.
-/
module

public import proofs.«01_k».proof.Proof.Spec
public import proofs.«01_k».proof.Proof.Gen.KernelQueryIdeal.Value
public import proofs.«01_k».proof.Proof.Gen.ReferenceQueryIdeal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Query

open Cert.Gla Idealize.ShloMosaic

/-- The result at row `r` and column `j`: the product with the columns from 2048 on, over `sqrt 128 * log 2`. -/
def res (A : Fin 2 → Fin 4096 → Fin 2048 → EReal) (W : Fin 1 → Fin 2048 → Fin 6144 → EReal) (r j : ℕ) : EReal :=
  (∑ k : Fin 2048, at3 A (r / 4096) (r % 4096) k.val * at3 W 0 k.val (2048 + j)) * (((Real.log 2)⁻¹ * (Real.sqrt 128)⁻¹ : ℝ) : EReal)

end Cert.Query

/-! ## The call -/

namespace Cert.KernelQueryIdeal.Result

open Cert.KernelQueryIdeal Cert.KernelQueryIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 4, 0] ∧ win0_1.index t = ![0, 0, 2 + t.val / 4] ∧ win0_2.index t = ![t.val % 4, t.val / 4] :=
  (by decide +kernel : ∀ t : Fin grid0.N, _)

/-- The argument arrays. -/
def A (b : Fin 2) (r : Fin 4096) (k : Fin 2048) : EReal := m ((c : Thread nD τ).loc main_arg0) (ix3 b r k)
def W (b : Fin 1) (k : Fin 2048) (j : Fin 6144) : EReal := m ((c : Thread nD τ).loc main_arg1) (ix3 b k j)

theorem v1_at (n : Fin 8192) (k : Fin 2048) : (V m c main_v1 : Vec Ideal S8192x2048 .bf16) (ix2 n k) = Gla.at3 (A m c) (n.val / 4096) (n.val % 4096) k.val := by
  unfold V
  try simp only [List.flatten_cons, List.flatten_nil, List.append_nil, List.cons_append, List.nil_append]
  after_reads_at
  exact (Gla.at3_eq (A m c) _ _ _ _ _ _ rfl rfl rfl).symm

theorem a_at (t : Fin cfg0.N) (i : Fin 2048) (k : Fin 2048) : (iblk m c 0 t : Vec Ideal S2048x2048 .bf16) (ix2 i k) = Gla.at3 (A m c) ((t.val % 4 * 2048 + i.val) / 4096) ((t.val % 4 * 2048 + i.val) % 4096) k.val := by
  have e : (iblk m c 0 t : Vec Ideal S2048x2048 .bf16) (ix2 i k) = (V m c main_v1 : Vec Ideal S8192x2048 .bf16) (ix2 ⟨t.val % 4 * 2048 + i.val, by omega⟩ k) := by
    blk_ext [iblk, idx t]
  rw [e, v1_at]
theorem w_at (t : Fin cfg0.N) (k : Fin 2048) (j : Fin 1024) : (iblk m c 1 t : Vec Ideal S1x2048x1024 .f32) (ix3 0 k j) = Gla.at3 (W m c) 0 k.val (2048 + (t.val / 4 * 1024 + j.val)) := by
  have ht : t.val < 16 := lt_of_lt_of_eq t.isLt N_0
  have e : (iblk m c 1 t : Vec Ideal S1x2048x1024 .f32) (ix3 0 k j) = (m ((c : Thread nD τ).loc main_arg1) : Vec Ideal S1x2048x6144 .f32) (ix3 0 k ⟨2048 + (t.val / 4 * 1024 + j.val), by omega⟩) := by
    blk_ext [iblk, V, idx t]
  rw [e]
  exact (Gla.at3_eq (W m c) _ _ _ _ _ _ rfl rfl rfl).symm

theorem scr_at (x : Vec Ideal S1x2048x1024 .f32) (k : Fin 2048) (j : Fin 1024) : k0_pay1 x (ix2 k j) = x (ix3 0 k j) := by
  pointwise [k0_pay1]

theorem pay_at (x0 : Vec Ideal S2048x2048 .bf16) (x1 : Vec Ideal S2048x1024 .bf16) (i : Fin 2048) (j : Fin 1024) :
    k0_pay2 x0 x1 (ix2 i j) = (∑ k : Fin 2048, x0 (ix2 i k) * x1 (ix2 k j)) * (((Real.log 2)⁻¹ * (Real.sqrt 128)⁻¹ : ℝ) : EReal) := by
  have hn : Named.named (F := Ideal) κ (φ := .f32) "q_scale" 0x3E0293EE#32 = (((Real.log 2)⁻¹ * (Real.sqrt 128)⁻¹ : ℝ) : EReal) := rfl
  pointwise [k0_pay2]
  rw [hn]

/-- The scratch stays as it is where it is not written. -/
theorem scratch_kept (t : Fin cfg0.N) (h0 : ¬t.val % 4 = 0) : (outsAt0 m c t.val t.isLt).2 = (outsAt0 m c (t.val - 1) (Nat.lt_of_le_of_lt (Nat.sub_le _ _) t.isLt)).2 := by
  rw [outsAt0_B m c t h0]
  rfl

/-- The scratch after a point: the weights of the point's block column. -/
theorem scratch_at (n : ℕ) : ∀ hn : n < cfg0.N, ∀ (k : Fin 2048) (j : Fin 1024), (outsAt0 m c n hn).2 (ix2 k j) = Gla.at3 (W m c) 0 k.val (2048 + (n / 4 * 1024 + j.val)) := by
  induction n with
  | zero =>
    intro hn k j
    rw [outsAt0_A m c ⟨0, hn⟩ rfl]
    frame_out
    refine (scr_at _ k j).trans ?_
    rw [w_at]
  | succ n ih =>
    intro hn k j
    by_cases h0 : (n + 1) % 4 = 0
    · rw [outsAt0_A m c ⟨n + 1, hn⟩ h0]
      frame_out
      refine (scr_at _ k j).trans ?_
      rw [w_at]
    · have e : (n + 1) / 4 = n / 4 := by omega
      rw [e, ← ih (Nat.lt_of_succ_lt hn) k j]
      exact congrFun (scratch_kept m c ⟨n + 1, hn⟩ h0) _

variable (t : Fin cfg0.N)

theorem point (i : Fin 2048) (j : Fin 1024) : (outsAt0 m c t.val t.isLt).1 (ix2 i j) = Query.res (A m c) (W m c) (t.val % 4 * 2048 + i.val) (t.val / 4 * 1024 + j.val) := by
  have key : ∀ w : Vec Ideal S2048x1024 .bf16, (∀ (k : Fin 2048) (j : Fin 1024), w (ix2 k j) = Gla.at3 (W m c) 0 k.val (2048 + (t.val / 4 * 1024 + j.val))) →
      k0_pay2 (iblk m c 0 t) w (ix2 i j) = Query.res (A m c) (W m c) (t.val % 4 * 2048 + i.val) (t.val / 4 * 1024 + j.val) := by
    intro w hw
    refine (pay_at _ _ i j).trans (congrArg (· * _) (Finset.sum_congr rfl fun k _ => ?_))
    rw [a_at, hw]
  by_cases h0 : t.val % 4 = 0
  · rw [outsAt0_A m c t h0]
    frame_out
    exact key _ fun k j => (scr_at _ k j).trans (w_at m c t k j)
  · rw [outsAt0_B m c t h0]
    frame_out
    refine key _ fun k j => ?_
    rw [read_unread_whole, scratch_at]
    have e : (t.val - 1) / 4 = t.val / 4 := by omega
    rw [e]

theorem final : (dats m 0 c).arrAt 2 (cfgs 0).N = fun i : S8192x4096.Idx => Query.res (A m c) (W m c) (i 0).val (i 1).val := by
  refine (dats m 0 c).arrAt_eq_of_covers 2 _ (by decide +kernel) fun t _ y => ?_
  blk_simp
  rw [after0_2]
  refine Eq.trans (b := (outsAt0 m c t.val t.isLt).1 (ix2 (y 0) (y 1))) ?_ ((point m c t _ _).trans ?_)
  · refine congrArg _ ?_
    funext a
    match a with
    | ⟨0, _⟩ => rfl
    | ⟨1, _⟩ => rfl
  · blk_simp [idx t]

end Cert.KernelQueryIdeal.Result

/-! ## The reference -/

namespace Cert.ReferenceQueryIdeal.Result

open Cert.ReferenceQueryIdeal Cert.ReferenceQueryIdeal.Gen Idealize.ShloMosaic Idealize.ShloMosaic.TcCoe Idealize.SL.Sem

theorem ofBits_128 : Ideal.ofBits .f32 0x43000000#32 = ((128 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num

/-- Division by `sqrt 128 * log 2`, taken at run time. -/
theorem div_scale (x : EReal) : Ideal.div x (Ideal.sqrt (Ideal.ofBits .f32 0x43000000#32) * Ideal.log (Ideal.ofBits .f32 0x40000000#32)) =
    x * (((Real.log 2)⁻¹ * (Real.sqrt 128)⁻¹ : ℝ) : EReal) := by
  have hl : 0 < Real.log 2 := Real.log_pos (by norm_num)
  have hs : 0 < Real.sqrt 128 := Real.sqrt_pos.mpr (by norm_num)
  rw [ofBits_128, ofBits_2, Ideal.sqrt_coe, if_neg (by norm_num), Ideal.log_coe, if_neg (by norm_num), ← EReal.coe_mul, Ideal.div_coe (mul_pos hs hl).ne',
    one_div, mul_inv_rev]

def REF (a : FVec Ideal S2x4096x2048 .f32) (w : FVec Ideal S1x2048x6144 .f32) : FVec Ideal S8192x4096 .bf16 :=
  truncf .bf16 (shapeCast _ (Host.divf (extractStridedSlice S2x4096x4096 ![0, 0, 2048] (Host.dotGeneral (φ₁ := .f32) (φ₂ := .f32) dot_S2x4096x2048_S2048x6144_S2x4096x6144_2_0_01_1_n_n none a (shapeCast S2048x6144 w shapeCasts_S1x2048x6144_S2048x6144)) slices_S2x4096x6144_S2x4096x4096_0_0_2048) (broadcastInDim S2x4096x4096 ![] bcast_S_S2x4096x4096 (mulf (Host.sqrt (constant S_ .f32 0x43000000#32)) (Host.log (constant S_ .f32 0x40000000#32))))) shapeCasts_S2x4096x4096_S8192x4096) bitsLt_bf16_f32

theorem ref_at (a : FVec Ideal S2x4096x2048 .f32) (w : FVec Ideal S1x2048x6144 .f32) :
    REF a w = fun i => Query.res (fun b r j => a (ix3 b r j)) (fun b r j => w (ix3 b r j)) (i 0).val (i 1).val := by
  funext i
  unfold Query.res
  pointwise [REF]
  rw [div_scale]
  refine congrArg (· * _) (Finset.sum_congr rfl fun k _ => ?_)
  exact congrArg₂ (· * ·) (Gla.at3_eq (fun b r j => a (ix3 b r j)) _ _ _ _ _ _ rfl rfl rfl).symm (Gla.at3_eq (fun b r j => w (ix3 b r j)) _ _ _ _ _ _ rfl rfl rfl).symm

end Cert.ReferenceQueryIdeal.Result

end
-- ==== Proof.Up.lean ====
/-
  THE UP PROJECTION of the feed-forward part, with its convolution along the rows and its gate: the call's result arrays and the reference's, read at a row and a column.

  A point holds 2048 rows and 512 columns, in eight sub-blocks; each sub-block's convolution reaches two rows back, into the sub-block before it or, at the first, into the eight rows the call carries from the point before.
-/
module

public import proofs.«01_k».proof.Proof.Spec
public import proofs.«01_k».proof.Proof.Gen.KernelUpIdeal.Value
public import proofs.«01_k».proof.Proof.Gen.ReferenceUpIdeal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Up

open Cert.Gla Idealize.ShloMosaic

/-- Half the convolution at a row: the taps `w0`, `w1`, `w2` on the rows two before, one before and here, plus the bias. -/
def half (w0 w1 w2 b g2 g1 g : EReal) : EReal :=
  Ideal.ofBits .f32 0x3F000000#32 * w0 * g2 + Ideal.ofBits .f32 0x3F000000#32 * w1 * g1 + Ideal.ofBits .f32 0x3F000000#32 * w2 * g + Ideal.ofBits .f32 0x3F000000#32 * b

/-- The activation of the convolved row times `u`. -/
def act (w0 w1 w2 b g2 g1 g u : EReal) : EReal :=
  half w0 w1 w2 b g2 g1 g * (1 + Ideal.erf (half w0 w1 w2 b g2 g1 g * ((Real.sqrt 2 : ℝ) : EReal))) * u

section
variable (X WU WG K CW : ℕ → ℕ → EReal) (CB : ℕ → EReal)

/-- One row of a product. -/
def prod (W : ℕ → ℕ → EReal) (r j : ℕ) : EReal := ∑ k : Fin 2048, X r k.val * W k.val j

/-- A tile's gate with the eight rows before it. -/
def rows (r j : ℕ) : EReal := if r < 8 then K r j else prod X WG (r - 8) j

/-- A tile's result. -/
def tile (r j : ℕ) : EReal :=
  act (CW 0 j) (CW 1 j) (CW 2 j) (CB j) (rows X WG K (r + 6) j) (rows X WG K (r + 7) j) (prod X WG r j) (prod X WU r j)

end

/-! ## The result -/

section
variable (H : Fin 2 → Fin 4096 → Fin 2048 → EReal) (W : Fin 2 → Fin 2048 → Fin 11264 → EReal) (C : Fin 2 → Fin 3 → Fin 5632 → EReal) (B : Fin 2 → Fin 5632 → EReal)

/-- The gate at row `n` of the two sequences laid end to end and column `j`. -/
def gate (n j : ℕ) : EReal := ∑ k : Fin 2048, at3 H (n / 4096) (n % 4096) k.val * at3 W 0 k.val (5632 + j)
/-- The values there. -/
def val (n j : ℕ) : EReal := ∑ k : Fin 2048, at3 H (n / 4096) (n % 4096) k.val * at3 W 0 k.val j
/-- The gate `d` rows before in the same sequence. -/
def prev (d n j : ℕ) : EReal := if n % 4096 < d then 0 else gate H W (n - d) j
/-- The call's result there. -/
def res (n j : ℕ) : EReal := act (at3 C 0 0 j) (at3 C 0 1 j) (at3 C 0 2 j) (at2 B 0 j) (prev H W 2 n j) (prev H W 1 n j) (gate H W n j) (val H W n j)

end

end Cert.Up

namespace Cert.KernelUpIdeal.Result

open Cert.KernelUpIdeal Cert.KernelUpIdeal.Gen Idealize.ShloMosaic Idealize.ShloMosaic.TcCoe Idealize.SL.Sem

variable (m : (ℓ : Loc nD τ sig) → Buf (Elt Ideal) ℓ) (c : Dev nD)

section
variable (x : Vec Ideal S512x2048 .bf16) (w : Vec Ideal S2048x256 .bf16)

theorem pr8 : k0_pay8 (k0_pay6 x) w = k0_pay7 x w := rfl
theorem pr11 : k0_pay11 x w = k0_pay7 x w := rfl
theorem pr12 : k0_pay12 x w = k0_pay7 x w := rfl
theorem pr17 : k0_pay17 x w = k0_pay7 x w := rfl
theorem pr18 : k0_pay18 x w = k0_pay7 x w := rfl
theorem pr25 : k0_pay25 x w = k0_pay7 x w := rfl
theorem pr26 : k0_pay26 (k0_pay24 x) w = k0_pay7 x w := rfl
theorem pr36 : k0_pay36 x w = k0_pay7 x w := rfl
theorem pr38 : k0_pay38 (k0_pay37 x w) = k0_pay7 x w := rfl
theorem pr44 : k0_pay44 x w = k0_pay7 x w := rfl
theorem pr45 : k0_pay45 x w = k0_pay7 x w := rfl
theorem pr49 : k0_pay49 x w = k0_pay7 x w := rfl
theorem pr50 : k0_pay50 x w = k0_pay7 x w := rfl
theorem pr59 : k0_pay59 x w = k0_pay7 x w := rfl
theorem pr61 : k0_pay61 (k0_pay60 x w) = k0_pay7 x w := rfl
end

section
variable (x : Vec Ideal S1x8x256 .f32) (y : Vec Ideal S8x256 .f32)

theorem hd14 : k0_pay14 (k0_pay13 x) = k0_pay19 x := rfl
theorem hd27 : k0_pay27 x = k0_pay19 x := rfl
theorem hd46 : k0_pay46 x = k0_pay19 x := rfl
theorem hd51 : k0_pay51 x = k0_pay19 x := rfl
theorem hd62 : k0_pay62 x = k0_pay19 x := rfl
theorem hd39 : k0_pay39 y = k0_pay9 y := rfl
theorem cr63 : k0_pay63 x = k0_pay28 x := rfl
end

section
variable (g h k u : Vec Ideal S1x512x256 .f32) (w : Vec Ideal S3x256 .f32) (b : Vec Ideal S1x256 .f32)

theorem ep23 : k0_pay23 (k0_pay20 g) (k0_pay21 h) (k0_pay22 k) w b u = k0_pay15 g h k w b u := rfl
theorem ep34 : k0_pay34 (k0_pay29 g) (k0_pay30 h) (k0_pay31 k) (k0_pay32 w) (k0_pay33 w) b u = k0_pay15 g h k w b u := rfl
theorem ep42 : k0_pay42 (k0_pay40 g h k w b) (k0_pay41 g h k w b) u = k0_pay15 g h k w b u := rfl
theorem ep47 : k0_pay47 g h k w b u = k0_pay15 g h k w b u := rfl
theorem ep57 : k0_pay57 (k0_pay52 g) (k0_pay53 h) (k0_pay54 k) (k0_pay55 w) (k0_pay56 w) b u = k0_pay15 g h k w b u := rfl
theorem ep68 : k0_pay68 (k0_pay64 g) (k0_pay66 h k w) (k0_pay67 w) b u = k0_pay15 g h k w b u := rfl
theorem ep1 : k0_pay1 (k0_pay69 g) (k0_pay71 h k w) (k0_pay72 w) b u = k0_pay15 g h k w b u := rfl
end

/-- One product, at a row and a column. -/
theorem pr_at (x : Vec Ideal S512x2048 .bf16) (w : Vec Ideal S2048x256 .bf16) (i : Fin 512) (j : Fin 256) :
    k0_pay7 x w (ix3 0 i j) = ∑ k : Fin 2048, x (ix2 i k) * w (ix2 k j) := by
  pointwise [k0_pay7, k0_pay6]

theorem hd_at (x : Vec Ideal S1x8x256 .f32) (i : Fin 8) (j : Fin 256) : k0_pay19 x (ix3 0 i j) = x (ix3 0 i j) := by
  pointwise [k0_pay19]

theorem hc_at (x : Vec Ideal S8x256 .f32) (i : Fin 8) (j : Fin 256) : k0_pay9 x (ix3 0 i j) = x (ix2 i j) := by
  pointwise [k0_pay9]

theorem cr_at (x : Vec Ideal S1x8x256 .f32) (i : Fin 8) (j : Fin 256) : k0_pay28 x (ix2 i j) = x (ix3 0 i j) := by
  pointwise [k0_pay28]

theorem w3_at (x : Vec Ideal S1x2048x512 .f32) (k : Fin 2048) (j : Fin 512) : k0_pay3 x (ix2 k j) = x (ix3 0 k j) := by
  pointwise [k0_pay3]

theorem w4_at (x : Vec Ideal S1x2048x512 .f32) (k : Fin 2048) (j : Fin 512) : k0_pay4 x (ix2 k j) = x (ix3 0 k j) := by
  pointwise [k0_pay4]

theorem wd_at (x : Vec Ideal S1x128x2048 .f32) (k : Fin 128) (j : Fin 2048) : k0_pay2 x (ix3 0 k j) = x (ix3 0 k j) := by
  pointwise [k0_pay2]

theorem zc_at (i : Fin 8) (j : Fin 512) : k0_pay5 (F := Ideal) (ix2 i j) = 0 := by
  pointwise [k0_pay5]

/-- The rows of a slot from `o` on: the first are the eight rows before the sub-block, the others the sub-block's. -/
def SH (o : ℕ) (p : Vec Ideal S1x8x256 .f32) (q : Vec Ideal S1x512x256 .f32) : Vec Ideal S1x512x256 .f32 := fun y =>
  if h : o + (y 1).val < 8 then p (ix3 0 ⟨o + (y 1).val, h⟩ (y 2)) else q (ix3 0 ⟨(o + (y 1).val - 8) % 512, Nat.mod_lt _ (by norm_num)⟩ (y 2))

/-- The last eight rows of a sub-block. -/
def TL (q : Vec Ideal S1x512x256 .f32) : Vec Ideal S1x8x256 .f32 := fun y => q (ix3 0 ⟨504 + (y 1).val, by have h : (y 1).val < 8 := (y 1).isLt; omega⟩ (y 2))

theorem read_tl (v : View sig .tc .vmem S2x520x256 .f32) (s : ℕ) (i1 i2) (q : Vec Ideal S1x512x256 .f32) (L : List (View.Piece (Elt Ideal) S2x520x256 .f32)) :
    v.readCov (⟨Rect.unit ![s, 8, 0] ![1, 512, 256] i1, q⟩ :: L) (Rect.unit ![s, 512, 0] ![1, 8, 256] i2).toLoadRect = TL q := by
  rw [View.readCov_eq_canon']
  funext y
  have hy : (y 1).val < 8 := (y 1).isLt
  have e : (Rect.unit (s := S2x520x256) ![s, 512, 0] ![1, 8, 256] i2).toLoadRect.idx y =
      (Rect.unit (s := S2x520x256) ![s, 8, 0] ![1, 512, 256] i1).emb (ix3 0 ⟨504 + (y 1).val, by omega⟩ (y 2)) := by
    funext a
    apply Fin.ext
    match a with
    | ⟨0, _⟩ => have h : (y 0).val < 1 := (y 0).isLt; show s + 1 * (y 0).val = s + 1 * 0; omega
    | ⟨1, _⟩ => show 512 + 1 * (y 1).val = 8 + 1 * (504 + (y 1).val); omega
    | ⟨2, _⟩ => rfl
  show View.canon _ _ = _
  rw [e]
  exact View.canon_cons_emb _ _ _ _

theorem read_sh (v : View sig .tc .vmem S2x520x256 .f32) (s o : ℕ) (ho : o ≤ 8) (i1 i2 i3) (p : Vec Ideal S1x8x256 .f32) (q : Vec Ideal S1x512x256 .f32) (L : List (View.Piece (Elt Ideal) S2x520x256 .f32)) :
    v.readCov (⟨Rect.unit ![s, 0, 0] ![1, 8, 256] i1, p⟩ :: ⟨Rect.unit ![s, 8, 0] ![1, 512, 256] i2, q⟩ :: L) (Rect.unit ![s, o, 0] ![1, 512, 256] i3).toLoadRect = SH o p q := by
  rw [View.readCov_eq_canon']
  funext y
  have hy : (y 1).val < 512 := (y 1).isLt
  have h0 : (y 0).val < 1 := (y 0).isLt
  show View.canon _ _ = _
  unfold SH
  by_cases h : o + (y 1).val < 8
  · rw [dif_pos h]
    have e : (Rect.unit (s := S2x520x256) ![s, o, 0] ![1, 512, 256] i3).toLoadRect.idx y =
        (Rect.unit (s := S2x520x256) ![s, 0, 0] ![1, 8, 256] i1).emb (ix3 0 ⟨o + (y 1).val, h⟩ (y 2)) := by
      funext a
      apply Fin.ext
      match a with
      | ⟨0, _⟩ => show s + 1 * (y 0).val = s + 1 * 0; omega
      | ⟨1, _⟩ => show o + 1 * (y 1).val = 0 + 1 * (o + (y 1).val); omega
      | ⟨2, _⟩ => rfl
    rw [e]
    exact View.canon_cons_emb _ _ _ _
  · rw [dif_neg h]
    have e : (Rect.unit (s := S2x520x256) ![s, o, 0] ![1, 512, 256] i3).toLoadRect.idx y =
        (Rect.unit (s := S2x520x256) ![s, 8, 0] ![1, 512, 256] i2).emb (ix3 0 ⟨(o + (y 1).val - 8) % 512, Nat.mod_lt _ (by norm_num)⟩ (y 2)) := by
      funext a
      apply Fin.ext
      match a with
      | ⟨0, _⟩ => show s + 1 * (y 0).val = s + 1 * 0; omega
      | ⟨1, _⟩ => show o + 1 * (y 1).val = 8 + 1 * ((o + (y 1).val - 8) % 512); omega
      | ⟨2, _⟩ => rfl
    rw [e]
    refine (View.canon_cons_of_not_mem _ _ ?_).trans (View.canon_cons_emb _ _ _ _)
    rw [Rect.mem_set_unit]
    intro hm
    have h1 := (hm 1).2
    have h2 : 8 + 1 * ((o + (y 1).val - 8) % 512) < 0 + 8 := h1
    omega

/-- One sub-block's result. -/
def piece (hd : Vec Ideal S1x8x256 .f32) (x : Vec Ideal S512x2048 .bf16) (wu wg : Vec Ideal S2048x256 .bf16) (w : Vec Ideal S3x256 .f32) (b : Vec Ideal S1x256 .f32) : Vec Ideal S512x256 .bf16 :=
  k0_pay15 (k0_pay7 x wg) (SH 7 hd (k0_pay7 x wg)) (SH 6 hd (k0_pay7 x wg)) w b (k0_pay7 x wu)

/-- A block's stores into the result, last first. -/
def pieces (x : Vec Ideal S2048x2048 .bf16) (wu wg : Vec Ideal S2048x512 .bf16) (w : Vec Ideal S3x512 .f32) (b : Vec Ideal S1x512 .f32) (k : Vec Ideal S8x512 .f32) :
    List (View.Piece (Elt Ideal) S2048x512 .bf16) :=
  [
⟨Rect.unit ![1536, 256] ![512, 256] inb_S2048x512_S512x256_1536_256,
      piece (k0_pay19 (TL (k0_pay7 (View.ld x (Rect.unit ![1024, 0] ![512, 2048] inb_S2048x2048_S512x2048_1024_0)) (View.ld wg (Rect.unit ![0, 256] ![2048, 256] inb_S2048x512_S2048x256_0_256))))) (View.ld x (Rect.unit ![1536, 0] ![512, 2048] inb_S2048x2048_S512x2048_1536_0)) (View.ld wu (Rect.unit ![0, 256] ![2048, 256] inb_S2048x512_S2048x256_0_256)) (View.ld wg (Rect.unit ![0, 256] ![2048, 256] inb_S2048x512_S2048x256_0_256))
        (View.ld w (Rect.unit ![0, 256] ![3, 256] inb_S3x512_S3x256_0_256)) (View.ld b (Rect.unit ![0, 256] ![1, 256] inb_S1x512_S1x256_0_256))⟩,
    ⟨Rect.unit ![1024, 256] ![512, 256] inb_S2048x512_S512x256_1024_256,
      piece (k0_pay19 (TL (k0_pay7 (View.ld x (Rect.unit ![512, 0] ![512, 2048] inb_S2048x2048_S512x2048_512_0)) (View.ld wg (Rect.unit ![0, 256] ![2048, 256] inb_S2048x512_S2048x256_0_256))))) (View.ld x (Rect.unit ![1024, 0] ![512, 2048] inb_S2048x2048_S512x2048_1024_0)) (View.ld wu (Rect.unit ![0, 256] ![2048, 256] inb_S2048x512_S2048x256_0_256)) (View.ld wg (Rect.unit ![0, 256] ![2048, 256] inb_S2048x512_S2048x256_0_256))
        (View.ld w (Rect.unit ![0, 256] ![3, 256] inb_S3x512_S3x256_0_256)) (View.ld b (Rect.unit ![0, 256] ![1, 256] inb_S1x512_S1x256_0_256))⟩,
    ⟨Rect.unit ![512, 256] ![512, 256] inb_S2048x512_S512x256_512_256,
      piece (k0_pay19 (TL (k0_pay7 (View.ld x (Rect.unit ![0, 0] ![512, 2048] inb_S2048x2048_S512x2048_0_0)) (View.ld wg (Rect.unit ![0, 256] ![2048, 256] inb_S2048x512_S2048x256_0_256))))) (View.ld x (Rect.unit ![512, 0] ![512, 2048] inb_S2048x2048_S512x2048_512_0)) (View.ld wu (Rect.unit ![0, 256] ![2048, 256] inb_S2048x512_S2048x256_0_256)) (View.ld wg (Rect.unit ![0, 256] ![2048, 256] inb_S2048x512_S2048x256_0_256))
        (View.ld w (Rect.unit ![0, 256] ![3, 256] inb_S3x512_S3x256_0_256)) (View.ld b (Rect.unit ![0, 256] ![1, 256] inb_S1x512_S1x256_0_256))⟩,
    ⟨Rect.unit ![0, 256] ![512, 256] inb_S2048x512_S512x256_0_256,
      piece (k0_pay9 (View.ld k (Rect.unit ![0, 256] ![8, 256] inb_S8x512_S8x256_0_256))) (View.ld x (Rect.unit ![0, 0] ![512, 2048] inb_S2048x2048_S512x2048_0_0)) (View.ld wu (Rect.unit ![0, 256] ![2048, 256] inb_S2048x512_S2048x256_0_256)) (View.ld wg (Rect.unit ![0, 256] ![2048, 256] inb_S2048x512_S2048x256_0_256))
        (View.ld w (Rect.unit ![0, 256] ![3, 256] inb_S3x512_S3x256_0_256)) (View.ld b (Rect.unit ![0, 256] ![1, 256] inb_S1x512_S1x256_0_256))⟩,
    ⟨Rect.unit ![1536, 0] ![512, 256] inb_S2048x512_S512x256_1536_0,
      piece (k0_pay19 (TL (k0_pay7 (View.ld x (Rect.unit ![1024, 0] ![512, 2048] inb_S2048x2048_S512x2048_1024_0)) (View.ld wg (Rect.unit ![0, 0] ![2048, 256] inb_S2048x512_S2048x256_0_0))))) (View.ld x (Rect.unit ![1536, 0] ![512, 2048] inb_S2048x2048_S512x2048_1536_0)) (View.ld wu (Rect.unit ![0, 0] ![2048, 256] inb_S2048x512_S2048x256_0_0)) (View.ld wg (Rect.unit ![0, 0] ![2048, 256] inb_S2048x512_S2048x256_0_0))
        (View.ld w (Rect.unit ![0, 0] ![3, 256] inb_S3x512_S3x256_0_0)) (View.ld b (Rect.unit ![0, 0] ![1, 256] inb_S1x512_S1x256_0_0))⟩,
    ⟨Rect.unit ![1024, 0] ![512, 256] inb_S2048x512_S512x256_1024_0,
      piece (k0_pay19 (TL (k0_pay7 (View.ld x (Rect.unit ![512, 0] ![512, 2048] inb_S2048x2048_S512x2048_512_0)) (View.ld wg (Rect.unit ![0, 0] ![2048, 256] inb_S2048x512_S2048x256_0_0))))) (View.ld x (Rect.unit ![1024, 0] ![512, 2048] inb_S2048x2048_S512x2048_1024_0)) (View.ld wu (Rect.unit ![0, 0] ![2048, 256] inb_S2048x512_S2048x256_0_0)) (View.ld wg (Rect.unit ![0, 0] ![2048, 256] inb_S2048x512_S2048x256_0_0))
        (View.ld w (Rect.unit ![0, 0] ![3, 256] inb_S3x512_S3x256_0_0)) (View.ld b (Rect.unit ![0, 0] ![1, 256] inb_S1x512_S1x256_0_0))⟩,
    ⟨Rect.unit ![512, 0] ![512, 256] inb_S2048x512_S512x256_512_0,
      piece (k0_pay19 (TL (k0_pay7 (View.ld x (Rect.unit ![0, 0] ![512, 2048] inb_S2048x2048_S512x2048_0_0)) (View.ld wg (Rect.unit ![0, 0] ![2048, 256] inb_S2048x512_S2048x256_0_0))))) (View.ld x (Rect.unit ![512, 0] ![512, 2048] inb_S2048x2048_S512x2048_512_0)) (View.ld wu (Rect.unit ![0, 0] ![2048, 256] inb_S2048x512_S2048x256_0_0)) (View.ld wg (Rect.unit ![0, 0] ![2048, 256] inb_S2048x512_S2048x256_0_0))
        (View.ld w (Rect.unit ![0, 0] ![3, 256] inb_S3x512_S3x256_0_0)) (View.ld b (Rect.unit ![0, 0] ![1, 256] inb_S1x512_S1x256_0_0))⟩,
    ⟨Rect.unit ![0, 0] ![512, 256] inb_S2048x512_S512x256_0_0,
      piece (k0_pay9 (View.ld k (Rect.unit ![0, 0] ![8, 256] inb_S8x512_S8x256_0_0))) (View.ld x (Rect.unit ![0, 0] ![512, 2048] inb_S2048x2048_S512x2048_0_0)) (View.ld wu (Rect.unit ![0, 0] ![2048, 256] inb_S2048x512_S2048x256_0_0)) (View.ld wg (Rect.unit ![0, 0] ![2048, 256] inb_S2048x512_S2048x256_0_0))
        (View.ld w (Rect.unit ![0, 0] ![3, 256] inb_S3x512_S3x256_0_0)) (View.ld b (Rect.unit ![0, 0] ![1, 256] inb_S1x512_S1x256_0_0))⟩]

/-- A block's stores into the eight rows carried on, over `L`. -/
def carried (x : Vec Ideal S2048x2048 .bf16) (wg : Vec Ideal S2048x512 .bf16) (L : List (View.Piece (Elt Ideal) S8x512 .f32)) :
    List (View.Piece (Elt Ideal) S8x512 .f32) :=
  ⟨Rect.unit ![0, 256] ![8, 256] inb_S8x512_S8x256_0_256, k0_pay28 (TL (k0_pay7 (View.ld x (Rect.unit ![1536, 0] ![512, 2048] inb_S2048x2048_S512x2048_1536_0)) (View.ld wg (Rect.unit ![0, 256] ![2048, 256] inb_S2048x512_S2048x256_0_256))))⟩ ::
    ⟨Rect.unit ![0, 0] ![8, 256] inb_S8x512_S8x256_0_0, k0_pay28 (TL (k0_pay7 (View.ld x (Rect.unit ![1536, 0] ![512, 2048] inb_S2048x2048_S512x2048_1536_0)) (View.ld wg (Rect.unit ![0, 0] ![2048, 256] inb_S2048x512_S2048x256_0_0))))⟩ :: L

theorem ep_at (g h k u : Vec Ideal S1x512x256 .f32) (w : Vec Ideal S3x256 .f32) (b : Vec Ideal S1x256 .f32) (i : Fin 512) (j : Fin 256) :
    k0_pay15 g h k w b u (ix2 i j) = Up.act (w (ix2 0 j)) (w (ix2 1 j)) (w (ix2 2 j)) (b (ix2 0 j)) (k (ix3 0 i j)) (h (ix3 0 i j)) (g (ix3 0 i j)) (u (ix3 0 i j)) := by
  have e : Named.named (F := Ideal) κ (φ := .f32) "sqrt2" 0x3FB504F3#32 = ((Real.sqrt 2 : ℝ) : EReal) := rfl
  pointwise [k0_pay15]
  rw [e]
  rfl

theorem out_A (t : Fin cfg0.N) (h0 : t.val % 4 = 0) (h1 : t.val % 2 = 0) : (outsAt0 m c t.val t.isLt).1 =
    View.canon (pieces (iblk m c 0 t) (k0_pay3 (iblk m c 1 t)) (k0_pay4 (iblk m c 2 t)) (iblk m c 3 t) (iblk m c 4 t) (k0_pay5 (F := Ideal))) := by
  rw [outsAt0_A m c t h0 h1]
  frame_out
  simp (disch := decide) only [↓View.readCov_skip, ↓View.readCov_fill, ↓View.readCov_cons_toLoadRect, ↓read_sh, ↓read_tl, ↓read_unread_whole, pr8, pr11, pr12, pr17, pr18, pr25, pr26, pr36, pr38, pr44, pr45,
    pr49, pr50, pr59, pr61, hd14, hd27, hd46, hd51, hd62, hd39, cr63, ep23, ep34, ep42, ep47, ep57, ep68, ep1]
  rfl

theorem carry_A (t : Fin cfg0.N) (h0 : t.val % 4 = 0) (h1 : t.val % 2 = 0) : ∃ L, (outsAt0 m c t.val t.isLt).2.2.2.2 =
    View.canon (carried (iblk m c 0 t) (k0_pay4 (iblk m c 2 t)) L) := by
  rw [outsAt0_A m c t h0 h1]
  frame_out
  simp (disch := decide) only [↓View.readCov_skip, ↓View.readCov_fill, ↓View.readCov_cons_toLoadRect, ↓read_sh, ↓read_tl, ↓read_unread_whole, pr8, pr11, pr12, pr17, pr18, pr25, pr26, pr36, pr38, pr44, pr45,
    pr49, pr50, pr59, pr61, hd14, hd27, hd46, hd51, hd62, hd39, cr63, ep23, ep34, ep42, ep47, ep57, ep68, ep1]
  exact ⟨_, rfl⟩

theorem out_B (t : Fin cfg0.N) (h0 : ¬t.val % 4 = 0) (h1 : ¬t.val % 2 = 0) : (outsAt0 m c t.val t.isLt).1 =
    View.canon (pieces (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2.1 (iblk m c 3 t) (iblk m c 4 t) (outsAt0 m c (t.val - 1) (Nat.lt_of_le_of_lt (Nat.sub_le _ _) t.isLt)).2.2.2.2) := by
  rw [outsAt0_B m c t h0 h1]
  frame_out
  simp (disch := decide) only [↓View.readCov_skip, ↓View.readCov_fill, ↓View.readCov_cons_toLoadRect, ↓read_sh, ↓read_tl, ↓read_unread_whole, pr8, pr11, pr12, pr17, pr18, pr25, pr26, pr36, pr38, pr44, pr45,
    pr49, pr50, pr59, pr61, hd14, hd27, hd46, hd51, hd62, hd39, cr63, ep23, ep34, ep42, ep47, ep57, ep68, ep1]
  rfl

theorem out_C (t : Fin cfg0.N) (h0 : ¬t.val % 4 = 0) (h1 : t.val % 2 = 0) : (outsAt0 m c t.val t.isLt).1 =
    View.canon (pieces (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2.1 (iblk m c 3 t) (iblk m c 4 t) (k0_pay5 (F := Ideal))) := by
  rw [outsAt0_C m c t h0 h1]
  frame_out
  simp (disch := decide) only [↓View.readCov_skip, ↓View.readCov_fill, ↓View.readCov_cons_toLoadRect, ↓read_sh, ↓read_tl, ↓read_unread_whole, pr8, pr11, pr12, pr17, pr18, pr25, pr26, pr36, pr38, pr44, pr45,
    pr49, pr50, pr59, pr61, hd14, hd27, hd46, hd51, hd62, hd39, cr63, ep23, ep34, ep42, ep47, ep57, ep68, ep1]
  rfl

theorem carry_C (t : Fin cfg0.N) (h0 : ¬t.val % 4 = 0) (h1 : t.val % 2 = 0) : ∃ L, (outsAt0 m c t.val t.isLt).2.2.2.2 =
    View.canon (carried (iblk m c 0 t) (outsAt0 m c (t.val - 1) (Nat.lt_of_le_of_lt (Nat.sub_le _ _) t.isLt)).2.2.2.1 L) := by
  rw [outsAt0_C m c t h0 h1]
  frame_out
  simp (disch := decide) only [↓View.readCov_skip, ↓View.readCov_fill, ↓View.readCov_cons_toLoadRect, ↓read_sh, ↓read_tl, ↓read_unread_whole, pr8, pr11, pr12, pr17, pr18, pr25, pr26, pr36, pr38, pr44, pr45,
    pr49, pr50, pr59, pr61, hd14, hd27, hd46, hd51, hd62, hd39, cr63, ep23, ep34, ep42, ep47, ep57, ep68, ep1]
  exact ⟨_, rfl⟩

/-- A rectangle of a matrix, at a row and a column. -/
theorem ld_at {a b r q n k : ℕ} {e : EltTy} (A : (⟨2, ![a, b]⟩ : Shape).Idx → Elt Ideal e) (f : ℕ → ℕ → Elt Ideal e) (hA : ∀ (i : Fin a) (j : Fin b), A (ix2 i j) = f i.val j.val)
    (inb) (i : Fin n) (j : Fin k) : View.ld A (Rect.unit (s := ⟨2, ![a, b]⟩) ![r, q] ![n, k] inb) (ix2 i j) = f (r + i.val) (q + j.val) := by
  have h0 : r + n ≤ a := inb 0
  have h1 : q + k ≤ b := inb 1
  refine (View.ld_unit_apply_of A ![r, q] ![n, k] inb (ix2 i j) (ix2 ⟨r + i.val, by omega⟩ ⟨q + j.val, by omega⟩) fun a => ?_).trans (hA _ _)
  match a with
  | ⟨0, _⟩ => rfl
  | ⟨1, _⟩ => rfl

section
variable (X WU WG K CW : ℕ → ℕ → EReal) (CB : ℕ → EReal)

theorem sh_at (o R C : ℕ) (ho : o ≤ 8) (hd : Vec Ideal S1x8x256 .f32) (q : Vec Ideal S1x512x256 .f32)
    (hhd : ∀ (i : Fin 8) (j : Fin 256), hd (ix3 0 i j) = Up.rows X WG K (R + i.val) (C + j.val))
    (hq : ∀ (i : Fin 512) (j : Fin 256), q (ix3 0 i j) = Up.prod X WG (R + i.val) (C + j.val)) (i : Fin 512) (j : Fin 256) :
    SH o hd q (ix3 0 i j) = Up.rows X WG K (R + i.val + o) (C + j.val) := by
  by_cases h : o + i.val < 8
  · refine (dif_pos h).trans ((hhd _ _).trans ?_)
    rw [show R + i.val + o = R + (o + i.val) by omega]
    rfl
  · refine (dif_neg h).trans ((hq _ _).trans ?_)
    have e : R + (o + i.val - 8) % 512 = R + i.val + o - 8 := by omega
    unfold Up.rows
    rw [if_neg (by omega), ← e]
    rfl

theorem piece_at (R C : ℕ) (hd : Vec Ideal S1x8x256 .f32) (x : Vec Ideal S512x2048 .bf16) (wu wg : Vec Ideal S2048x256 .bf16) (w : Vec Ideal S3x256 .f32) (b : Vec Ideal S1x256 .f32)
    (hx : ∀ (i : Fin 512) (k : Fin 2048), x (ix2 i k) = X (R + i.val) (0 + k.val))
    (hu : ∀ (k : Fin 2048) (j : Fin 256), wu (ix2 k j) = WU (0 + k.val) (C + j.val))
    (hg : ∀ (k : Fin 2048) (j : Fin 256), wg (ix2 k j) = WG (0 + k.val) (C + j.val))
    (hw : ∀ (a : Fin 3) (j : Fin 256), w (ix2 a j) = CW (0 + a.val) (C + j.val))
    (hb : ∀ (a : Fin 1) (j : Fin 256), b (ix2 a j) = CB (C + j.val))
    (hhd : ∀ (i : Fin 8) (j : Fin 256), hd (ix3 0 i j) = Up.rows X WG K (R + i.val) (C + j.val)) (i : Fin 512) (j : Fin 256) :
    piece hd x wu wg w b (ix2 i j) = Up.tile X WU WG K CW CB (R + i.val) (C + j.val) := by
  simp only [Nat.zero_add] at hx hu hg hw
  have hq : ∀ (i : Fin 512) (j : Fin 256), k0_pay7 x wg (ix3 0 i j) = Up.prod X WG (R + i.val) (C + j.val) := fun i j => by
    rw [pr_at]
    simp only [hx, hg]
    rfl
  have hp : ∀ (i : Fin 512) (j : Fin 256), k0_pay7 x wu (ix3 0 i j) = Up.prod X WU (R + i.val) (C + j.val) := fun i j => by
    rw [pr_at]
    simp only [hx, hu]
    rfl
  unfold piece
  rw [ep_at, sh_at X WG K 7 R C (by norm_num) hd _ hhd hq, sh_at X WG K 6 R C (by norm_num) hd _ hhd hq, hq, hp, hw, hw, hw, hb]
  rfl

/-- The eight rows before a sub-block that is not the first of its columns. -/
theorem head_at (R C : ℕ) (x : Vec Ideal S512x2048 .bf16) (wg : Vec Ideal S2048x256 .bf16)
    (hx : ∀ (i : Fin 512) (k : Fin 2048), x (ix2 i k) = X (R + i.val) (0 + k.val))
    (hg : ∀ (k : Fin 2048) (j : Fin 256), wg (ix2 k j) = WG (0 + k.val) (C + j.val)) (i : Fin 8) (j : Fin 256) :
    TL (k0_pay7 x wg) (ix3 0 i j) = Up.prod X WG (R + 504 + i.val) (C + j.val) := by
  simp only [Nat.zero_add] at hx hg
  refine (pr_at x wg ⟨504 + i.val, by omega⟩ j).trans ?_
  simp only [hx, hg]
  rw [Nat.add_assoc]
  rfl

variable (x : Vec Ideal S2048x2048 .bf16) (wu wg : Vec Ideal S2048x512 .bf16) (w : Vec Ideal S3x512 .f32) (b : Vec Ideal S1x512 .f32) (k : Vec Ideal S8x512 .f32)
  (hx : ∀ (i : Fin 2048) (k : Fin 2048), x (ix2 i k) = X i.val k.val)
  (hu : ∀ (k : Fin 2048) (j : Fin 512), wu (ix2 k j) = WU k.val j.val)
  (hg : ∀ (k : Fin 2048) (j : Fin 512), wg (ix2 k j) = WG k.val j.val)
  (hw : ∀ (a : Fin 3) (j : Fin 512), w (ix2 a j) = CW a.val j.val)
  (hb : ∀ (a : Fin 1) (j : Fin 512), b (ix2 a j) = CB j.val)
  (hk : ∀ (i : Fin 8) (j : Fin 512), k (ix2 i j) = K i.val j.val)
include hx hu hg hw hb hk

theorem pieces_at (i : Fin 2048) (j : Fin 512) : View.canon (pieces x wu wg w b k) (ix2 i j) = Up.tile X WU WG K CW CB i.val j.val := by
  have first : ∀ (C : ℕ) (inb) (i : Fin 8) (j : Fin 256), k0_pay9 (View.ld k (Rect.unit (s := S8x512) ![0, C] ![8, 256] inb)) (ix3 0 i j) = Up.rows X WG K (0 + i.val) (C + j.val) := fun C inb i j => by
    rw [hc_at, ld_at k K hk]
    unfold Up.rows
    rw [if_pos (by omega)]
  have later : ∀ (R C R' : ℕ) (hR : R' = R + 512) (inb inb') (i : Fin 8) (j : Fin 256),
      k0_pay19 (TL (k0_pay7 (View.ld x (Rect.unit (s := S2048x2048) ![R, 0] ![512, 2048] inb)) (View.ld wg (Rect.unit (s := S2048x512) ![0, C] ![2048, 256] inb')))) (ix3 0 i j) =
        Up.rows X WG K (R' + i.val) (C + j.val) := fun R C R' hR inb inb' i j => by
    rw [hd_at, head_at X WG R C _ _ (fun i k => ld_at x X hx inb i k) (fun k j => ld_at wg WG hg inb' k j)]
    unfold Up.rows
    rw [if_neg (by omega), show R' + i.val - 8 = R + 504 + i.val by omega]
  have P : ∀ (R C : ℕ) (hd : Vec Ideal S1x8x256 .f32) (i0 i1 i2 i3 i4)
      (hhd : ∀ (i : Fin 8) (j : Fin 256), hd (ix3 0 i j) = Up.rows X WG K (R + i.val) (C + j.val)) (y : S512x256.Idx),
      piece hd (View.ld x (Rect.unit (s := S2048x2048) ![R, 0] ![512, 2048] i0)) (View.ld wu (Rect.unit (s := S2048x512) ![0, C] ![2048, 256] i1)) (View.ld wg (Rect.unit (s := S2048x512) ![0, C] ![2048, 256] i2))
        (View.ld w (Rect.unit (s := S3x512) ![0, C] ![3, 256] i3)) (View.ld b (Rect.unit (s := S1x512) ![0, C] ![1, 256] i4)) y =
        Up.tile X WU WG K CW CB (R + 1 * (y 0).val) (C + 1 * (y 1).val) := fun R C hd i0 i1 i2 i3 i4 hhd y => by
    have e := piece_at X WU WG K CW CB R C hd _ _ _ _ _ (fun i k => ld_at x X hx i0 i k) (fun k j => ld_at wu WU hu i1 k j) (fun k j => ld_at wg WG hg i2 k j) (fun a j => ld_at w CW hw i3 a j)
      (fun a j => ld_at b (fun _ => CB) hb i4 a j) hhd (y 0) (y 1)
    rw [Nat.one_mul, Nat.one_mul]
    refine Eq.trans (congrArg _ ?_) e
    funext a
    match a with
    | ⟨0, _⟩ => rfl
    | ⟨1, _⟩ => rfl
  refine View.canon_append_of_piecesOf (fun y => Up.tile X WU WG K CW CB (y 0).val (y 1).val) [] (pieces x wu wg w b k)
    ⟨fun y => P 1536 256 _ _ _ _ _ _ (later 1024 256 1536 rfl _ _) y, fun y => P 1024 256 _ _ _ _ _ _ (later 512 256 1024 rfl _ _) y, fun y => P 512 256 _ _ _ _ _ _ (later 0 256 512 rfl _ _) y, fun y => P 0 256 _ _ _ _ _ _ (first 256 _) y,
      fun y => P 1536 0 _ _ _ _ _ _ (later 1024 0 1536 rfl _ _) y, fun y => P 1024 0 _ _ _ _ _ _ (later 512 0 1024 rfl _ _) y, fun y => P 512 0 _ _ _ _ _ _ (later 0 0 512 rfl _ _) y, fun y => P 0 0 _ _ _ _ _ _ (first 0 _) y, trivial⟩ (ix2 i j) ?_
  exact View.cover_of_tiledL (pieces x wu wg w b k) S512x256.size (by sl_kernel_rfl) (ix2 i j)

omit hu hw hb hk in
theorem carried_at (L : List (View.Piece (Elt Ideal) S8x512 .f32)) (i : Fin 8) (j : Fin 512) : View.canon (carried x wg L) (ix2 i j) = Up.prod X WG (2040 + i.val) j.val := by
  have P : ∀ (C : ℕ) (i0 i1) (y : S8x256.Idx),
      k0_pay28 (TL (k0_pay7 (View.ld x (Rect.unit (s := S2048x2048) ![1536, 0] ![512, 2048] i0)) (View.ld wg (Rect.unit (s := S2048x512) ![0, C] ![2048, 256] i1)))) y =
        Up.prod X WG (2040 + (0 + 1 * (y 0).val)) (C + 1 * (y 1).val) := fun C i0 i1 y => by
    have e := (cr_at _ (y 0) (y 1)).trans (head_at X WG 1536 C _ _ (fun i k => ld_at x X hx i0 i k) (fun k j => ld_at wg WG hg i1 k j) (y 0) (y 1))
    rw [Nat.one_mul, Nat.one_mul, Nat.zero_add]
    refine Eq.trans (congrArg _ ?_) e
    funext a
    match a with
    | ⟨0, _⟩ => rfl
    | ⟨1, _⟩ => rfl
  refine View.canon_append_of_piecesOf (fun y => Up.prod X WG (2040 + (y 0).val) (y 1).val) L (carried x wg []) ⟨fun y => ?_, fun y => ?_, trivial⟩ (ix2 i j) ?_
  · have e := P 256 inb_S2048x2048_S512x2048_1536_0 inb_S2048x512_S2048x256_0_256 y
    exact e
  · have e := P 0 inb_S2048x2048_S512x2048_1536_0 inb_S2048x512_S2048x256_0_0 y
    exact e
  exact View.cover_of_tiledL (carried x wg []) S8x256.size (by sl_kernel_rfl) (ix2 i j)

end

/-! ## The blocks -/

theorem idx : ∀ t : Fin cfg0.N, win0_0.index t = ![t.val % 4, 0] ∧ win0_1.index t = ![0, 0, t.val / 4] ∧ win0_2.index t = ![0, 0, 11 + t.val / 4] ∧ win0_3.index t = ![0, t.val / 4] ∧ win0_4.index t = ![0, t.val / 4] ∧
    win0_5.index t = ![0, t.val, 0] ∧ win0_6.index t = ![t.val % 4, t.val / 4] ∧ win0_7.index t = ![0, t.val, 0] :=
  (by decide +kernel : ∀ t : Fin grid0.N, _)

/-- The argument arrays. -/
def H (b : Fin 2) (r : Fin 4096) (j : Fin 2048) : EReal := m ((c : Thread nD τ).loc main_arg0) (ix3 b r j)
def W (b : Fin 2) (k : Fin 2048) (j : Fin 11264) : EReal := m ((c : Thread nD τ).loc main_arg1) (ix3 b k j)
def C (b : Fin 2) (a : Fin 3) (j : Fin 5632) : EReal := m ((c : Thread nD τ).loc main_arg2) (ix3 b a j)
def B (b : Fin 2) (j : Fin 5632) : EReal := m ((c : Thread nD τ).loc main_arg3) (ix2 b j)
def D (b : Fin 2) (k : Fin 5632) (j : Fin 2048) : EReal := m ((c : Thread nD τ).loc main_arg4) (ix3 b k j)

theorem v1_at (n : Fin 8192) (k : Fin 2048) : (V m c main_v1 : Vec Ideal S8192x2048 .bf16) (ix2 n k) = Gla.at3 (H m c) (n.val / 4096) (n.val % 4096) k.val := by
  unfold V
  try simp only [List.flatten_cons, List.flatten_nil, List.append_nil, List.cons_append, List.nil_append]
  after_reads_at
  exact (Gla.at3_eq (H m c) _ _ _ _ _ _ rfl rfl rfl).symm
theorem v3_at (a : Fin 3) (j : Fin 5632) : (V m c main_v3 : Vec Ideal S3x5632 .f32) (ix2 a j) = Gla.at3 (C m c) 0 a.val j.val := by
  unfold V
  try simp only [List.flatten_cons, List.flatten_nil, List.append_nil, List.cons_append, List.nil_append]
  after_reads_at
  exact (Gla.at3_eq (C m c) _ _ _ _ _ _ rfl rfl rfl).symm
theorem v6_at (a : Fin 1) (j : Fin 5632) : (V m c main_v6 : Vec Ideal S1x5632 .f32) (ix2 a j) = Gla.at2 (B m c) 0 j.val := by
  unfold V
  try simp only [List.flatten_cons, List.flatten_nil, List.append_nil, List.cons_append, List.nil_append]
  after_reads_at
  exact (Gla.at2_eq (B m c) _ _ _ _ rfl rfl).symm

section
variable (t : Fin cfg0.N)

theorem x_at (i : Fin 2048) (k : Fin 2048) : (iblk m c 0 t : Vec Ideal S2048x2048 .bf16) (ix2 i k) = Gla.at3 (H m c) ((t.val % 4 * 2048 + i.val) / 4096) ((t.val % 4 * 2048 + i.val) % 4096) k.val := by
  have e : (iblk m c 0 t : Vec Ideal S2048x2048 .bf16) (ix2 i k) = (V m c main_v1 : Vec Ideal S8192x2048 .bf16) (ix2 ⟨t.val % 4 * 2048 + i.val, by omega⟩ k) := by
    blk_ext [iblk, idx t]
  rw [e, v1_at]
theorem wu_at (k : Fin 2048) (j : Fin 512) : (iblk m c 1 t : Vec Ideal S1x2048x512 .f32) (ix3 0 k j) = Gla.at3 (W m c) 0 k.val (t.val / 4 * 512 + j.val) := by
  have ht : t.val < 44 := lt_of_lt_of_eq t.isLt N_0
  have e : (iblk m c 1 t : Vec Ideal S1x2048x512 .f32) (ix3 0 k j) = m ((c : Thread nD τ).loc main_arg1) (ix3 0 k ⟨t.val / 4 * 512 + j.val, by omega⟩) := by
    blk_ext [iblk, V, idx t]
  rw [e]
  exact (Gla.at3_eq (W m c) _ _ _ _ _ _ rfl rfl rfl).symm
theorem wg_at (k : Fin 2048) (j : Fin 512) : (iblk m c 2 t : Vec Ideal S1x2048x512 .f32) (ix3 0 k j) = Gla.at3 (W m c) 0 k.val (5632 + (t.val / 4 * 512 + j.val)) := by
  have ht : t.val < 44 := lt_of_lt_of_eq t.isLt N_0
  have e : (iblk m c 2 t : Vec Ideal S1x2048x512 .f32) (ix3 0 k j) = m ((c : Thread nD τ).loc main_arg1) (ix3 0 k ⟨(11 + t.val / 4) * 512 + j.val, by omega⟩) := by
    blk_ext [iblk, V, idx t]
  rw [e]
  exact (Gla.at3_eq (W m c) _ _ _ _ _ _ rfl rfl (by show _ = (11 + t.val / 4) * 512 + j.val; omega)).symm
theorem cw_at (a : Fin 3) (j : Fin 512) : (iblk m c 3 t : Vec Ideal S3x512 .f32) (ix2 a j) = Gla.at3 (C m c) 0 a.val (t.val / 4 * 512 + j.val) := by
  have ht : t.val < 44 := lt_of_lt_of_eq t.isLt N_0
  have e : (iblk m c 3 t : Vec Ideal S3x512 .f32) (ix2 a j) = (V m c main_v3 : Vec Ideal S3x5632 .f32) (ix2 a ⟨t.val / 4 * 512 + j.val, by omega⟩) := by
    blk_ext [iblk, idx t]
  rw [e, v3_at]
theorem cb_at (a : Fin 1) (j : Fin 512) : (iblk m c 4 t : Vec Ideal S1x512 .f32) (ix2 a j) = Gla.at2 (B m c) 0 (t.val / 4 * 512 + j.val) := by
  have ht : t.val < 44 := lt_of_lt_of_eq t.isLt N_0
  have e : (iblk m c 4 t : Vec Ideal S1x512 .f32) (ix2 a j) = (V m c main_v6 : Vec Ideal S1x5632 .f32) (ix2 a ⟨t.val / 4 * 512 + j.val, by omega⟩) := by
    blk_ext [iblk, idx t]
  rw [e, v6_at]
theorem d_at (k : Fin 128) (j : Fin 2048) : (iblk m c 5 t : Vec Ideal S1x128x2048 .f32) (ix3 0 k j) = Gla.at3 (D m c) 0 (t.val * 128 + k.val) j.val := by
  have ht : t.val < 44 := lt_of_lt_of_eq t.isLt N_0
  have e : (iblk m c 5 t : Vec Ideal S1x128x2048 .f32) (ix3 0 k j) = m ((c : Thread nD τ).loc main_arg4) (ix3 0 ⟨t.val * 128 + k.val, by omega⟩ j) := by
    blk_ext [iblk, V, idx t]
  rw [e]
  exact (Gla.at3_eq (D m c) _ _ _ _ _ _ rfl rfl rfl).symm

end

/-! ## What the call carries between points -/

theorem wu_kept (t : Fin cfg0.N) (h0 : ¬t.val % 4 = 0) : (outsAt0 m c t.val t.isLt).2.2.1 = (outsAt0 m c (t.val - 1) (Nat.lt_of_le_of_lt (Nat.sub_le _ _) t.isLt)).2.2.1 := by
  by_cases h1 : t.val % 2 = 0
  · rw [outsAt0_C m c t h0 h1]
    rfl
  · rw [outsAt0_B m c t h0 h1]
    rfl

theorem wg_kept (t : Fin cfg0.N) (h0 : ¬t.val % 4 = 0) : (outsAt0 m c t.val t.isLt).2.2.2.1 = (outsAt0 m c (t.val - 1) (Nat.lt_of_le_of_lt (Nat.sub_le _ _) t.isLt)).2.2.2.1 := by
  by_cases h1 : t.val % 2 = 0
  · rw [outsAt0_C m c t h0 h1]
    rfl
  · rw [outsAt0_B m c t h0 h1]
    rfl

theorem wu_new (t : Fin cfg0.N) (h0 : t.val % 4 = 0) (k : Fin 2048) (j : Fin 512) : (outsAt0 m c t.val t.isLt).2.2.1 (ix2 k j) = Gla.at3 (W m c) 0 k.val (t.val / 4 * 512 + j.val) := by
  rw [outsAt0_A m c t h0 (by omega)]
  frame_out
  refine (w3_at _ k j).trans ?_
  rw [wu_at]

theorem wg_new (t : Fin cfg0.N) (h0 : t.val % 4 = 0) (k : Fin 2048) (j : Fin 512) : (outsAt0 m c t.val t.isLt).2.2.2.1 (ix2 k j) = Gla.at3 (W m c) 0 k.val (5632 + (t.val / 4 * 512 + j.val)) := by
  rw [outsAt0_A m c t h0 (by omega)]
  frame_out
  refine (w4_at _ k j).trans ?_
  rw [wg_at]

/-- The weights after a point: the columns of its block. -/
theorem wu_after (n : ℕ) : ∀ hn : n < cfg0.N, ∀ (k : Fin 2048) (j : Fin 512), (outsAt0 m c n hn).2.2.1 (ix2 k j) = Gla.at3 (W m c) 0 k.val (n / 4 * 512 + j.val) := by
  induction n with
  | zero => exact fun hn k j => wu_new m c ⟨0, hn⟩ rfl k j
  | succ n ih =>
    intro hn k j
    by_cases h0 : (n + 1) % 4 = 0
    · exact wu_new m c ⟨n + 1, hn⟩ h0 k j
    · rw [show (n + 1) / 4 = n / 4 by omega, ← ih (Nat.lt_of_succ_lt hn) k j]
      exact congrFun (wu_kept m c ⟨n + 1, hn⟩ h0) _

theorem wg_after (n : ℕ) : ∀ hn : n < cfg0.N, ∀ (k : Fin 2048) (j : Fin 512), (outsAt0 m c n hn).2.2.2.1 (ix2 k j) = Gla.at3 (W m c) 0 k.val (5632 + (n / 4 * 512 + j.val)) := by
  induction n with
  | zero => exact fun hn k j => wg_new m c ⟨0, hn⟩ rfl k j
  | succ n ih =>
    intro hn k j
    by_cases h0 : (n + 1) % 4 = 0
    · exact wg_new m c ⟨n + 1, hn⟩ h0 k j
    · rw [show (n + 1) / 4 = n / 4 by omega, ← ih (Nat.lt_of_succ_lt hn) k j]
      exact congrFun (wg_kept m c ⟨n + 1, hn⟩ h0) _

/-- A tile of the rows of point `n`. -/
def TX (n : ℕ) (r k : ℕ) : EReal := Gla.at3 (H m c) ((n % 4 * 2048 + r) / 4096) ((n % 4 * 2048 + r) % 4096) k
def TU (n : ℕ) (k j : ℕ) : EReal := Gla.at3 (W m c) 0 k (n / 4 * 512 + j)
def TG (n : ℕ) (k j : ℕ) : EReal := Gla.at3 (W m c) 0 k (5632 + (n / 4 * 512 + j))
def TC (n : ℕ) (a j : ℕ) : EReal := Gla.at3 (C m c) 0 a (n / 4 * 512 + j)
def TB (n : ℕ) (j : ℕ) : EReal := Gla.at2 (B m c) 0 (n / 4 * 512 + j)
/-- The eight rows before a point's: none before an even one. -/
def TK (n : ℕ) (i j : ℕ) : EReal := if n % 2 = 0 then 0 else Up.gate (H m c) (W m c) (n % 4 * 2048 + i - 8) (n / 4 * 512 + j)

theorem carry_after (t : Fin cfg0.N) (h1 : t.val % 2 = 0) (i : Fin 8) (j : Fin 512) :
    (outsAt0 m c t.val t.isLt).2.2.2.2 (ix2 i j) = Up.gate (H m c) (W m c) (t.val % 4 * 2048 + 2040 + i.val) (t.val / 4 * 512 + j.val) := by
  have e : ∀ wg : Vec Ideal S2048x512 .bf16, (∀ (k : Fin 2048) (j : Fin 512), wg (ix2 k j) = TG m c t.val k.val j.val) → ∀ L,
      View.canon (carried (iblk m c 0 t) wg L) (ix2 i j) = Up.gate (H m c) (W m c) (t.val % 4 * 2048 + 2040 + i.val) (t.val / 4 * 512 + j.val) := fun wg hg L => by
    rw [carried_at (TX m c t.val) (TG m c t.val) (iblk m c 0 t) wg (fun i k => x_at m c t i k) hg, Nat.add_assoc]
    rfl
  by_cases h0 : t.val % 4 = 0
  · obtain ⟨L, hL⟩ := carry_A m c t h0 h1
    rw [hL]
    exact e _ (fun k j => (w4_at _ k j).trans (wg_at m c t k j)) L
  · obtain ⟨L, hL⟩ := carry_C m c t h0 h1
    rw [hL]
    refine e _ (fun k j => (wg_after m c (t.val - 1) _ k j).trans ?_) L
    rw [show (t.val - 1) / 4 = t.val / 4 by omega]
    rfl

theorem tile_point (t : Fin cfg0.N) (i : Fin 2048) (j : Fin 512) :
    (outsAt0 m c t.val t.isLt).1 (ix2 i j) = Up.tile (TX m c t.val) (TU m c t.val) (TG m c t.val) (TK m c t.val) (TC m c t.val) (TB m c t.val) i.val j.val := by
  have e : ∀ (wu wg : Vec Ideal S2048x512 .bf16) (k : Vec Ideal S8x512 .f32), (∀ (k : Fin 2048) (j : Fin 512), wu (ix2 k j) = TU m c t.val k.val j.val) → (∀ (k : Fin 2048) (j : Fin 512), wg (ix2 k j) = TG m c t.val k.val j.val) →
      (∀ (i : Fin 8) (j : Fin 512), k (ix2 i j) = TK m c t.val i.val j.val) →
      View.canon (pieces (iblk m c 0 t) wu wg (iblk m c 3 t) (iblk m c 4 t) k) (ix2 i j) = Up.tile (TX m c t.val) (TU m c t.val) (TG m c t.val) (TK m c t.val) (TC m c t.val) (TB m c t.val) i.val j.val := fun wu wg k hu hg hk =>
    pieces_at _ _ _ _ _ _ _ _ _ _ _ _ (fun i k => x_at m c t i k) hu hg (fun a j => cw_at m c t a j) (fun a j => cb_at m c t a j) hk i j
  have z : t.val % 2 = 0 → ∀ (i : Fin 8) (j : Fin 512), k0_pay5 (F := Ideal) (ix2 i j) = TK m c t.val i.val j.val := fun h i j => (zc_at i j).trans (if_pos h).symm
  by_cases h0 : t.val % 4 = 0
  · rw [out_A m c t h0 (by omega)]
    exact e _ _ _ (fun k j => (w3_at _ k j).trans (wu_at m c t k j)) (fun k j => (w4_at _ k j).trans (wg_at m c t k j)) (z (by omega))
  · have q : (t.val - 1) / 4 = t.val / 4 := by omega
    have u : ∀ (k : Fin 2048) (j : Fin 512), (outsAt0 m c (t.val - 1) (Nat.lt_of_le_of_lt (Nat.sub_le _ _) t.isLt)).2.2.1 (ix2 k j) = TU m c t.val k.val j.val := fun k j => by
      rw [wu_after m c, q]
      rfl
    have g : ∀ (k : Fin 2048) (j : Fin 512), (outsAt0 m c (t.val - 1) (Nat.lt_of_le_of_lt (Nat.sub_le _ _) t.isLt)).2.2.2.1 (ix2 k j) = TG m c t.val k.val j.val := fun k j => by
      rw [wg_after m c, q]
      rfl
    by_cases h1 : t.val % 2 = 0
    · rw [out_C m c t h0 h1]
      exact e _ _ _ u g (z h1)
    · rw [out_B m c t h0 h1]
      refine e _ _ _ u g fun i j => ?_
      refine (carry_after m c ⟨t.val - 1, Nat.lt_of_le_of_lt (Nat.sub_le _ _) t.isLt⟩ (by show (t.val - 1) % 2 = 0; omega) i j).trans ?_
      unfold TK
      rw [if_neg h1, q, show (t.val - 1) % 4 * 2048 + 2040 + i.val = t.val % 4 * 2048 + i.val - 8 by omega]

theorem point (t : Fin cfg0.N) (i : Fin 2048) (j : Fin 512) :
    (outsAt0 m c t.val t.isLt).1 (ix2 i j) = Up.res (H m c) (W m c) (C m c) (B m c) (t.val % 4 * 2048 + i.val) (t.val / 4 * 512 + j.val) := by
  rw [tile_point]
  have p : ∀ d r, (d = 1 ∨ d = 2) → r = i.val + 8 - d → Up.rows (TX m c t.val) (TG m c t.val) (TK m c t.val) r j.val = Up.prev (H m c) (W m c) d (t.val % 4 * 2048 + i.val) (t.val / 4 * 512 + j.val) := fun d r hd hr => by
    unfold Up.rows Up.prev
    by_cases h : r < 8
    · rw [if_pos h]
      unfold TK
      by_cases h1 : t.val % 2 = 0
      · rw [if_pos h1, if_pos (by omega)]
      · rw [if_neg h1, if_neg (by omega)]
        exact congrArg (Up.gate (H m c) (W m c) · _) (by omega)
    · rw [if_neg h, if_neg (by omega)]
      have e : t.val % 4 * 2048 + i.val - d = t.val % 4 * 2048 + (r - 8) := by omega
      rw [e]
      rfl
  unfold Up.tile Up.res
  rw [p 2 (i.val + 6) (Or.inr rfl) (by omega), p 1 (i.val + 7) (Or.inl rfl) (by omega)]
  rfl

theorem final : (dats m 0 c).arrAt 6 (cfgs 0).N = fun i : S8192x5632.Idx => Up.res (H m c) (W m c) (C m c) (B m c) (i 0).val (i 1).val := by
  refine (dats m 0 c).arrAt_eq_of_covers 6 _ (by decide +kernel) fun t _ y => ?_
  blk_simp
  rw [after0_6]
  refine Eq.trans (b := (outsAt0 m c t.val t.isLt).1 (ix2 (y 0) (y 1))) ?_ ((point m c t _ _).trans ?_)
  · refine congrArg _ ?_
    funext a
    match a with
    | ⟨0, _⟩ => rfl
    | ⟨1, _⟩ => rfl
  · blk_simp [idx t]

theorem down_point (t : Fin cfg0.N) (a : Fin 1) (k : Fin 128) (j : Fin 2048) : (outsAt0 m c t.val t.isLt).2.1 (ix3 a k j) = Gla.at3 (D m c) 0 (t.val * 128 + k.val) j.val := by
  obtain rfl : a = 0 := Subsingleton.elim _ _
  by_cases h0 : t.val % 4 = 0
  · rw [outsAt0_A m c t h0 (by omega)]
    frame_out
    refine (wd_at _ k j).trans ?_
    rw [d_at]
  · by_cases h1 : t.val % 2 = 0
    · rw [outsAt0_C m c t h0 h1]
      frame_out
      refine (wd_at _ k j).trans ?_
      rw [d_at]
    · rw [outsAt0_B m c t h0 h1]
      frame_out
      refine (wd_at _ k j).trans ?_
      rw [d_at]

theorem final_down : (dats m 0 c).arrAt 7 (cfgs 0).N = fun i : S1x5632x2048.Idx => Gla.at3 (D m c) 0 (i 1).val (i 2).val := by
  refine (dats m 0 c).arrAt_eq_of_covers 7 _ (by decide +kernel) fun t _ y => ?_
  blk_simp
  rw [after0_7]
  refine Eq.trans (b := (outsAt0 m c t.val t.isLt).2.1 (ix3 (y 0) (y 1) (y 2))) ?_ ((down_point m c t _ _ _).trans ?_)
  · refine congrArg _ ?_
    funext a
    match a with
    | ⟨0, _⟩ => rfl
    | ⟨1, _⟩ => rfl
    | ⟨2, _⟩ => rfl
  · blk_simp [idx t]

end Cert.KernelUpIdeal.Result

/-! ## The reference -/

namespace Cert.ReferenceUpIdeal.Result

open Cert.ReferenceUpIdeal Cert.ReferenceUpIdeal.Gen Idealize.ShloMosaic Idealize.ShloMosaic.TcCoe Idealize.SL.Sem

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- Division by the root of two, taken at run time. -/
theorem div_root (x : EReal) : Ideal.div x (Ideal.sqrt (Ideal.ofBits .f32 0x40000000#32)) = Ideal.ofBits .f32 0x3F000000#32 * x * ((Real.sqrt 2 : ℝ) : EReal) := by
  have hs : 0 < Real.sqrt 2 := Real.sqrt_pos.mpr (by norm_num)
  rw [ofBits_two, ofBits_half, Ideal.sqrt_coe, if_neg (by norm_num), Ideal.div_coe hs.ne', mul_comm _ x, mul_assoc, ← EReal.coe_mul]
  refine congrArg (x * ·) (congrArg _ ?_)
  have h2 : Real.sqrt 2 * Real.sqrt 2 = 2 := Real.mul_self_sqrt (by norm_num)
  field_simp
  linarith

theorem half_eq (w0 w1 w2 b g2 g1 g : EReal) : Up.half w0 w1 w2 b g2 g1 g = Ideal.ofBits .f32 0x3F000000#32 * (w0 * g2 + w1 * g1 + w2 * g + b) := by
  have d : ∀ y z : EReal, ((1 / 2 : ℝ) : EReal) * (y + z) = ((1 / 2 : ℝ) : EReal) * y + ((1 / 2 : ℝ) : EReal) * z := fun y z =>
    EReal.left_distrib_of_nonneg_of_ne_top (by norm_num) (EReal.coe_ne_top _) y z
  unfold Up.half
  rw [ofBits_half, d, d, d, mul_assoc, mul_assoc, mul_assoc]

def DOT (x : FVec Ideal S2x4096x2048 .f32) (w : FVec Ideal S2x2048x11264 .f32) : FVec Ideal S2x4096x11264 .f32 :=
  Host.dotGeneral (φ₁ := .f32) (φ₂ := .f32) dot_S2x4096x2048_S2048x11264_S2x4096x11264_2_0_01_1_n_n none x (shapeCast S2048x11264 (extractStridedSlice S1x2048x11264 ![0, 0, 0] w slices_S2x2048x11264_S1x2048x11264_0_0_0) shapeCasts_S1x2048x11264_S2048x11264)

def PAD (x : FVec Ideal S2x4096x2048 .f32) (w : FVec Ideal S2x2048x11264 .f32) : FVec Ideal S2x4098x5632 .f32 :=
  pad S2x4098x5632 ![0, 2, 0] ![0, 0, 0] ![0, 0, 0] (extractStridedSlice S2x4096x5632 ![0, 0, 5632] (DOT x w) slices_S2x4096x11264_S2x4096x5632_0_0_5632) (sitofp .f32 (constantI S_ 32 0#32)) pads_S2x4096x5632_S2x4098x5632_000_200_000 h_S_

def CONV (x : FVec Ideal S2x4096x2048 .f32) (w : FVec Ideal S2x2048x11264 .f32) (cw : FVec Ideal S2x3x5632 .f32) (cb : FVec Ideal S2x5632 .f32) : FVec Ideal S2x4096x5632 .f32 :=
  addf (addf (addf (mulf (broadcastInDim S2x4096x5632 ![0, 1, 2] bcast_S1x1x5632_S2x4096x5632_0_1_2 (broadcastInDim S1x1x5632 ![2] bcast_S5632_S1x1x5632_2 (shapeCast S5632 (extractStridedSlice S1x5632 ![0, 0] (shapeCast S3x5632 (extractStridedSlice S1x3x5632 ![0, 0, 0] cw slices_S2x3x5632_S1x3x5632_0_0_0) shapeCasts_S1x3x5632_S3x5632) slices_S3x5632_S1x5632_0_0) shapeCasts_S1x5632_S5632))) (extractStridedSlice S2x4096x5632 ![0, 0, 0] (PAD x w) slices_S2x4098x5632_S2x4096x5632_0_0_0)) (mulf (broadcastInDim S2x4096x5632 ![0, 1, 2] bcast_S1x1x5632_S2x4096x5632_0_1_2 (broadcastInDim S1x1x5632 ![2] bcast_S5632_S1x1x5632_2 (shapeCast S5632 (extractStridedSlice S1x5632 ![1, 0] (shapeCast S3x5632 (extractStridedSlice S1x3x5632 ![0, 0, 0] cw slices_S2x3x5632_S1x3x5632_0_0_0) shapeCasts_S1x3x5632_S3x5632) slices_S3x5632_S1x5632_1_0) shapeCasts_S1x5632_S5632))) (extractStridedSlice S2x4096x5632 ![0, 1, 0] (PAD x w) slices_S2x4098x5632_S2x4096x5632_0_1_0))) (mulf (broadcastInDim S2x4096x5632 ![0, 1, 2] bcast_S1x1x5632_S2x4096x5632_0_1_2 (broadcastInDim S1x1x5632 ![2] bcast_S5632_S1x1x5632_2 (shapeCast S5632 (extractStridedSlice S1x5632 ![2, 0] (shapeCast S3x5632 (extractStridedSlice S1x3x5632 ![0, 0, 0] cw slices_S2x3x5632_S1x3x5632_0_0_0) shapeCasts_S1x3x5632_S3x5632) slices_S3x5632_S1x5632_2_0) shapeCasts_S1x5632_S5632))) (extractStridedSlice S2x4096x5632 ![0, 2, 0] (PAD x w) slices_S2x4098x5632_S2x4096x5632_0_2_0))) (broadcastInDim S2x4096x5632 ![0, 1, 2] bcast_S1x1x5632_S2x4096x5632_0_1_2 (broadcastInDim S1x1x5632 ![2] bcast_S5632_S1x1x5632_2 (shapeCast S5632 (extractStridedSlice S1x5632 ![0, 0] cb slices_S2x5632_S1x5632_0_0) shapeCasts_S1x5632_S5632)))

def REF (x : FVec Ideal S2x4096x2048 .f32) (w : FVec Ideal S2x2048x11264 .f32) (cw : FVec Ideal S2x3x5632 .f32) (cb : FVec Ideal S2x5632 .f32) : FVec Ideal S8192x5632 .bf16 :=
  truncf .bf16 (shapeCast _ (mulf (mulf (mulf (broadcastInDim S2x4096x5632 ![] bcast_S_S2x4096x5632 (constant S_ .f32 0x3F000000#32)) (CONV x w cw cb)) (addf (broadcastInDim S2x4096x5632 ![] bcast_S_S2x4096x5632 (constant S_ .f32 0x3F800000#32)) (Host.erf (Host.divf (CONV x w cw cb) (broadcastInDim S2x4096x5632 ![] bcast_S_S2x4096x5632 (Host.sqrt (constant S_ .f32 0x40000000#32))))))) (extractStridedSlice S2x4096x5632 ![0, 0, 0] (DOT x w) slices_S2x4096x11264_S2x4096x5632_0_0_0)) shapeCasts_S2x4096x5632_S8192x5632) bitsLt_bf16_f32

section
variable (x : FVec Ideal S2x4096x2048 .f32) (w : FVec Ideal S2x2048x11264 .f32) (cw : FVec Ideal S2x3x5632 .f32) (cb : FVec Ideal S2x5632 .f32)

theorem dot_at (b : Fin 2) (r : Fin 4096) (j : Fin 11264) (h : Fin 2 → Fin 4096 → Fin 2048 → EReal) (hh : h = fun b r j => x (ix3 b r j)) (v : Fin 2 → Fin 2048 → Fin 11264 → EReal) (hv : v = fun b r j => w (ix3 b r j)) :
    DOT x w (ix3 b r j) = ∑ k : Fin 2048, Gla.at3 h b.val r.val k.val * Gla.at3 v 0 k.val j.val := by
  subst hh hv
  pointwise [DOT]
  refine Finset.sum_congr rfl fun k _ => ?_
  exact congrArg₂ (· * ·) (Gla.at3_eq (fun b r j => x (ix3 b r j)) _ _ _ _ _ _ rfl rfl rfl).symm (Gla.at3_eq (fun b r j => w (ix3 b r j)) _ _ _ _ _ _ rfl rfl rfl).symm

/-- A row of the padded gate: rows before the first are zero. -/
theorem pad_at (b : Fin 2) (r : Fin 4098) (j : Fin 5632) (h : Fin 2 → Fin 4096 → Fin 2048 → EReal) (hh : h = fun b r j => x (ix3 b r j)) (v : Fin 2 → Fin 2048 → Fin 11264 → EReal) (hv : v = fun b r j => w (ix3 b r j))
    (n : ℕ) (hn : n = 4096 * b.val + r.val) : PAD x w (ix3 b r j) = if r.val < 2 then 0 else Up.gate h v (n - 2) j.val := by
  have hb : b.val < 2 := b.isLt
  have hr : r.val < 4098 := r.isLt
  by_cases c : r.val < 2
  · rw [if_pos c]
    pointwise [PAD]
    refine (dif_neg (by omega)).trans ?_
    simp [FloatOps.sitofp]
  · rw [if_neg c]
    unfold Up.gate
    rw [show (n - 2) / 4096 = b.val by omega, show (n - 2) % 4096 = r.val - 2 by omega]
    refine Eq.trans ?_ (dot_at x w b ⟨r.val - 2, by omega⟩ ⟨5632 + j.val, by omega⟩ h hh v hv)
    pointwise [PAD]
    exact dif_pos ⟨by omega, by omega⟩

theorem conv_at (b : Fin 2) (r : Fin 4096) (j : Fin 5632) (h : Fin 2 → Fin 4096 → Fin 2048 → EReal) (hh : h = fun b r j => x (ix3 b r j)) (v : Fin 2 → Fin 2048 → Fin 11264 → EReal) (hv : v = fun b r j => w (ix3 b r j))
    (n : ℕ) (hn : n = 4096 * b.val + r.val) :
    CONV x w cw cb (ix3 b r j) = Gla.at3 (fun b r j => cw (ix3 b r j)) 0 0 j.val * Up.prev h v 2 n j.val + Gla.at3 (fun b r j => cw (ix3 b r j)) 0 1 j.val * Up.prev h v 1 n j.val +
      Gla.at3 (fun b r j => cw (ix3 b r j)) 0 2 j.val * Up.gate h v n j.val + Gla.at2 (fun b j => cb (ix2 b j)) 0 j.val := by
  pointwise [CONV]
  have hr : r.val < 4096 := r.isLt
  have e0 : PAD x w (ix3 b ⟨r.val, by omega⟩ j) = Up.prev h v 2 n j.val := (pad_at x w b _ j h hh v hv n hn).trans (by unfold Up.prev; rw [show n % 4096 = r.val by omega])
  have e1 : PAD x w (ix3 b ⟨1 + r.val, by omega⟩ j) = Up.prev h v 1 n j.val := (pad_at x w b _ j h hh v hv (n + 1) (by show n + 1 = 4096 * b.val + (1 + r.val); omega)).trans (by
    show (if 1 + r.val < 2 then 0 else _) = _
    unfold Up.prev
    rw [show n % 4096 = r.val by omega, show n + 1 - 2 = n - 1 by omega]
    by_cases c : r.val < 1
    · rw [if_pos c, if_pos (by omega)]
    · rw [if_neg c, if_neg (by omega)])
  have e2 : PAD x w (ix3 b ⟨2 + r.val, by omega⟩ j) = Up.gate h v n j.val := (pad_at x w b _ j h hh v hv (n + 2) (by show n + 2 = 4096 * b.val + (2 + r.val); omega)).trans (by
    show (if 2 + r.val < 2 then 0 else _) = _
    rw [if_neg (by omega), show n + 2 - 2 = n by omega])
  rw [e0, e1, e2, Gla.at3_eq (fun b r j => cw (ix3 b r j)) 0 0 j 0 0 _ rfl rfl rfl, Gla.at3_eq (fun b r j => cw (ix3 b r j)) 0 1 j 0 1 _ rfl rfl rfl, Gla.at3_eq (fun b r j => cw (ix3 b r j)) 0 2 j 0 2 _ rfl rfl rfl,
    Gla.at2_eq (fun b j => cb (ix2 b j)) 0 j 0 _ rfl rfl]

theorem ref_at : REF x w cw cb = fun i => Up.res (fun b r j => x (ix3 b r j)) (fun b r j => w (ix3 b r j)) (fun b r j => cw (ix3 b r j)) (fun b j => cb (ix2 b j)) (i 0).val (i 1).val := by
  funext i
  obtain ⟨h, hh⟩ : ∃ h, h = fun b r j => x (ix3 b r j) := ⟨_, rfl⟩
  obtain ⟨v, hv⟩ : ∃ v, v = fun b r j => w (ix3 b r j) := ⟨_, rfl⟩
  rw [← hh, ← hv]
  have hi : (i 0).val < 8192 := (i 0).isLt
  pointwise [REF]
  have hj : (i 1).val < 5632 := (i 1).isLt
  unfold Up.res Up.act
  rw [div_root, conv_at x w cw cb ⟨(i 0).val / 4096, by omega⟩ ⟨(i 0).val % 4096, by omega⟩ (i 1) h hh v hv (i 0).val (by show _ = 4096 * ((i 0).val / 4096) + (i 0).val % 4096; omega), half_eq]
  refine congrArg₂ (· * ·) rfl ?_
  exact dot_at x w ⟨(i 0).val / 4096, by omega⟩ ⟨(i 0).val % 4096, by omega⟩ ⟨(i 1).val, by omega⟩ h hh v hv

end

theorem ref_down (d : FVec Ideal S2x5632x2048 .f32) : (truncf .bf16 (extractStridedSlice S1x5632x2048 ![0, 0, 0] d slices_S2x5632x2048_S1x5632x2048_0_0_0) bitsLt_bf16_f32 : FVec Ideal S1x5632x2048 .bf16) =
    fun i => Gla.at3 (fun b k j => d (ix3 b k j)) 0 (i 1).val (i 2).val := by
  funext i
  obtain ⟨f, hf⟩ : ∃ f, f = fun b k j => d (ix3 b k j) := ⟨_, rfl⟩
  rw [← hf]
  pointwise []
  subst hf
  exact (Gla.at3_eq (fun b k j => d (ix3 b k j)) _ _ _ _ _ _ rfl rfl rfl).symm

end Cert.ReferenceUpIdeal.Result
-- ==== Proof.Final.lean ====
/-
  THE FINAL NORMALISATION: the call's result array and the reference's, read at a row and a column.
-/
module

public import proofs.«01_k».proof.Proof.Spec
public import proofs.«01_k».proof.Proof.Gen.KernelFinalIdeal.Value
public import proofs.«01_k».proof.Proof.Gen.ReferenceFinalIdeal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Final

open Cert.Gla Idealize.ShloMosaic

/-- A row `f` normalised by the root of its mean square and scaled by `g`, at column `j`; the length and the summand are literals. -/
def nrm (f g : ℕ → EReal) (j : ℕ) : EReal :=
  f j * Ideal.rsqrt (Ideal.div (∑ k : Fin 2048, f k.val * f k.val) (Ideal.ofBits .f32 0x45000000#32) + Ideal.ofBits .f32 0x358637BD#32) * g j

/-- The result at row `r` and column `j`. -/
def res (H : Fin 2 → Fin 4096 → Fin 2048 → EReal) (G : Fin 2048 → EReal) (r j : ℕ) : EReal :=
  nrm (at3 H (r / 4096) (r % 4096)) (at1 G) j

end Cert.Final

/-! ## The call -/

namespace Cert.KernelFinalIdeal.Result

open Cert.KernelFinalIdeal Cert.KernelFinalIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The argument arrays. -/
def H (b : Fin 2) (r : Fin 4096) (k : Fin 2048) : EReal := m ((c : Thread nD τ).loc main_arg0) (ix3 b r k)
def G (j : Fin 2048) : EReal := m ((c : Thread nD τ).loc main_arg1) (ix1 j)

theorem v0_at (n : Fin 8192) (k : Fin 2048) : (V m c main_v0 : Vec Ideal S8192x2048 .f32) (ix2 n k) = Gla.at3 (H m c) (n.val / 4096) (n.val % 4096) k.val := by
  unfold V
  try simp only [List.flatten_cons, List.flatten_nil, List.append_nil, List.cons_append, List.nil_append]
  after_reads_at
  exact (Gla.at3_eq (H m c) _ _ _ _ _ _ rfl rfl rfl).symm
theorem v1_at (j : Fin 2048) : (V m c main_v1 : Vec Ideal S1x2048 .f32) (ix2 0 j) = Gla.at1 (G m c) j.val := by
  unfold V
  try simp only [List.flatten_cons, List.flatten_nil, List.append_nil, List.cons_append, List.nil_append]
  after_reads_at
  exact (Gla.at1_eq (G m c) _ _ rfl).symm

variable (t : Fin cfg0.N)

theorem h_at (i : Fin 1024) (k : Fin 2048) : (iblk m c 0 t : Vec Ideal S1024x2048 .f32) (ix2 i k) = Gla.at3 (H m c) ((t.val * 1024 + i.val) / 4096) ((t.val * 1024 + i.val) % 4096) k.val := by
  have ht : t.val < 8 := lt_of_lt_of_eq t.isLt N_0
  have e : (iblk m c 0 t : Vec Ideal S1024x2048 .f32) (ix2 i k) = (V m c main_v0 : Vec Ideal S8192x2048 .f32) (ix2 ⟨t.val * 1024 + i.val, by omega⟩ k) := by
    blk_ext [iblk, idx t]
  rw [e, v0_at]
theorem g_at (j : Fin 2048) : (iblk m c 1 t : Vec Ideal S1x2048 .f32) (ix2 0 j) = Gla.at1 (G m c) j.val := by
  have e : (iblk m c 1 t : Vec Ideal S1x2048 .f32) (ix2 0 j) = (V m c main_v1 : Vec Ideal S1x2048 .f32) (ix2 0 j) := by
    blk_ext [iblk, idx t]
  rw [e, v1_at]

theorem pay_at (x0 : Vec Ideal S1024x2048 .f32) (x1 : Vec Ideal S1x2048 .f32) (i : Fin 1024) (j : Fin 2048) :
    k0_pay1 x0 x1 (ix2 i j) = x0 (ix2 i j) * Ideal.rsqrt (Ideal.div (∑ k : Fin 2048, x0 (ix2 i k) * x0 (ix2 i k)) (Ideal.ofBits .f32 0x45000000#32) + Ideal.ofBits .f32 0x358637BD#32) * x1 (ix2 0 j) := by
  pointwise [k0_pay1]

theorem point (i : Fin 1024) (j : Fin 2048) :
    k0_pay1 (iblk m c 0 t) (iblk m c 1 t) (ix2 i j) = Final.res (H m c) (G m c) (t.val * 1024 + i.val) j.val := by
  refine (pay_at _ _ i j).trans ?_
  simp only [h_at, g_at]
  rfl

theorem final : (dats m 0 c).arrAt 2 (cfgs 0).N = fun i : S8192x2048.Idx => Final.res (H m c) (G m c) (i 0).val (i 1).val := by
  refine (dats m 0 c).arrAt_eq_of_covers 2 _ (by decide +kernel) fun t _ y => ?_
  blk_simp
  rw [after0_2]
  frame_out
  refine Eq.trans (b := k0_pay1 (iblk m c 0 t) (iblk m c 1 t) (ix2 (y 0) (y 1))) ?_ ((point m c t _ _).trans ?_)
  · refine congrArg _ ?_
    funext a
    match a with
    | ⟨0, _⟩ => rfl
    | ⟨1, _⟩ => rfl
  · blk_simp [idx t]

end Cert.KernelFinalIdeal.Result

/-! ## The reference -/

namespace Cert.ReferenceFinalIdeal.Result

open Cert.ReferenceFinalIdeal Cert.ReferenceFinalIdeal.Gen Idealize.ShloMosaic Idealize.ShloMosaic.TcCoe Idealize.SL.Sem

def REF (h : FVec Ideal S2x4096x2048 .f32) (g : FVec Ideal S2048 .f32) : FVec Ideal S8192x2048 .f32 :=
  shapeCast _ (mulf (mulf h (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf h h) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) shapeCasts_S2x4096x2048_S8192x2048

theorem ref_at (h : FVec Ideal S2x4096x2048 .f32) (g : FVec Ideal S2048 .f32) :
    REF h g = fun i => Final.res (fun b r j => h (ix3 b r j)) (fun j => g (ix1 j)) (i 0).val (i 1).val := by
  obtain ⟨f, hf⟩ : ∃ f, f = fun b r j => h (ix3 b r j) := ⟨_, rfl⟩
  obtain ⟨f', hf'⟩ : ∃ f', f' = fun j => g (ix1 j) := ⟨_, rfl⟩
  have e : ∀ (b : Fin 2) (r : Fin 4096) (k : Fin 2048), h (ix3 b r k) = Gla.at3 f b.val r.val k.val :=
    fun b r k => ((Gla.at3_eq f b r k _ _ _ rfl rfl rfl).trans (by rw [hf])).symm
  have eg : ∀ k : Fin 2048, g (ix1 k) = Gla.at1 f' k.val := fun k => ((Gla.at1_eq f' k _ rfl).trans (by rw [hf'])).symm
  rw [← hf, ← hf']
  funext i
  unfold Final.res Final.nrm
  pointwise [REF]
  simp only [e]
  exact congrArg₂ (· * ·) (congrArg (· * _) (e _ _ _)) (eg _)

end Cert.ReferenceFinalIdeal.Result

end
-- ==== Proof.First.lean ====
/-
  THE QUERY PROJECTION of the undilated branch: the call's result array and the reference's, read at a row and a column. The call keeps the
  weights of a block column in scratch from the first block row on.
-/
module

public import proofs.«01_k».proof.Proof.Query
public import proofs.«01_k».proof.Proof.Gen.KernelFirstIdeal.Value
public import proofs.«01_k».proof.Proof.Gen.ReferenceFirstIdeal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.First

open Cert.Gla Idealize.ShloMosaic

/-- The result at row `r` and column `j`: the product with the first 2048 columns, over `sqrt 128 * log 2`. -/
def res (A : Fin 2 → Fin 4096 → Fin 2048 → EReal) (W : Fin 1 → Fin 2048 → Fin 6144 → EReal) (r j : ℕ) : EReal :=
  (∑ k : Fin 2048, at3 A (r / 4096) (r % 4096) k.val * at3 W 0 k.val j) * (((Real.log 2)⁻¹ * (Real.sqrt 128)⁻¹ : ℝ) : EReal)

end Cert.First

/-! ## The call -/

namespace Cert.KernelFirstIdeal.Result

open Cert.KernelFirstIdeal Cert.KernelFirstIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 4, 0] ∧ win0_1.index t = ![0, 0, t.val / 4] ∧ win0_2.index t = ![t.val % 4, t.val / 4] :=
  (by decide +kernel : ∀ t : Fin grid0.N, _)

/-- The argument arrays. -/
def A (b : Fin 2) (r : Fin 4096) (k : Fin 2048) : EReal := m ((c : Thread nD τ).loc main_arg0) (ix3 b r k)
def W (b : Fin 1) (k : Fin 2048) (j : Fin 6144) : EReal := m ((c : Thread nD τ).loc main_arg1) (ix3 b k j)

theorem v1_at (n : Fin 8192) (k : Fin 2048) : (V m c main_v1 : Vec Ideal S8192x2048 .bf16) (ix2 n k) = Gla.at3 (A m c) (n.val / 4096) (n.val % 4096) k.val := by
  unfold V
  try simp only [List.flatten_cons, List.flatten_nil, List.append_nil, List.cons_append, List.nil_append]
  after_reads_at
  exact (Gla.at3_eq (A m c) _ _ _ _ _ _ rfl rfl rfl).symm

theorem a_at (t : Fin cfg0.N) (i : Fin 2048) (k : Fin 2048) : (iblk m c 0 t : Vec Ideal S2048x2048 .bf16) (ix2 i k) = Gla.at3 (A m c) ((t.val % 4 * 2048 + i.val) / 4096) ((t.val % 4 * 2048 + i.val) % 4096) k.val := by
  have e : (iblk m c 0 t : Vec Ideal S2048x2048 .bf16) (ix2 i k) = (V m c main_v1 : Vec Ideal S8192x2048 .bf16) (ix2 ⟨t.val % 4 * 2048 + i.val, by omega⟩ k) := by
    blk_ext [iblk, idx t]
  rw [e, v1_at]
theorem w_at (t : Fin cfg0.N) (k : Fin 2048) (j : Fin 1024) : (iblk m c 1 t : Vec Ideal S1x2048x1024 .f32) (ix3 0 k j) = Gla.at3 (W m c) 0 k.val (t.val / 4 * 1024 + j.val) := by
  have ht : t.val < 8 := lt_of_lt_of_eq t.isLt N_0
  have e : (iblk m c 1 t : Vec Ideal S1x2048x1024 .f32) (ix3 0 k j) = (m ((c : Thread nD τ).loc main_arg1) : Vec Ideal S1x2048x6144 .f32) (ix3 0 k ⟨t.val / 4 * 1024 + j.val, by omega⟩) := by
    blk_ext [iblk, V, idx t]
  rw [e]
  exact (Gla.at3_eq (W m c) _ _ _ _ _ _ rfl rfl rfl).symm

theorem scr_at (x : Vec Ideal S1x2048x1024 .f32) (k : Fin 2048) (j : Fin 1024) : k0_pay1 x (ix2 k j) = x (ix3 0 k j) := by
  pointwise [k0_pay1]

theorem pay_at (x0 : Vec Ideal S2048x2048 .bf16) (x1 : Vec Ideal S2048x1024 .bf16) (i : Fin 2048) (j : Fin 1024) :
    k0_pay2 x0 x1 (ix2 i j) = (∑ k : Fin 2048, x0 (ix2 i k) * x1 (ix2 k j)) * (((Real.log 2)⁻¹ * (Real.sqrt 128)⁻¹ : ℝ) : EReal) := by
  have hn : Named.named (F := Ideal) κ (φ := .f32) "q_scale" 0x3E0293EE#32 = (((Real.log 2)⁻¹ * (Real.sqrt 128)⁻¹ : ℝ) : EReal) := rfl
  pointwise [k0_pay2]
  rw [hn]

/-- The scratch stays as it is where it is not written. -/
theorem scratch_kept (t : Fin cfg0.N) (h0 : ¬t.val % 4 = 0) : (outsAt0 m c t.val t.isLt).2 = (outsAt0 m c (t.val - 1) (Nat.lt_of_le_of_lt (Nat.sub_le _ _) t.isLt)).2 := by
  rw [outsAt0_B m c t h0]
  rfl

/-- The scratch after a point: the weights of the point's block column. -/
theorem scratch_at (n : ℕ) : ∀ hn : n < cfg0.N, ∀ (k : Fin 2048) (j : Fin 1024), (outsAt0 m c n hn).2 (ix2 k j) = Gla.at3 (W m c) 0 k.val (n / 4 * 1024 + j.val) := by
  induction n with
  | zero =>
    intro hn k j
    rw [outsAt0_A m c ⟨0, hn⟩ rfl]
    frame_out
    refine (scr_at _ k j).trans ?_
    rw [w_at]
  | succ n ih =>
    intro hn k j
    by_cases h0 : (n + 1) % 4 = 0
    · rw [outsAt0_A m c ⟨n + 1, hn⟩ h0]
      frame_out
      refine (scr_at _ k j).trans ?_
      rw [w_at]
    · have e : (n + 1) / 4 = n / 4 := by omega
      rw [e, ← ih (Nat.lt_of_succ_lt hn) k j]
      exact congrFun (scratch_kept m c ⟨n + 1, hn⟩ h0) _

variable (t : Fin cfg0.N)

theorem point (i : Fin 2048) (j : Fin 1024) : (outsAt0 m c t.val t.isLt).1 (ix2 i j) = First.res (A m c) (W m c) (t.val % 4 * 2048 + i.val) (t.val / 4 * 1024 + j.val) := by
  have key : ∀ w : Vec Ideal S2048x1024 .bf16, (∀ (k : Fin 2048) (j : Fin 1024), w (ix2 k j) = Gla.at3 (W m c) 0 k.val (t.val / 4 * 1024 + j.val)) →
      k0_pay2 (iblk m c 0 t) w (ix2 i j) = First.res (A m c) (W m c) (t.val % 4 * 2048 + i.val) (t.val / 4 * 1024 + j.val) := by
    intro w hw
    refine (pay_at _ _ i j).trans (congrArg (· * _) (Finset.sum_congr rfl fun k _ => ?_))
    rw [a_at, hw]
  by_cases h0 : t.val % 4 = 0
  · rw [outsAt0_A m c t h0]
    frame_out
    exact key _ fun k j => (scr_at _ k j).trans (w_at m c t k j)
  · rw [outsAt0_B m c t h0]
    frame_out
    refine key _ fun k j => ?_
    rw [read_unread_whole, scratch_at]
    have e : (t.val - 1) / 4 = t.val / 4 := by omega
    rw [e]

theorem final : (dats m 0 c).arrAt 2 (cfgs 0).N = fun i : S8192x2048.Idx => First.res (A m c) (W m c) (i 0).val (i 1).val := by
  refine (dats m 0 c).arrAt_eq_of_covers 2 _ (by decide +kernel) fun t _ y => ?_
  blk_simp
  rw [after0_2]
  refine Eq.trans (b := (outsAt0 m c t.val t.isLt).1 (ix2 (y 0) (y 1))) ?_ ((point m c t _ _).trans ?_)
  · refine congrArg _ ?_
    funext a
    match a with
    | ⟨0, _⟩ => rfl
    | ⟨1, _⟩ => rfl
  · blk_simp [idx t]

end Cert.KernelFirstIdeal.Result

/-! ## The reference -/

namespace Cert.ReferenceFirstIdeal.Result

open Cert.ReferenceFirstIdeal Cert.ReferenceFirstIdeal.Gen Idealize.ShloMosaic Idealize.ShloMosaic.TcCoe Idealize.SL.Sem

def REF (a : FVec Ideal S2x4096x2048 .f32) (w : FVec Ideal S1x2048x6144 .f32) : FVec Ideal S8192x2048 .bf16 :=
  truncf .bf16 (shapeCast _ (Host.divf (extractStridedSlice S2x4096x2048 ![0, 0, 0] (Host.dotGeneral (φ₁ := .f32) (φ₂ := .f32) dot_S2x4096x2048_S2048x6144_S2x4096x6144_2_0_01_1_n_n none a (shapeCast S2048x6144 w shapeCasts_S1x2048x6144_S2048x6144)) slices_S2x4096x6144_S2x4096x2048_0_0_0) (broadcastInDim S2x4096x2048 ![] bcast_S_S2x4096x2048 (mulf (Host.sqrt (constant S_ .f32 0x43000000#32)) (Host.log (constant S_ .f32 0x40000000#32))))) shapeCasts_S2x4096x2048_S8192x2048) bitsLt_bf16_f32

theorem ref_at (a : FVec Ideal S2x4096x2048 .f32) (w : FVec Ideal S1x2048x6144 .f32) :
    REF a w = fun i => First.res (fun b r j => a (ix3 b r j)) (fun b r j => w (ix3 b r j)) (i 0).val (i 1).val := by
  funext i
  unfold First.res
  pointwise [REF]
  rw [Cert.ReferenceQueryIdeal.Result.div_scale]
  refine congrArg (· * _) (Finset.sum_congr rfl fun k _ => ?_)
  exact congrArg₂ (· * ·) (Gla.at3_eq (fun b r j => a (ix3 b r j)) _ _ _ _ _ _ rfl rfl rfl).symm (Gla.at3_eq (fun b r j => w (ix3 b r j)) _ _ _ _ _ _ rfl rfl rfl).symm

end Cert.ReferenceFirstIdeal.Result

end
-- ==== Proof.KvRow.lean ====
/-
  ROWS OF THE 0/1 MATRIX of the keys and values, read off its printed entries.
-/
module

public import proofs.«01_k».proof.KernelKvIdeal

@[expose] public section

set_option maxRecDepth 16384

namespace Cert.KernelKvIdeal.Result

open Cert.KernelKvIdeal

/-- Row `r` of the matrix picks one row of its 256. -/
def Picks (r : ℕ) : Prop := ∀ x : Fin 256, lit0t (256 * r + x.val) = if x.val = 16 * (r % 16) + 4 * (r / 16 % 4) + r / 64 then 0x3F80#16 else 0#16

noncomputable instance (r : ℕ) : Decidable (Picks r) := inferInstanceAs (Decidable (∀ x : Fin 256, _ = _))

end Cert.KernelKvIdeal.Result
-- ==== Proof.KvRows0.lean ====
/-
  ROWS OF THE 0/1 MATRIX of the keys and values, read off its printed entries.
-/
module

public import proofs.«01_k».proof.Proof.KvRow
public import Mathlib.Tactic.IntervalCases

@[expose] public section

set_option maxRecDepth 16384

namespace Cert.KernelKvIdeal.Result

open Cert.KernelKvIdeal

theorem row_0 : Picks 0 := by decide +kernel
theorem row_1 : Picks 1 := by decide +kernel
theorem row_2 : Picks 2 := by decide +kernel
theorem row_3 : Picks 3 := by decide +kernel
theorem row_4 : Picks 4 := by decide +kernel
theorem row_5 : Picks 5 := by decide +kernel
theorem row_6 : Picks 6 := by decide +kernel
theorem row_7 : Picks 7 := by decide +kernel
theorem row_8 : Picks 8 := by decide +kernel
theorem row_9 : Picks 9 := by decide +kernel
theorem row_10 : Picks 10 := by decide +kernel
theorem row_11 : Picks 11 := by decide +kernel
theorem row_12 : Picks 12 := by decide +kernel
theorem row_13 : Picks 13 := by decide +kernel
theorem row_14 : Picks 14 := by decide +kernel
theorem row_15 : Picks 15 := by decide +kernel
theorem row_16 : Picks 16 := by decide +kernel
theorem row_17 : Picks 17 := by decide +kernel
theorem row_18 : Picks 18 := by decide +kernel
theorem row_19 : Picks 19 := by decide +kernel
theorem row_20 : Picks 20 := by decide +kernel
theorem row_21 : Picks 21 := by decide +kernel
theorem row_22 : Picks 22 := by decide +kernel
theorem row_23 : Picks 23 := by decide +kernel
theorem row_24 : Picks 24 := by decide +kernel
theorem row_25 : Picks 25 := by decide +kernel
theorem row_26 : Picks 26 := by decide +kernel
theorem row_27 : Picks 27 := by decide +kernel
theorem row_28 : Picks 28 := by decide +kernel
theorem row_29 : Picks 29 := by decide +kernel
theorem row_30 : Picks 30 := by decide +kernel
theorem row_31 : Picks 31 := by decide +kernel

theorem rows_0 (r : ℕ) (h : 0 ≤ r) (h' : r < 32) : Picks r := by
  interval_cases r
  exacts [row_0, row_1, row_2, row_3, row_4, row_5, row_6, row_7, row_8, row_9, row_10, row_11, row_12, row_13, row_14, row_15, row_16, row_17, row_18, row_19, row_20, row_21, row_22, row_23, row_24, row_25, row_26, row_27, row_28, row_29, row_30, row_31]

end Cert.KernelKvIdeal.Result
-- ==== Proof.KvRows1.lean ====
/-
  ROWS OF THE 0/1 MATRIX of the keys and values, read off its printed entries.
-/
module

public import proofs.«01_k».proof.Proof.KvRow
public import Mathlib.Tactic.IntervalCases

@[expose] public section

set_option maxRecDepth 16384

namespace Cert.KernelKvIdeal.Result

open Cert.KernelKvIdeal

theorem row_32 : Picks 32 := by decide +kernel
theorem row_33 : Picks 33 := by decide +kernel
theorem row_34 : Picks 34 := by decide +kernel
theorem row_35 : Picks 35 := by decide +kernel
theorem row_36 : Picks 36 := by decide +kernel
theorem row_37 : Picks 37 := by decide +kernel
theorem row_38 : Picks 38 := by decide +kernel
theorem row_39 : Picks 39 := by decide +kernel
theorem row_40 : Picks 40 := by decide +kernel
theorem row_41 : Picks 41 := by decide +kernel
theorem row_42 : Picks 42 := by decide +kernel
theorem row_43 : Picks 43 := by decide +kernel
theorem row_44 : Picks 44 := by decide +kernel
theorem row_45 : Picks 45 := by decide +kernel
theorem row_46 : Picks 46 := by decide +kernel
theorem row_47 : Picks 47 := by decide +kernel
theorem row_48 : Picks 48 := by decide +kernel
theorem row_49 : Picks 49 := by decide +kernel
theorem row_50 : Picks 50 := by decide +kernel
theorem row_51 : Picks 51 := by decide +kernel
theorem row_52 : Picks 52 := by decide +kernel
theorem row_53 : Picks 53 := by decide +kernel
theorem row_54 : Picks 54 := by decide +kernel
theorem row_55 : Picks 55 := by decide +kernel
theorem row_56 : Picks 56 := by decide +kernel
theorem row_57 : Picks 57 := by decide +kernel
theorem row_58 : Picks 58 := by decide +kernel
theorem row_59 : Picks 59 := by decide +kernel
theorem row_60 : Picks 60 := by decide +kernel
theorem row_61 : Picks 61 := by decide +kernel
theorem row_62 : Picks 62 := by decide +kernel
theorem row_63 : Picks 63 := by decide +kernel

theorem rows_1 (r : ℕ) (h : 32 ≤ r) (h' : r < 64) : Picks r := by
  interval_cases r
  exacts [row_32, row_33, row_34, row_35, row_36, row_37, row_38, row_39, row_40, row_41, row_42, row_43, row_44, row_45, row_46, row_47, row_48, row_49, row_50, row_51, row_52, row_53, row_54, row_55, row_56, row_57, row_58, row_59, row_60, row_61, row_62, row_63]

end Cert.KernelKvIdeal.Result
-- ==== Proof.KvRows2.lean ====
/-
  ROWS OF THE 0/1 MATRIX of the keys and values, read off its printed entries.
-/
module

public import proofs.«01_k».proof.Proof.KvRow
public import Mathlib.Tactic.IntervalCases

@[expose] public section

set_option maxRecDepth 16384

namespace Cert.KernelKvIdeal.Result

open Cert.KernelKvIdeal

theorem row_64 : Picks 64 := by decide +kernel
theorem row_65 : Picks 65 := by decide +kernel
theorem row_66 : Picks 66 := by decide +kernel
theorem row_67 : Picks 67 := by decide +kernel
theorem row_68 : Picks 68 := by decide +kernel
theorem row_69 : Picks 69 := by decide +kernel
theorem row_70 : Picks 70 := by decide +kernel
theorem row_71 : Picks 71 := by decide +kernel
theorem row_72 : Picks 72 := by decide +kernel
theorem row_73 : Picks 73 := by decide +kernel
theorem row_74 : Picks 74 := by decide +kernel
theorem row_75 : Picks 75 := by decide +kernel
theorem row_76 : Picks 76 := by decide +kernel
theorem row_77 : Picks 77 := by decide +kernel
theorem row_78 : Picks 78 := by decide +kernel
theorem row_79 : Picks 79 := by decide +kernel
theorem row_80 : Picks 80 := by decide +kernel
theorem row_81 : Picks 81 := by decide +kernel
theorem row_82 : Picks 82 := by decide +kernel
theorem row_83 : Picks 83 := by decide +kernel
theorem row_84 : Picks 84 := by decide +kernel
theorem row_85 : Picks 85 := by decide +kernel
theorem row_86 : Picks 86 := by decide +kernel
theorem row_87 : Picks 87 := by decide +kernel
theorem row_88 : Picks 88 := by decide +kernel
theorem row_89 : Picks 89 := by decide +kernel
theorem row_90 : Picks 90 := by decide +kernel
theorem row_91 : Picks 91 := by decide +kernel
theorem row_92 : Picks 92 := by decide +kernel
theorem row_93 : Picks 93 := by decide +kernel
theorem row_94 : Picks 94 := by decide +kernel
theorem row_95 : Picks 95 := by decide +kernel

theorem rows_2 (r : ℕ) (h : 64 ≤ r) (h' : r < 96) : Picks r := by
  interval_cases r
  exacts [row_64, row_65, row_66, row_67, row_68, row_69, row_70, row_71, row_72, row_73, row_74, row_75, row_76, row_77, row_78, row_79, row_80, row_81, row_82, row_83, row_84, row_85, row_86, row_87, row_88, row_89, row_90, row_91, row_92, row_93, row_94, row_95]

end Cert.KernelKvIdeal.Result
-- ==== Proof.KvRows3.lean ====
/-
  ROWS OF THE 0/1 MATRIX of the keys and values, read off its printed entries.
-/
module

public import proofs.«01_k».proof.Proof.KvRow
public import Mathlib.Tactic.IntervalCases

@[expose] public section

set_option maxRecDepth 16384

namespace Cert.KernelKvIdeal.Result

open Cert.KernelKvIdeal

theorem row_96 : Picks 96 := by decide +kernel
theorem row_97 : Picks 97 := by decide +kernel
theorem row_98 : Picks 98 := by decide +kernel
theorem row_99 : Picks 99 := by decide +kernel
theorem row_100 : Picks 100 := by decide +kernel
theorem row_101 : Picks 101 := by decide +kernel
theorem row_102 : Picks 102 := by decide +kernel
theorem row_103 : Picks 103 := by decide +kernel
theorem row_104 : Picks 104 := by decide +kernel
theorem row_105 : Picks 105 := by decide +kernel
theorem row_106 : Picks 106 := by decide +kernel
theorem row_107 : Picks 107 := by decide +kernel
theorem row_108 : Picks 108 := by decide +kernel
theorem row_109 : Picks 109 := by decide +kernel
theorem row_110 : Picks 110 := by decide +kernel
theorem row_111 : Picks 111 := by decide +kernel
theorem row_112 : Picks 112 := by decide +kernel
theorem row_113 : Picks 113 := by decide +kernel
theorem row_114 : Picks 114 := by decide +kernel
theorem row_115 : Picks 115 := by decide +kernel
theorem row_116 : Picks 116 := by decide +kernel
theorem row_117 : Picks 117 := by decide +kernel
theorem row_118 : Picks 118 := by decide +kernel
theorem row_119 : Picks 119 := by decide +kernel
theorem row_120 : Picks 120 := by decide +kernel
theorem row_121 : Picks 121 := by decide +kernel
theorem row_122 : Picks 122 := by decide +kernel
theorem row_123 : Picks 123 := by decide +kernel
theorem row_124 : Picks 124 := by decide +kernel
theorem row_125 : Picks 125 := by decide +kernel
theorem row_126 : Picks 126 := by decide +kernel
theorem row_127 : Picks 127 := by decide +kernel

theorem rows_3 (r : ℕ) (h : 96 ≤ r) (h' : r < 128) : Picks r := by
  interval_cases r
  exacts [row_96, row_97, row_98, row_99, row_100, row_101, row_102, row_103, row_104, row_105, row_106, row_107, row_108, row_109, row_110, row_111, row_112, row_113, row_114, row_115, row_116, row_117, row_118, row_119, row_120, row_121, row_122, row_123, row_124, row_125, row_126, row_127]

end Cert.KernelKvIdeal.Result
-- ==== Proof.KvRows4.lean ====
/-
  ROWS OF THE 0/1 MATRIX of the keys and values, read off its printed entries.
-/
module

public import proofs.«01_k».proof.Proof.KvRow
public import Mathlib.Tactic.IntervalCases

@[expose] public section

set_option maxRecDepth 16384

namespace Cert.KernelKvIdeal.Result

open Cert.KernelKvIdeal

theorem row_128 : Picks 128 := by decide +kernel
theorem row_129 : Picks 129 := by decide +kernel
theorem row_130 : Picks 130 := by decide +kernel
theorem row_131 : Picks 131 := by decide +kernel
theorem row_132 : Picks 132 := by decide +kernel
theorem row_133 : Picks 133 := by decide +kernel
theorem row_134 : Picks 134 := by decide +kernel
theorem row_135 : Picks 135 := by decide +kernel
theorem row_136 : Picks 136 := by decide +kernel
theorem row_137 : Picks 137 := by decide +kernel
theorem row_138 : Picks 138 := by decide +kernel
theorem row_139 : Picks 139 := by decide +kernel
theorem row_140 : Picks 140 := by decide +kernel
theorem row_141 : Picks 141 := by decide +kernel
theorem row_142 : Picks 142 := by decide +kernel
theorem row_143 : Picks 143 := by decide +kernel
theorem row_144 : Picks 144 := by decide +kernel
theorem row_145 : Picks 145 := by decide +kernel
theorem row_146 : Picks 146 := by decide +kernel
theorem row_147 : Picks 147 := by decide +kernel
theorem row_148 : Picks 148 := by decide +kernel
theorem row_149 : Picks 149 := by decide +kernel
theorem row_150 : Picks 150 := by decide +kernel
theorem row_151 : Picks 151 := by decide +kernel
theorem row_152 : Picks 152 := by decide +kernel
theorem row_153 : Picks 153 := by decide +kernel
theorem row_154 : Picks 154 := by decide +kernel
theorem row_155 : Picks 155 := by decide +kernel
theorem row_156 : Picks 156 := by decide +kernel
theorem row_157 : Picks 157 := by decide +kernel
theorem row_158 : Picks 158 := by decide +kernel
theorem row_159 : Picks 159 := by decide +kernel

theorem rows_4 (r : ℕ) (h : 128 ≤ r) (h' : r < 160) : Picks r := by
  interval_cases r
  exacts [row_128, row_129, row_130, row_131, row_132, row_133, row_134, row_135, row_136, row_137, row_138, row_139, row_140, row_141, row_142, row_143, row_144, row_145, row_146, row_147, row_148, row_149, row_150, row_151, row_152, row_153, row_154, row_155, row_156, row_157, row_158, row_159]

end Cert.KernelKvIdeal.Result
-- ==== Proof.KvRows5.lean ====
/-
  ROWS OF THE 0/1 MATRIX of the keys and values, read off its printed entries.
-/
module

public import proofs.«01_k».proof.Proof.KvRow
public import Mathlib.Tactic.IntervalCases

@[expose] public section

set_option maxRecDepth 16384

namespace Cert.KernelKvIdeal.Result

open Cert.KernelKvIdeal

theorem row_160 : Picks 160 := by decide +kernel
theorem row_161 : Picks 161 := by decide +kernel
theorem row_162 : Picks 162 := by decide +kernel
theorem row_163 : Picks 163 := by decide +kernel
theorem row_164 : Picks 164 := by decide +kernel
theorem row_165 : Picks 165 := by decide +kernel
theorem row_166 : Picks 166 := by decide +kernel
theorem row_167 : Picks 167 := by decide +kernel
theorem row_168 : Picks 168 := by decide +kernel
theorem row_169 : Picks 169 := by decide +kernel
theorem row_170 : Picks 170 := by decide +kernel
theorem row_171 : Picks 171 := by decide +kernel
theorem row_172 : Picks 172 := by decide +kernel
theorem row_173 : Picks 173 := by decide +kernel
theorem row_174 : Picks 174 := by decide +kernel
theorem row_175 : Picks 175 := by decide +kernel
theorem row_176 : Picks 176 := by decide +kernel
theorem row_177 : Picks 177 := by decide +kernel
theorem row_178 : Picks 178 := by decide +kernel
theorem row_179 : Picks 179 := by decide +kernel
theorem row_180 : Picks 180 := by decide +kernel
theorem row_181 : Picks 181 := by decide +kernel
theorem row_182 : Picks 182 := by decide +kernel
theorem row_183 : Picks 183 := by decide +kernel
theorem row_184 : Picks 184 := by decide +kernel
theorem row_185 : Picks 185 := by decide +kernel
theorem row_186 : Picks 186 := by decide +kernel
theorem row_187 : Picks 187 := by decide +kernel
theorem row_188 : Picks 188 := by decide +kernel
theorem row_189 : Picks 189 := by decide +kernel
theorem row_190 : Picks 190 := by decide +kernel
theorem row_191 : Picks 191 := by decide +kernel

theorem rows_5 (r : ℕ) (h : 160 ≤ r) (h' : r < 192) : Picks r := by
  interval_cases r
  exacts [row_160, row_161, row_162, row_163, row_164, row_165, row_166, row_167, row_168, row_169, row_170, row_171, row_172, row_173, row_174, row_175, row_176, row_177, row_178, row_179, row_180, row_181, row_182, row_183, row_184, row_185, row_186, row_187, row_188, row_189, row_190, row_191]

end Cert.KernelKvIdeal.Result
-- ==== Proof.KvRows6.lean ====
/-
  ROWS OF THE 0/1 MATRIX of the keys and values, read off its printed entries.
-/
module

public import proofs.«01_k».proof.Proof.KvRow
public import Mathlib.Tactic.IntervalCases

@[expose] public section

set_option maxRecDepth 16384

namespace Cert.KernelKvIdeal.Result

open Cert.KernelKvIdeal

theorem row_192 : Picks 192 := by decide +kernel
theorem row_193 : Picks 193 := by decide +kernel
theorem row_194 : Picks 194 := by decide +kernel
theorem row_195 : Picks 195 := by decide +kernel
theorem row_196 : Picks 196 := by decide +kernel
theorem row_197 : Picks 197 := by decide +kernel
theorem row_198 : Picks 198 := by decide +kernel
theorem row_199 : Picks 199 := by decide +kernel
theorem row_200 : Picks 200 := by decide +kernel
theorem row_201 : Picks 201 := by decide +kernel
theorem row_202 : Picks 202 := by decide +kernel
theorem row_203 : Picks 203 := by decide +kernel
theorem row_204 : Picks 204 := by decide +kernel
theorem row_205 : Picks 205 := by decide +kernel
theorem row_206 : Picks 206 := by decide +kernel
theorem row_207 : Picks 207 := by decide +kernel
theorem row_208 : Picks 208 := by decide +kernel
theorem row_209 : Picks 209 := by decide +kernel
theorem row_210 : Picks 210 := by decide +kernel
theorem row_211 : Picks 211 := by decide +kernel
theorem row_212 : Picks 212 := by decide +kernel
theorem row_213 : Picks 213 := by decide +kernel
theorem row_214 : Picks 214 := by decide +kernel
theorem row_215 : Picks 215 := by decide +kernel
theorem row_216 : Picks 216 := by decide +kernel
theorem row_217 : Picks 217 := by decide +kernel
theorem row_218 : Picks 218 := by decide +kernel
theorem row_219 : Picks 219 := by decide +kernel
theorem row_220 : Picks 220 := by decide +kernel
theorem row_221 : Picks 221 := by decide +kernel
theorem row_222 : Picks 222 := by decide +kernel
theorem row_223 : Picks 223 := by decide +kernel

theorem rows_6 (r : ℕ) (h : 192 ≤ r) (h' : r < 224) : Picks r := by
  interval_cases r
  exacts [row_192, row_193, row_194, row_195, row_196, row_197, row_198, row_199, row_200, row_201, row_202, row_203, row_204, row_205, row_206, row_207, row_208, row_209, row_210, row_211, row_212, row_213, row_214, row_215, row_216, row_217, row_218, row_219, row_220, row_221, row_222, row_223]

end Cert.KernelKvIdeal.Result
-- ==== Proof.KvRows7.lean ====
/-
  ROWS OF THE 0/1 MATRIX of the keys and values, read off its printed entries.
-/
module

public import proofs.«01_k».proof.Proof.KvRow
public import Mathlib.Tactic.IntervalCases

@[expose] public section

set_option maxRecDepth 16384

namespace Cert.KernelKvIdeal.Result

open Cert.KernelKvIdeal

theorem row_224 : Picks 224 := by decide +kernel
theorem row_225 : Picks 225 := by decide +kernel
theorem row_226 : Picks 226 := by decide +kernel
theorem row_227 : Picks 227 := by decide +kernel
theorem row_228 : Picks 228 := by decide +kernel
theorem row_229 : Picks 229 := by decide +kernel
theorem row_230 : Picks 230 := by decide +kernel
theorem row_231 : Picks 231 := by decide +kernel
theorem row_232 : Picks 232 := by decide +kernel
theorem row_233 : Picks 233 := by decide +kernel
theorem row_234 : Picks 234 := by decide +kernel
theorem row_235 : Picks 235 := by decide +kernel
theorem row_236 : Picks 236 := by decide +kernel
theorem row_237 : Picks 237 := by decide +kernel
theorem row_238 : Picks 238 := by decide +kernel
theorem row_239 : Picks 239 := by decide +kernel
theorem row_240 : Picks 240 := by decide +kernel
theorem row_241 : Picks 241 := by decide +kernel
theorem row_242 : Picks 242 := by decide +kernel
theorem row_243 : Picks 243 := by decide +kernel
theorem row_244 : Picks 244 := by decide +kernel
theorem row_245 : Picks 245 := by decide +kernel
theorem row_246 : Picks 246 := by decide +kernel
theorem row_247 : Picks 247 := by decide +kernel
theorem row_248 : Picks 248 := by decide +kernel
theorem row_249 : Picks 249 := by decide +kernel
theorem row_250 : Picks 250 := by decide +kernel
theorem row_251 : Picks 251 := by decide +kernel
theorem row_252 : Picks 252 := by decide +kernel
theorem row_253 : Picks 253 := by decide +kernel
theorem row_254 : Picks 254 := by decide +kernel
theorem row_255 : Picks 255 := by decide +kernel

theorem rows_7 (r : ℕ) (h : 224 ≤ r) (h' : r < 256) : Picks r := by
  interval_cases r
  exacts [row_224, row_225, row_226, row_227, row_228, row_229, row_230, row_231, row_232, row_233, row_234, row_235, row_236, row_237, row_238, row_239, row_240, row_241, row_242, row_243, row_244, row_245, row_246, row_247, row_248, row_249, row_250, row_251, row_252, row_253, row_254, row_255]

end Cert.KernelKvIdeal.Result
-- ==== Proof.KvLit.lean ====
/-
  THE 0/1 MATRIX of the keys and values: each of its 256 rows picks one row.
-/
module

public import proofs.«01_k».proof.Proof.KvRows0
public import proofs.«01_k».proof.Proof.KvRows1
public import proofs.«01_k».proof.Proof.KvRows2
public import proofs.«01_k».proof.Proof.KvRows3
public import proofs.«01_k».proof.Proof.KvRows4
public import proofs.«01_k».proof.Proof.KvRows5
public import proofs.«01_k».proof.Proof.KvRows6
public import proofs.«01_k».proof.Proof.KvRows7

@[expose] public section

namespace Cert.KernelKvIdeal.Result

/-- Row `r` has its one at the row `16 * (r % 16) + 4 * (r / 16 % 4) + r / 64`. -/
theorem picks (r : ℕ) (h : r < 256) : Picks r := by
  by_cases h0 : r < 32
  · exact rows_0 r (by omega) h0
  by_cases h1 : r < 64
  · exact rows_1 r (by omega) h1
  by_cases h2 : r < 96
  · exact rows_2 r (by omega) h2
  by_cases h3 : r < 128
  · exact rows_3 r (by omega) h3
  by_cases h4 : r < 160
  · exact rows_4 r (by omega) h4
  by_cases h5 : r < 192
  · exact rows_5 r (by omega) h5
  by_cases h6 : r < 224
  · exact rows_6 r (by omega) h6
  exact rows_7 r (by omega) h

end Cert.KernelKvIdeal.Result
-- ==== Proof.Kv.lean ====
/-
  THE SHARED KEYS AND VALUES: the call's two result arrays and the reference's, read at a row and a column. The second result holds the rows of the
  first regrouped by their residue; the call makes it with a 0/1 matrix. The call keeps the weights of a block column in scratch from the first block
  row on.
-/
module

public import proofs.«01_k».proof.Proof.Spec
public import proofs.«01_k».proof.Proof.KvLit
public import proofs.«01_k».proof.Proof.Gen.KernelKvIdeal.Value
public import proofs.«01_k».proof.Proof.Gen.ReferenceKvIdeal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kv

open Cert.Gla Idealize.ShloMosaic

/-- The product at row `r` and column `j`. -/
def res (A : Fin 2 → Fin 4096 → Fin 2048 → EReal) (W : Fin 2048 → Fin 4096 → EReal) (r j : ℕ) : EReal :=
  ∑ k : Fin 2048, at3 A (r / 4096) (r % 4096) k.val * at2 W k.val j

/-- The row of the product that row `n` of the second result holds. -/
def src (n : ℕ) : ℕ := n / 512 * 512 + 16 * (n % 32) + 4 * (n / 32 % 4) + n / 128 % 4

/-- The second result at row `r` and column `j`. -/
def perm (A : Fin 2 → Fin 4096 → Fin 2048 → EReal) (W : Fin 2048 → Fin 4096 → EReal) (r j : ℕ) : EReal := res A W (src r) j

/-- A row of a 0/1 matrix with a single one picks a row. -/
theorem pick (a b : Fin 256 → EReal) (s : Fin 256) (ha : ∀ x, a x = if x.val = s.val then 1 else 0) : ∑ x : Fin 256, a x * b x = b s := by
  rw [Finset.sum_eq_single s]
  · rw [ha, if_pos rfl, one_mul]
  · intro x _ hx
    rw [ha, if_neg (fun h => hx (Fin.ext h)), zero_mul]
  · exact fun h => absurd (Finset.mem_univ s) h

end Cert.Kv

/-! ## The call -/

namespace Cert.KernelKvIdeal.Result

open Cert.KernelKvIdeal Cert.KernelKvIdeal.Gen Idealize.ShloMosaic Idealize.ShloMosaic.TcCoe Idealize.SL.Sem

theorem scr_at (x : Vec Ideal S1x2048x1024 .f32) (k : Fin 2048) (j : Fin 1024) : k0_pay2 x (ix2 k j) = x (ix3 0 k j) := by
  pointwise [k0_pay2]

theorem pay_at (x0 : Vec Ideal S1024x2048 .bf16) (x1 : Vec Ideal S2048x1024 .bf16) (i : Fin 1024) (j : Fin 1024) :
    k0_pay3 x0 x1 (ix2 i j) = ∑ k : Fin 2048, x0 (ix2 i k) * x1 (ix2 k j) := by
  pointwise [k0_pay3]

section
variable (x : Vec Ideal S1024x2048 .bf16) (w : Vec Ideal S2048x1024 .bf16) (p : Vec Ideal S256x256 .bf16)

/-! The four quarters of the block: the 0/1 matrix times 256 rows of the product. -/

/-- The first 512 rows, and the 0/1 matrix times the first 256 of them. -/
def top (o : FVec Ideal S1024x1024 .bf16) : FVec Ideal S512x1024 .bf16 := extractStridedSlice S512x1024 ![0, 0] o slices_S1024x1024_o0_0_S512x1024
def times (p : Vec Ideal S256x256 .bf16) (h : FVec Ideal S512x1024 .bf16) : FVec Ideal S256x1024 .bf16 :=
  truncf .bf16 (matmul (φ₁ := .bf16) (φ₂ := .bf16) dot_S256x256_S256x1024_S256x1024_1_0_0_1_n_n none p (extractStridedSlice S256x1024 ![0, 0] h slices_S512x1024_o0_0_S256x1024) (constant S256x1024 .f32 0x00000000#32)) bitsLt_bf16_f32

theorem top_at (o : FVec Ideal S1024x1024 .bf16) (r : Fin 512) (j : Fin 1024) (n : ℕ) (hn : n < 1024) (e : n = r.val) : top o (ix2 r j) = o (ix2 ⟨n, hn⟩ j) := by
  subst e
  pointwise [top]
theorem low_at (o : FVec Ideal S1024x1024 .bf16) (r : Fin 512) (j : Fin 1024) (n : ℕ) (hn : n < 1024) (e : n = 512 + r.val) : k0_pay39 (F := Ideal) o (ix2 r j) = o (ix2 ⟨n, hn⟩ j) := by
  subst e
  pointwise [k0_pay39]
theorem times_at (h : FVec Ideal S512x1024 .bf16) (r : Fin 256) (j : Fin 1024) : times p h (ix2 r j) = ∑ z : Fin 256, p (ix2 r z) * h (ix2 ⟨z.val, by omega⟩ j) := by
  pointwise [times]
theorem times_low_at (h : FVec Ideal S512x1024 .bf16) (r : Fin 256) (j : Fin 1024) : k0_pay57 (F := Ideal) p h (ix2 r j) = ∑ z : Fin 256, p (ix2 r z) * h (ix2 ⟨256 + z.val, by omega⟩ j) := by
  pointwise [k0_pay57]

theorem part0 (r : Fin 256) (j : Fin 1024) : k0_pay5 x w p (ix2 r j) = ∑ z : Fin 256, p (ix2 r z) * k0_pay3 x w (ix2 ⟨256 * 0 + z.val, by omega⟩ j) := by
  have e : k0_pay5 x w p = times p (top (k0_pay3 x w)) := rfl
  rw [e]
  generalize k0_pay3 x w = o
  exact (times_at p _ r j).trans (Finset.sum_congr rfl fun z _ => congrArg (p (ix2 r z) * ·) (top_at o _ j _ _ (by simp)))
theorem part1 (r : Fin 256) (j : Fin 1024) : k0_pay22 p (k0_pay4 x w) (ix2 r j) = ∑ z : Fin 256, p (ix2 r z) * k0_pay3 x w (ix2 ⟨256 * 1 + z.val, by omega⟩ j) := by
  have e : k0_pay22 p (k0_pay4 x w) = k0_pay57 p (top (k0_pay3 x w)) := rfl
  rw [e]
  generalize k0_pay3 x w = o
  exact (times_low_at p _ r j).trans (Finset.sum_congr rfl fun z _ => congrArg (p (ix2 r z) * ·) (top_at o _ j _ _ (by simp)))
theorem part2 (r : Fin 256) (j : Fin 1024) : k0_pay40 (k0_pay3 x w) p (ix2 r j) = ∑ z : Fin 256, p (ix2 r z) * k0_pay3 x w (ix2 ⟨256 * 2 + z.val, by omega⟩ j) := by
  generalize k0_pay3 x w = o
  have e : k0_pay40 o p = times p (k0_pay39 (F := Ideal) o) := rfl
  rw [e]
  exact (times_at p _ r j).trans (Finset.sum_congr rfl fun z _ => congrArg (p (ix2 r z) * ·) (low_at o _ j _ _ (by simp)))
theorem part3 (r : Fin 256) (j : Fin 1024) : k0_pay57 p (k0_pay39 (k0_pay3 x w)) (ix2 r j) = ∑ z : Fin 256, p (ix2 r z) * k0_pay3 x w (ix2 ⟨256 * 3 + z.val, by omega⟩ j) := by
  generalize k0_pay3 x w = o
  exact (times_low_at p _ r j).trans (Finset.sum_congr rfl fun z _ => congrArg (p (ix2 r z) * ·) (low_at o _ j _ _ (by simp; omega)))

/-- The sixty-four pieces of a block of the second result, last first. -/
abbrev pieces : List (View.Piece (Elt Ideal) S1024x1024 .bf16) := [
    ⟨Rect.unit ![1008, 0] ![16, 1024] inb_S1024x1024_S16x1024_1008_0, extractStridedSlice S16x1024 ![240, 0] (k0_pay57 p (k0_pay39 (k0_pay3 x w))) slices_S256x1024_o240_0_S16x1024⟩,
    ⟨Rect.unit ![976, 0] ![16, 1024] inb_S1024x1024_S16x1024_976_0, extractStridedSlice S16x1024 ![224, 0] (k0_pay57 p (k0_pay39 (k0_pay3 x w))) slices_S256x1024_o224_0_S16x1024⟩,
    ⟨Rect.unit ![944, 0] ![16, 1024] inb_S1024x1024_S16x1024_944_0, extractStridedSlice S16x1024 ![208, 0] (k0_pay57 p (k0_pay39 (k0_pay3 x w))) slices_S256x1024_o208_0_S16x1024⟩,
    ⟨Rect.unit ![912, 0] ![16, 1024] inb_S1024x1024_S16x1024_912_0, extractStridedSlice S16x1024 ![192, 0] (k0_pay57 p (k0_pay39 (k0_pay3 x w))) slices_S256x1024_o192_0_S16x1024⟩,
    ⟨Rect.unit ![880, 0] ![16, 1024] inb_S1024x1024_S16x1024_880_0, extractStridedSlice S16x1024 ![176, 0] (k0_pay57 p (k0_pay39 (k0_pay3 x w))) slices_S256x1024_o176_0_S16x1024⟩,
    ⟨Rect.unit ![848, 0] ![16, 1024] inb_S1024x1024_S16x1024_848_0, extractStridedSlice S16x1024 ![160, 0] (k0_pay57 p (k0_pay39 (k0_pay3 x w))) slices_S256x1024_o160_0_S16x1024⟩,
    ⟨Rect.unit ![816, 0] ![16, 1024] inb_S1024x1024_S16x1024_816_0, extractStridedSlice S16x1024 ![144, 0] (k0_pay57 p (k0_pay39 (k0_pay3 x w))) slices_S256x1024_o144_0_S16x1024⟩,
    ⟨Rect.unit ![784, 0] ![16, 1024] inb_S1024x1024_S16x1024_784_0, extractStridedSlice S16x1024 ![128, 0] (k0_pay57 p (k0_pay39 (k0_pay3 x w))) slices_S256x1024_o128_0_S16x1024⟩,
    ⟨Rect.unit ![752, 0] ![16, 1024] inb_S1024x1024_S16x1024_752_0, extractStridedSlice S16x1024 ![112, 0] (k0_pay57 p (k0_pay39 (k0_pay3 x w))) slices_S256x1024_o112_0_S16x1024⟩,
    ⟨Rect.unit ![720, 0] ![16, 1024] inb_S1024x1024_S16x1024_720_0, extractStridedSlice S16x1024 ![96, 0] (k0_pay57 p (k0_pay39 (k0_pay3 x w))) slices_S256x1024_o96_0_S16x1024⟩,
    ⟨Rect.unit ![688, 0] ![16, 1024] inb_S1024x1024_S16x1024_688_0, extractStridedSlice S16x1024 ![80, 0] (k0_pay57 p (k0_pay39 (k0_pay3 x w))) slices_S256x1024_o80_0_S16x1024⟩,
    ⟨Rect.unit ![656, 0] ![16, 1024] inb_S1024x1024_S16x1024_656_0, extractStridedSlice S16x1024 ![64, 0] (k0_pay57 p (k0_pay39 (k0_pay3 x w))) slices_S256x1024_o64_0_S16x1024⟩,
    ⟨Rect.unit ![624, 0] ![16, 1024] inb_S1024x1024_S16x1024_624_0, extractStridedSlice S16x1024 ![48, 0] (k0_pay57 p (k0_pay39 (k0_pay3 x w))) slices_S256x1024_o48_0_S16x1024⟩,
    ⟨Rect.unit ![592, 0] ![16, 1024] inb_S1024x1024_S16x1024_592_0, extractStridedSlice S16x1024 ![32, 0] (k0_pay57 p (k0_pay39 (k0_pay3 x w))) slices_S256x1024_o32_0_S16x1024⟩,
    ⟨Rect.unit ![560, 0] ![16, 1024] inb_S1024x1024_S16x1024_560_0, extractStridedSlice S16x1024 ![16, 0] (k0_pay57 p (k0_pay39 (k0_pay3 x w))) slices_S256x1024_o16_0_S16x1024⟩,
    ⟨Rect.unit ![528, 0] ![16, 1024] inb_S1024x1024_S16x1024_528_0, extractStridedSlice S16x1024 ![0, 0] (k0_pay57 p (k0_pay39 (k0_pay3 x w))) slices_S256x1024_o0_0_S16x1024⟩,
    ⟨Rect.unit ![992, 0] ![16, 1024] inb_S1024x1024_S16x1024_992_0, extractStridedSlice S16x1024 ![240, 0] (k0_pay40 (k0_pay3 x w) p) slices_S256x1024_o240_0_S16x1024⟩,
    ⟨Rect.unit ![960, 0] ![16, 1024] inb_S1024x1024_S16x1024_960_0, extractStridedSlice S16x1024 ![224, 0] (k0_pay40 (k0_pay3 x w) p) slices_S256x1024_o224_0_S16x1024⟩,
    ⟨Rect.unit ![928, 0] ![16, 1024] inb_S1024x1024_S16x1024_928_0, extractStridedSlice S16x1024 ![208, 0] (k0_pay40 (k0_pay3 x w) p) slices_S256x1024_o208_0_S16x1024⟩,
    ⟨Rect.unit ![896, 0] ![16, 1024] inb_S1024x1024_S16x1024_896_0, extractStridedSlice S16x1024 ![192, 0] (k0_pay40 (k0_pay3 x w) p) slices_S256x1024_o192_0_S16x1024⟩,
    ⟨Rect.unit ![864, 0] ![16, 1024] inb_S1024x1024_S16x1024_864_0, extractStridedSlice S16x1024 ![176, 0] (k0_pay40 (k0_pay3 x w) p) slices_S256x1024_o176_0_S16x1024⟩,
    ⟨Rect.unit ![832, 0] ![16, 1024] inb_S1024x1024_S16x1024_832_0, extractStridedSlice S16x1024 ![160, 0] (k0_pay40 (k0_pay3 x w) p) slices_S256x1024_o160_0_S16x1024⟩,
    ⟨Rect.unit ![800, 0] ![16, 1024] inb_S1024x1024_S16x1024_800_0, extractStridedSlice S16x1024 ![144, 0] (k0_pay40 (k0_pay3 x w) p) slices_S256x1024_o144_0_S16x1024⟩,
    ⟨Rect.unit ![768, 0] ![16, 1024] inb_S1024x1024_S16x1024_768_0, extractStridedSlice S16x1024 ![128, 0] (k0_pay40 (k0_pay3 x w) p) slices_S256x1024_o128_0_S16x1024⟩,
    ⟨Rect.unit ![736, 0] ![16, 1024] inb_S1024x1024_S16x1024_736_0, extractStridedSlice S16x1024 ![112, 0] (k0_pay40 (k0_pay3 x w) p) slices_S256x1024_o112_0_S16x1024⟩,
    ⟨Rect.unit ![704, 0] ![16, 1024] inb_S1024x1024_S16x1024_704_0, extractStridedSlice S16x1024 ![96, 0] (k0_pay40 (k0_pay3 x w) p) slices_S256x1024_o96_0_S16x1024⟩,
    ⟨Rect.unit ![672, 0] ![16, 1024] inb_S1024x1024_S16x1024_672_0, extractStridedSlice S16x1024 ![80, 0] (k0_pay40 (k0_pay3 x w) p) slices_S256x1024_o80_0_S16x1024⟩,
    ⟨Rect.unit ![640, 0] ![16, 1024] inb_S1024x1024_S16x1024_640_0, extractStridedSlice S16x1024 ![64, 0] (k0_pay40 (k0_pay3 x w) p) slices_S256x1024_o64_0_S16x1024⟩,
    ⟨Rect.unit ![608, 0] ![16, 1024] inb_S1024x1024_S16x1024_608_0, extractStridedSlice S16x1024 ![48, 0] (k0_pay40 (k0_pay3 x w) p) slices_S256x1024_o48_0_S16x1024⟩,
    ⟨Rect.unit ![576, 0] ![16, 1024] inb_S1024x1024_S16x1024_576_0, extractStridedSlice S16x1024 ![32, 0] (k0_pay40 (k0_pay3 x w) p) slices_S256x1024_o32_0_S16x1024⟩,
    ⟨Rect.unit ![544, 0] ![16, 1024] inb_S1024x1024_S16x1024_544_0, extractStridedSlice S16x1024 ![16, 0] (k0_pay40 (k0_pay3 x w) p) slices_S256x1024_o16_0_S16x1024⟩,
    ⟨Rect.unit ![512, 0] ![16, 1024] inb_S1024x1024_S16x1024_512_0, extractStridedSlice S16x1024 ![0, 0] (k0_pay40 (k0_pay3 x w) p) slices_S256x1024_o0_0_S16x1024⟩,
    ⟨Rect.unit ![496, 0] ![16, 1024] inb_S1024x1024_S16x1024_496_0, extractStridedSlice S16x1024 ![240, 0] (k0_pay22 p (k0_pay4 x w)) slices_S256x1024_o240_0_S16x1024⟩,
    ⟨Rect.unit ![464, 0] ![16, 1024] inb_S1024x1024_S16x1024_464_0, extractStridedSlice S16x1024 ![224, 0] (k0_pay22 p (k0_pay4 x w)) slices_S256x1024_o224_0_S16x1024⟩,
    ⟨Rect.unit ![432, 0] ![16, 1024] inb_S1024x1024_S16x1024_432_0, extractStridedSlice S16x1024 ![208, 0] (k0_pay22 p (k0_pay4 x w)) slices_S256x1024_o208_0_S16x1024⟩,
    ⟨Rect.unit ![400, 0] ![16, 1024] inb_S1024x1024_S16x1024_400_0, extractStridedSlice S16x1024 ![192, 0] (k0_pay22 p (k0_pay4 x w)) slices_S256x1024_o192_0_S16x1024⟩,
    ⟨Rect.unit ![368, 0] ![16, 1024] inb_S1024x1024_S16x1024_368_0, extractStridedSlice S16x1024 ![176, 0] (k0_pay22 p (k0_pay4 x w)) slices_S256x1024_o176_0_S16x1024⟩,
    ⟨Rect.unit ![336, 0] ![16, 1024] inb_S1024x1024_S16x1024_336_0, extractStridedSlice S16x1024 ![160, 0] (k0_pay22 p (k0_pay4 x w)) slices_S256x1024_o160_0_S16x1024⟩,
    ⟨Rect.unit ![304, 0] ![16, 1024] inb_S1024x1024_S16x1024_304_0, extractStridedSlice S16x1024 ![144, 0] (k0_pay22 p (k0_pay4 x w)) slices_S256x1024_o144_0_S16x1024⟩,
    ⟨Rect.unit ![272, 0] ![16, 1024] inb_S1024x1024_S16x1024_272_0, extractStridedSlice S16x1024 ![128, 0] (k0_pay22 p (k0_pay4 x w)) slices_S256x1024_o128_0_S16x1024⟩,
    ⟨Rect.unit ![240, 0] ![16, 1024] inb_S1024x1024_S16x1024_240_0, extractStridedSlice S16x1024 ![112, 0] (k0_pay22 p (k0_pay4 x w)) slices_S256x1024_o112_0_S16x1024⟩,
    ⟨Rect.unit ![208, 0] ![16, 1024] inb_S1024x1024_S16x1024_208_0, extractStridedSlice S16x1024 ![96, 0] (k0_pay22 p (k0_pay4 x w)) slices_S256x1024_o96_0_S16x1024⟩,
    ⟨Rect.unit ![176, 0] ![16, 1024] inb_S1024x1024_S16x1024_176_0, extractStridedSlice S16x1024 ![80, 0] (k0_pay22 p (k0_pay4 x w)) slices_S256x1024_o80_0_S16x1024⟩,
    ⟨Rect.unit ![144, 0] ![16, 1024] inb_S1024x1024_S16x1024_144_0, extractStridedSlice S16x1024 ![64, 0] (k0_pay22 p (k0_pay4 x w)) slices_S256x1024_o64_0_S16x1024⟩,
    ⟨Rect.unit ![112, 0] ![16, 1024] inb_S1024x1024_S16x1024_112_0, extractStridedSlice S16x1024 ![48, 0] (k0_pay22 p (k0_pay4 x w)) slices_S256x1024_o48_0_S16x1024⟩,
    ⟨Rect.unit ![80, 0] ![16, 1024] inb_S1024x1024_S16x1024_80_0, extractStridedSlice S16x1024 ![32, 0] (k0_pay22 p (k0_pay4 x w)) slices_S256x1024_o32_0_S16x1024⟩,
    ⟨Rect.unit ![48, 0] ![16, 1024] inb_S1024x1024_S16x1024_48_0, extractStridedSlice S16x1024 ![16, 0] (k0_pay22 p (k0_pay4 x w)) slices_S256x1024_o16_0_S16x1024⟩,
    ⟨Rect.unit ![16, 0] ![16, 1024] inb_S1024x1024_S16x1024_16_0, extractStridedSlice S16x1024 ![0, 0] (k0_pay22 p (k0_pay4 x w)) slices_S256x1024_o0_0_S16x1024⟩,
    ⟨Rect.unit ![480, 0] ![16, 1024] inb_S1024x1024_S16x1024_480_0, extractStridedSlice S16x1024 ![240, 0] (k0_pay5 x w p) slices_S256x1024_o240_0_S16x1024⟩,
    ⟨Rect.unit ![448, 0] ![16, 1024] inb_S1024x1024_S16x1024_448_0, extractStridedSlice S16x1024 ![224, 0] (k0_pay5 x w p) slices_S256x1024_o224_0_S16x1024⟩,
    ⟨Rect.unit ![416, 0] ![16, 1024] inb_S1024x1024_S16x1024_416_0, extractStridedSlice S16x1024 ![208, 0] (k0_pay5 x w p) slices_S256x1024_o208_0_S16x1024⟩,
    ⟨Rect.unit ![384, 0] ![16, 1024] inb_S1024x1024_S16x1024_384_0, extractStridedSlice S16x1024 ![192, 0] (k0_pay5 x w p) slices_S256x1024_o192_0_S16x1024⟩,
    ⟨Rect.unit ![352, 0] ![16, 1024] inb_S1024x1024_S16x1024_352_0, extractStridedSlice S16x1024 ![176, 0] (k0_pay5 x w p) slices_S256x1024_o176_0_S16x1024⟩,
    ⟨Rect.unit ![320, 0] ![16, 1024] inb_S1024x1024_S16x1024_320_0, extractStridedSlice S16x1024 ![160, 0] (k0_pay5 x w p) slices_S256x1024_o160_0_S16x1024⟩,
    ⟨Rect.unit ![288, 0] ![16, 1024] inb_S1024x1024_S16x1024_288_0, extractStridedSlice S16x1024 ![144, 0] (k0_pay5 x w p) slices_S256x1024_o144_0_S16x1024⟩,
    ⟨Rect.unit ![256, 0] ![16, 1024] inb_S1024x1024_S16x1024_256_0, extractStridedSlice S16x1024 ![128, 0] (k0_pay5 x w p) slices_S256x1024_o128_0_S16x1024⟩,
    ⟨Rect.unit ![224, 0] ![16, 1024] inb_S1024x1024_S16x1024_224_0, extractStridedSlice S16x1024 ![112, 0] (k0_pay5 x w p) slices_S256x1024_o112_0_S16x1024⟩,
    ⟨Rect.unit ![192, 0] ![16, 1024] inb_S1024x1024_S16x1024_192_0, extractStridedSlice S16x1024 ![96, 0] (k0_pay5 x w p) slices_S256x1024_o96_0_S16x1024⟩,
    ⟨Rect.unit ![160, 0] ![16, 1024] inb_S1024x1024_S16x1024_160_0, extractStridedSlice S16x1024 ![80, 0] (k0_pay5 x w p) slices_S256x1024_o80_0_S16x1024⟩,
    ⟨Rect.unit ![128, 0] ![16, 1024] inb_S1024x1024_S16x1024_128_0, extractStridedSlice S16x1024 ![64, 0] (k0_pay5 x w p) slices_S256x1024_o64_0_S16x1024⟩,
    ⟨Rect.unit ![96, 0] ![16, 1024] inb_S1024x1024_S16x1024_96_0, extractStridedSlice S16x1024 ![48, 0] (k0_pay5 x w p) slices_S256x1024_o48_0_S16x1024⟩,
    ⟨Rect.unit ![64, 0] ![16, 1024] inb_S1024x1024_S16x1024_64_0, extractStridedSlice S16x1024 ![32, 0] (k0_pay5 x w p) slices_S256x1024_o32_0_S16x1024⟩,
    ⟨Rect.unit ![32, 0] ![16, 1024] inb_S1024x1024_S16x1024_32_0, extractStridedSlice S16x1024 ![16, 0] (k0_pay5 x w p) slices_S256x1024_o16_0_S16x1024⟩,
    ⟨Rect.unit ![0, 0] ![16, 1024] inb_S1024x1024_S16x1024_0_0, extractStridedSlice S16x1024 ![0, 0] (k0_pay5 x w p) slices_S256x1024_o0_0_S16x1024⟩]

variable (hp : ∀ r z : Fin 256, p (ix2 r z) = if z.val = 16 * (r.val % 16) + 4 * (r.val / 16 % 4) + r.val / 64 then 1 else 0)
  (O : ℕ → ℕ → EReal) (ho : ∀ i j : Fin 1024, k0_pay3 x w (ix2 i j) = O i.val j.val)

include hp ho in
/-- A block of the second result: row `i` holds the row `src i` of the product. -/
theorem pieces_at (i : Fin 1024) (j : Fin 1024) : View.canon (pieces x w p) (ix2 i j) = O (Kv.src i.val) j.val := by
  have P : ∀ (q g d o : ℕ) (Y : Vec Ideal S256x1024 .bf16) (h : S256x1024.Slices ![o, 0] S16x1024) (hq4 : q < 4)
      (hY : ∀ (r : Fin 256) (j : Fin 1024), Y (ix2 r j) = ∑ z : Fin 256, p (ix2 r z) * k0_pay3 x w (ix2 ⟨256 * q + z.val, by omega⟩ j))
      (_ : d = 512 * (q / 2) + 32 * g + 16 * (q % 2)) (_ : o = 16 * g) (_ : g < 16) (y : S16x1024.Idx),
      extractStridedSlice S16x1024 ![o, 0] Y h y = O (Kv.src (d + 1 * (y 0).val)) (0 + 1 * (y 1).val) := by
    intro q g d o Y h hq4 hY hd hog hg y
    have hy : (y 0).val < 16 := (y 0).isLt
    rw [Nat.one_mul, Nat.one_mul, Nat.zero_add]
    have e := (hY ⟨o + (y 0).val, by omega⟩ (y 1)).trans ((Kv.pick _ _ ⟨16 * ((o + (y 0).val) % 16) + 4 * ((o + (y 0).val) / 16 % 4) + (o + (y 0).val) / 64, by omega⟩ (fun z => hp _ z)).trans (ho _ _))
    have es : ∀ i : ℕ, i < 16 → 256 * q + (16 * ((o + i) % 16) + 4 * ((o + i) / 16 % 4) + (o + i) / 64) = Kv.src (d + i) := by
      intro i hy
      have e1 : (d + i) / 512 = q / 2 := by omega
      have e2 : (d + i) % 32 = 16 * (q % 2) + i := by omega
      have e3 : (d + i) / 32 = 16 * (q / 2) + g := by omega
      have e4 : (d + i) / 128 = 4 * (q / 2) + g / 4 := by omega
      have e5 : (o + i) % 16 = i := by omega
      have e6 : (o + i) / 16 = g := by omega
      have e7 : (o + i) / 64 = g / 4 := by omega
      have e8 : (16 * (q / 2) + g) % 4 = g % 4 := by omega
      have e9 : (4 * (q / 2) + g / 4) % 4 = g / 4 := by omega
      unfold Kv.src
      rw [e1, e2, e3, e4, e5, e6, e7, e8, e9]
      omega
    rw [← es (y 0).val hy]
    refine Eq.trans (congrArg Y ?_) e
    funext a
    match a with
    | ⟨0, _⟩ => rfl
    | ⟨1, _⟩ => exact Fin.ext (Nat.zero_add _)
  refine View.canon_append_of_piecesOf (fun y => O (Kv.src (y 0).val) (y 1).val) [] (pieces x w p)
    ⟨fun y => P 3 15 1008 240 (k0_pay57 p (k0_pay39 (k0_pay3 x w))) slices_S256x1024_o240_0_S16x1024 (by omega) (part3 x w p) rfl rfl (by omega) y,
      fun y => P 3 14 976 224 (k0_pay57 p (k0_pay39 (k0_pay3 x w))) slices_S256x1024_o224_0_S16x1024 (by omega) (part3 x w p) rfl rfl (by omega) y,
      fun y => P 3 13 944 208 (k0_pay57 p (k0_pay39 (k0_pay3 x w))) slices_S256x1024_o208_0_S16x1024 (by omega) (part3 x w p) rfl rfl (by omega) y,
      fun y => P 3 12 912 192 (k0_pay57 p (k0_pay39 (k0_pay3 x w))) slices_S256x1024_o192_0_S16x1024 (by omega) (part3 x w p) rfl rfl (by omega) y,
      fun y => P 3 11 880 176 (k0_pay57 p (k0_pay39 (k0_pay3 x w))) slices_S256x1024_o176_0_S16x1024 (by omega) (part3 x w p) rfl rfl (by omega) y,
      fun y => P 3 10 848 160 (k0_pay57 p (k0_pay39 (k0_pay3 x w))) slices_S256x1024_o160_0_S16x1024 (by omega) (part3 x w p) rfl rfl (by omega) y,
      fun y => P 3 9 816 144 (k0_pay57 p (k0_pay39 (k0_pay3 x w))) slices_S256x1024_o144_0_S16x1024 (by omega) (part3 x w p) rfl rfl (by omega) y,
      fun y => P 3 8 784 128 (k0_pay57 p (k0_pay39 (k0_pay3 x w))) slices_S256x1024_o128_0_S16x1024 (by omega) (part3 x w p) rfl rfl (by omega) y,
      fun y => P 3 7 752 112 (k0_pay57 p (k0_pay39 (k0_pay3 x w))) slices_S256x1024_o112_0_S16x1024 (by omega) (part3 x w p) rfl rfl (by omega) y,
      fun y => P 3 6 720 96 (k0_pay57 p (k0_pay39 (k0_pay3 x w))) slices_S256x1024_o96_0_S16x1024 (by omega) (part3 x w p) rfl rfl (by omega) y,
      fun y => P 3 5 688 80 (k0_pay57 p (k0_pay39 (k0_pay3 x w))) slices_S256x1024_o80_0_S16x1024 (by omega) (part3 x w p) rfl rfl (by omega) y,
      fun y => P 3 4 656 64 (k0_pay57 p (k0_pay39 (k0_pay3 x w))) slices_S256x1024_o64_0_S16x1024 (by omega) (part3 x w p) rfl rfl (by omega) y,
      fun y => P 3 3 624 48 (k0_pay57 p (k0_pay39 (k0_pay3 x w))) slices_S256x1024_o48_0_S16x1024 (by omega) (part3 x w p) rfl rfl (by omega) y,
      fun y => P 3 2 592 32 (k0_pay57 p (k0_pay39 (k0_pay3 x w))) slices_S256x1024_o32_0_S16x1024 (by omega) (part3 x w p) rfl rfl (by omega) y,
      fun y => P 3 1 560 16 (k0_pay57 p (k0_pay39 (k0_pay3 x w))) slices_S256x1024_o16_0_S16x1024 (by omega) (part3 x w p) rfl rfl (by omega) y,
      fun y => P 3 0 528 0 (k0_pay57 p (k0_pay39 (k0_pay3 x w))) slices_S256x1024_o0_0_S16x1024 (by omega) (part3 x w p) rfl rfl (by omega) y,
      fun y => P 2 15 992 240 (k0_pay40 (k0_pay3 x w) p) slices_S256x1024_o240_0_S16x1024 (by omega) (part2 x w p) rfl rfl (by omega) y,
      fun y => P 2 14 960 224 (k0_pay40 (k0_pay3 x w) p) slices_S256x1024_o224_0_S16x1024 (by omega) (part2 x w p) rfl rfl (by omega) y,
      fun y => P 2 13 928 208 (k0_pay40 (k0_pay3 x w) p) slices_S256x1024_o208_0_S16x1024 (by omega) (part2 x w p) rfl rfl (by omega) y,
      fun y => P 2 12 896 192 (k0_pay40 (k0_pay3 x w) p) slices_S256x1024_o192_0_S16x1024 (by omega) (part2 x w p) rfl rfl (by omega) y,
      fun y => P 2 11 864 176 (k0_pay40 (k0_pay3 x w) p) slices_S256x1024_o176_0_S16x1024 (by omega) (part2 x w p) rfl rfl (by omega) y,
      fun y => P 2 10 832 160 (k0_pay40 (k0_pay3 x w) p) slices_S256x1024_o160_0_S16x1024 (by omega) (part2 x w p) rfl rfl (by omega) y,
      fun y => P 2 9 800 144 (k0_pay40 (k0_pay3 x w) p) slices_S256x1024_o144_0_S16x1024 (by omega) (part2 x w p) rfl rfl (by omega) y,
      fun y => P 2 8 768 128 (k0_pay40 (k0_pay3 x w) p) slices_S256x1024_o128_0_S16x1024 (by omega) (part2 x w p) rfl rfl (by omega) y,
      fun y => P 2 7 736 112 (k0_pay40 (k0_pay3 x w) p) slices_S256x1024_o112_0_S16x1024 (by omega) (part2 x w p) rfl rfl (by omega) y,
      fun y => P 2 6 704 96 (k0_pay40 (k0_pay3 x w) p) slices_S256x1024_o96_0_S16x1024 (by omega) (part2 x w p) rfl rfl (by omega) y,
      fun y => P 2 5 672 80 (k0_pay40 (k0_pay3 x w) p) slices_S256x1024_o80_0_S16x1024 (by omega) (part2 x w p) rfl rfl (by omega) y,
      fun y => P 2 4 640 64 (k0_pay40 (k0_pay3 x w) p) slices_S256x1024_o64_0_S16x1024 (by omega) (part2 x w p) rfl rfl (by omega) y,
      fun y => P 2 3 608 48 (k0_pay40 (k0_pay3 x w) p) slices_S256x1024_o48_0_S16x1024 (by omega) (part2 x w p) rfl rfl (by omega) y,
      fun y => P 2 2 576 32 (k0_pay40 (k0_pay3 x w) p) slices_S256x1024_o32_0_S16x1024 (by omega) (part2 x w p) rfl rfl (by omega) y,
      fun y => P 2 1 544 16 (k0_pay40 (k0_pay3 x w) p) slices_S256x1024_o16_0_S16x1024 (by omega) (part2 x w p) rfl rfl (by omega) y,
      fun y => P 2 0 512 0 (k0_pay40 (k0_pay3 x w) p) slices_S256x1024_o0_0_S16x1024 (by omega) (part2 x w p) rfl rfl (by omega) y,
      fun y => P 1 15 496 240 (k0_pay22 p (k0_pay4 x w)) slices_S256x1024_o240_0_S16x1024 (by omega) (part1 x w p) rfl rfl (by omega) y,
      fun y => P 1 14 464 224 (k0_pay22 p (k0_pay4 x w)) slices_S256x1024_o224_0_S16x1024 (by omega) (part1 x w p) rfl rfl (by omega) y,
      fun y => P 1 13 432 208 (k0_pay22 p (k0_pay4 x w)) slices_S256x1024_o208_0_S16x1024 (by omega) (part1 x w p) rfl rfl (by omega) y,
      fun y => P 1 12 400 192 (k0_pay22 p (k0_pay4 x w)) slices_S256x1024_o192_0_S16x1024 (by omega) (part1 x w p) rfl rfl (by omega) y,
      fun y => P 1 11 368 176 (k0_pay22 p (k0_pay4 x w)) slices_S256x1024_o176_0_S16x1024 (by omega) (part1 x w p) rfl rfl (by omega) y,
      fun y => P 1 10 336 160 (k0_pay22 p (k0_pay4 x w)) slices_S256x1024_o160_0_S16x1024 (by omega) (part1 x w p) rfl rfl (by omega) y,
      fun y => P 1 9 304 144 (k0_pay22 p (k0_pay4 x w)) slices_S256x1024_o144_0_S16x1024 (by omega) (part1 x w p) rfl rfl (by omega) y,
      fun y => P 1 8 272 128 (k0_pay22 p (k0_pay4 x w)) slices_S256x1024_o128_0_S16x1024 (by omega) (part1 x w p) rfl rfl (by omega) y,
      fun y => P 1 7 240 112 (k0_pay22 p (k0_pay4 x w)) slices_S256x1024_o112_0_S16x1024 (by omega) (part1 x w p) rfl rfl (by omega) y,
      fun y => P 1 6 208 96 (k0_pay22 p (k0_pay4 x w)) slices_S256x1024_o96_0_S16x1024 (by omega) (part1 x w p) rfl rfl (by omega) y,
      fun y => P 1 5 176 80 (k0_pay22 p (k0_pay4 x w)) slices_S256x1024_o80_0_S16x1024 (by omega) (part1 x w p) rfl rfl (by omega) y,
      fun y => P 1 4 144 64 (k0_pay22 p (k0_pay4 x w)) slices_S256x1024_o64_0_S16x1024 (by omega) (part1 x w p) rfl rfl (by omega) y,
      fun y => P 1 3 112 48 (k0_pay22 p (k0_pay4 x w)) slices_S256x1024_o48_0_S16x1024 (by omega) (part1 x w p) rfl rfl (by omega) y,
      fun y => P 1 2 80 32 (k0_pay22 p (k0_pay4 x w)) slices_S256x1024_o32_0_S16x1024 (by omega) (part1 x w p) rfl rfl (by omega) y,
      fun y => P 1 1 48 16 (k0_pay22 p (k0_pay4 x w)) slices_S256x1024_o16_0_S16x1024 (by omega) (part1 x w p) rfl rfl (by omega) y,
      fun y => P 1 0 16 0 (k0_pay22 p (k0_pay4 x w)) slices_S256x1024_o0_0_S16x1024 (by omega) (part1 x w p) rfl rfl (by omega) y,
      fun y => P 0 15 480 240 (k0_pay5 x w p) slices_S256x1024_o240_0_S16x1024 (by omega) (part0 x w p) rfl rfl (by omega) y,
      fun y => P 0 14 448 224 (k0_pay5 x w p) slices_S256x1024_o224_0_S16x1024 (by omega) (part0 x w p) rfl rfl (by omega) y,
      fun y => P 0 13 416 208 (k0_pay5 x w p) slices_S256x1024_o208_0_S16x1024 (by omega) (part0 x w p) rfl rfl (by omega) y,
      fun y => P 0 12 384 192 (k0_pay5 x w p) slices_S256x1024_o192_0_S16x1024 (by omega) (part0 x w p) rfl rfl (by omega) y,
      fun y => P 0 11 352 176 (k0_pay5 x w p) slices_S256x1024_o176_0_S16x1024 (by omega) (part0 x w p) rfl rfl (by omega) y,
      fun y => P 0 10 320 160 (k0_pay5 x w p) slices_S256x1024_o160_0_S16x1024 (by omega) (part0 x w p) rfl rfl (by omega) y,
      fun y => P 0 9 288 144 (k0_pay5 x w p) slices_S256x1024_o144_0_S16x1024 (by omega) (part0 x w p) rfl rfl (by omega) y,
      fun y => P 0 8 256 128 (k0_pay5 x w p) slices_S256x1024_o128_0_S16x1024 (by omega) (part0 x w p) rfl rfl (by omega) y,
      fun y => P 0 7 224 112 (k0_pay5 x w p) slices_S256x1024_o112_0_S16x1024 (by omega) (part0 x w p) rfl rfl (by omega) y,
      fun y => P 0 6 192 96 (k0_pay5 x w p) slices_S256x1024_o96_0_S16x1024 (by omega) (part0 x w p) rfl rfl (by omega) y,
      fun y => P 0 5 160 80 (k0_pay5 x w p) slices_S256x1024_o80_0_S16x1024 (by omega) (part0 x w p) rfl rfl (by omega) y,
      fun y => P 0 4 128 64 (k0_pay5 x w p) slices_S256x1024_o64_0_S16x1024 (by omega) (part0 x w p) rfl rfl (by omega) y,
      fun y => P 0 3 96 48 (k0_pay5 x w p) slices_S256x1024_o48_0_S16x1024 (by omega) (part0 x w p) rfl rfl (by omega) y,
      fun y => P 0 2 64 32 (k0_pay5 x w p) slices_S256x1024_o32_0_S16x1024 (by omega) (part0 x w p) rfl rfl (by omega) y,
      fun y => P 0 1 32 16 (k0_pay5 x w p) slices_S256x1024_o16_0_S16x1024 (by omega) (part0 x w p) rfl rfl (by omega) y,
      fun y => P 0 0 0 0 (k0_pay5 x w p) slices_S256x1024_o0_0_S16x1024 (by omega) (part0 x w p) rfl rfl (by omega) y, trivial⟩ (ix2 i j) ?_
  exact View.cover_of_tiledL (pieces x w p) S16x1024.size (by sl_kernel_rfl) (ix2 i j)

end

variable (m : (ℓ : Loc nD τ sig) → Buf (Elt Ideal) ℓ) (c : Dev nD)

theorem idx : ∀ t : Fin cfg0.N, win0_0.index t = ![t.val % 8, 0] ∧ win0_1.index t = ![0, 0, t.val / 8] ∧ win0_2.index t = ![0, 0] ∧ win0_3.index t = ![t.val % 8, t.val / 8] ∧ win0_4.index t = ![t.val % 8, t.val / 8] :=
  (by decide +kernel : ∀ t : Fin grid0.N, _)

/-- The argument arrays. -/
def A (b : Fin 2) (r : Fin 4096) (k : Fin 2048) : EReal := m ((c : Thread nD τ).loc main_arg0) (ix3 b r k)
def W (k : Fin 2048) (j : Fin 4096) : EReal := m ((c : Thread nD τ).loc main_arg1) (ix2 k j)

theorem v1_at (n : Fin 8192) (k : Fin 2048) : (V m c main_v1 : Vec Ideal S8192x2048 .bf16) (ix2 n k) = Gla.at3 (A m c) (n.val / 4096) (n.val % 4096) k.val := by
  unfold V
  try simp only [List.flatten_cons, List.flatten_nil, List.append_nil, List.cons_append, List.nil_append]
  after_reads_at
  exact (Gla.at3_eq (A m c) _ _ _ _ _ _ rfl rfl rfl).symm

theorem v2_at (k : Fin 2048) (j : Fin 4096) : (V m c main_v2 : Vec Ideal S1x2048x4096 .f32) (ix3 0 k j) = Gla.at2 (W m c) k.val j.val := by
  unfold V
  try simp only [List.flatten_cons, List.flatten_nil, List.append_nil, List.cons_append, List.nil_append]
  after_reads_at
  exact (Gla.at2_eq (W m c) _ _ _ _ rfl rfl).symm

theorem one_bits : FloatOps.ofBits (F := Ideal) .bf16 0x3F80#16 = (1 : EReal) := by
  show Ideal.ofBits .bf16 0x3F80#16 = 1
  simp [Ideal.ofBits, Ideal.ieee, -EReal.coe_mul]; norm_num
theorem zero_bits : FloatOps.ofBits (F := Ideal) .bf16 0#16 = (0 : EReal) := by
  show Ideal.ofBits .bf16 0#16 = 0
  simp [Ideal.ofBits, Ideal.ieee, -EReal.coe_mul]

theorem cst_read (r z : Fin 256) : (V m c main_cst : Vec Ideal S256x256 .bf16) (ix2 r z) = FloatOps.ofBits (F := Ideal) .bf16 (lit0 (S256x256.rowMajor (ix2 r z))) := by
  unfold V
  try simp only [List.flatten_cons, List.flatten_nil, List.append_nil, List.cons_append, List.nil_append]
  after_reads_at

theorem cst_at (r z : Fin 256) : (V m c main_cst : Vec Ideal S256x256 .bf16) (ix2 r z) = (if z.val = 16 * (r.val % 16) + 4 * (r.val / 16 % 4) + r.val / 64 then 1 else 0 : EReal) := by
  have hr : (S256x256.rowMajor (ix2 r z)).val = 256 * r.val + z.val := (Shape.rowMajor_val_two (ix2 r z)).trans (by show r.val * 256 + z.val = _; omega)
  have e : lit0 (S256x256.rowMajor (ix2 r z)) = if z.val = 16 * (r.val % 16) + 4 * (r.val / 16 % 4) + r.val / 64 then 0x3F80#16 else 0#16 :=
    (show _ = lit0t (S256x256.rowMajor (ix2 r z)).val from rfl).trans ((congrArg lit0t hr).trans (picks r.val r.isLt z))
  refine (cst_read m c r z).trans ((congrArg (FloatOps.ofBits (F := Ideal) .bf16) e).trans ?_)
  split
  · exact one_bits
  · exact zero_bits

theorem a_at (t : Fin cfg0.N) (i : Fin 1024) (k : Fin 2048) : (iblk m c 0 t : Vec Ideal S1024x2048 .bf16) (ix2 i k) = Gla.at3 (A m c) ((t.val % 8 * 1024 + i.val) / 4096) ((t.val % 8 * 1024 + i.val) % 4096) k.val := by
  have e : (iblk m c 0 t : Vec Ideal S1024x2048 .bf16) (ix2 i k) = (V m c main_v1 : Vec Ideal S8192x2048 .bf16) (ix2 ⟨t.val % 8 * 1024 + i.val, by omega⟩ k) := by
    blk_ext [iblk, idx t]
  rw [e, v1_at]
theorem w_at (t : Fin cfg0.N) (k : Fin 2048) (j : Fin 1024) : (iblk m c 1 t : Vec Ideal S1x2048x1024 .f32) (ix3 0 k j) = Gla.at2 (W m c) k.val (t.val / 8 * 1024 + j.val) := by
  have ht : t.val < 32 := lt_of_lt_of_eq t.isLt N_0
  have e : (iblk m c 1 t : Vec Ideal S1x2048x1024 .f32) (ix3 0 k j) = (V m c main_v2 : Vec Ideal S1x2048x4096 .f32) (ix3 0 k ⟨t.val / 8 * 1024 + j.val, by omega⟩) := by
    blk_ext [iblk, idx t]
  rw [e, v2_at]
theorem p_at (t : Fin cfg0.N) (r z : Fin 256) : (iblk m c 2 t : Vec Ideal S256x256 .bf16) (ix2 r z) = (if z.val = 16 * (r.val % 16) + 4 * (r.val / 16 % 4) + r.val / 64 then 1 else 0 : EReal) := by
  have e : (iblk m c 2 t : Vec Ideal S256x256 .bf16) (ix2 r z) = (V m c main_cst : Vec Ideal S256x256 .bf16) (ix2 r z) := by
    blk_ext [iblk, idx t]
  rw [e, cst_at]

/-- The scratch stays as it is where it is not written. -/
theorem scratch_kept (t : Fin cfg0.N) (h0 : ¬t.val % 8 = 0) : (outsAt0 m c t.val t.isLt).2.2 = (outsAt0 m c (t.val - 1) (Nat.lt_of_le_of_lt (Nat.sub_le _ _) t.isLt)).2.2 := by
  rw [outsAt0_B m c t h0]
  rfl

/-- The scratch after a point: the weights of the point's block column. -/
theorem scratch_at (n : ℕ) : ∀ hn : n < cfg0.N, ∀ (k : Fin 2048) (j : Fin 1024), (outsAt0 m c n hn).2.2 (ix2 k j) = Gla.at2 (W m c) k.val (n / 8 * 1024 + j.val) := by
  induction n with
  | zero =>
    intro hn k j
    rw [outsAt0_A m c ⟨0, hn⟩ rfl]
    frame_out
    refine (scr_at _ k j).trans ?_
    rw [w_at]
  | succ n ih =>
    intro hn k j
    by_cases h0 : (n + 1) % 8 = 0
    · rw [outsAt0_A m c ⟨n + 1, hn⟩ h0]
      frame_out
      refine (scr_at _ k j).trans ?_
      rw [w_at]
    · have e : (n + 1) / 8 = n / 8 := by omega
      rw [e, ← ih (Nat.lt_of_succ_lt hn) k j]
      exact congrFun (scratch_kept m c ⟨n + 1, hn⟩ h0) _

variable (t : Fin cfg0.N)

theorem prod_at (w : Vec Ideal S2048x1024 .bf16) (hw : ∀ (k : Fin 2048) (j : Fin 1024), w (ix2 k j) = Gla.at2 (W m c) k.val (t.val / 8 * 1024 + j.val)) (i j : Fin 1024) :
    k0_pay3 (iblk m c 0 t) w (ix2 i j) = Kv.res (A m c) (W m c) (t.val % 8 * 1024 + i.val) (t.val / 8 * 1024 + j.val) := by
  refine (pay_at _ _ i j).trans (Finset.sum_congr rfl fun k _ => ?_)
  rw [a_at, hw]

theorem perm_at (w : Vec Ideal S2048x1024 .bf16) (hw : ∀ (k : Fin 2048) (j : Fin 1024), w (ix2 k j) = Gla.at2 (W m c) k.val (t.val / 8 * 1024 + j.val)) (i j : Fin 1024) :
    View.canon (pieces (iblk m c 0 t) w (iblk m c 2 t)) (ix2 i j) = Kv.perm (A m c) (W m c) (t.val % 8 * 1024 + i.val) (t.val / 8 * 1024 + j.val) := by
  refine (pieces_at _ _ _ (p_at m c t) (fun i j => Kv.res (A m c) (W m c) (t.val % 8 * 1024 + i) (t.val / 8 * 1024 + j)) (prod_at m c t w hw) i j).trans ?_
  have e : t.val % 8 * 1024 + Kv.src i.val = Kv.src (t.val % 8 * 1024 + i.val) := by
    unfold Kv.src
    omega
  show Kv.res _ _ (t.val % 8 * 1024 + Kv.src i.val) _ = _
  rw [e]
  rfl

theorem point (i : Fin 1024) (j : Fin 1024) : (outsAt0 m c t.val t.isLt).1 (ix2 i j) = Kv.res (A m c) (W m c) (t.val % 8 * 1024 + i.val) (t.val / 8 * 1024 + j.val) := by
  by_cases h0 : t.val % 8 = 0
  · rw [outsAt0_A m c t h0]
    frame_out
    exact prod_at m c t _ (fun k j => (scr_at _ k j).trans (w_at m c t k j)) i j
  · rw [outsAt0_B m c t h0]
    frame_out
    refine prod_at m c t _ (fun k j => ?_) i j
    rw [read_unread_whole, scratch_at]
    have e : (t.val - 1) / 8 = t.val / 8 := by omega
    rw [e]

theorem point_perm (i : Fin 1024) (j : Fin 1024) : (outsAt0 m c t.val t.isLt).2.1 (ix2 i j) = Kv.perm (A m c) (W m c) (t.val % 8 * 1024 + i.val) (t.val / 8 * 1024 + j.val) := by
  by_cases h0 : t.val % 8 = 0
  · rw [outsAt0_A m c t h0]
    frame_out
    exact perm_at m c t (k0_pay2 (iblk m c 1 t)) (fun k j => (scr_at _ k j).trans (w_at m c t k j)) i j
  · rw [outsAt0_B m c t h0]
    frame_out
    refine perm_at m c t _ (fun k j => ?_) i j
    rw [read_unread_whole, scratch_at]
    have e : (t.val - 1) / 8 = t.val / 8 := by omega
    rw [e]

theorem final : (dats m 0 c).arrAt 3 (cfgs 0).N = fun i : S8192x4096.Idx => Kv.res (A m c) (W m c) (i 0).val (i 1).val := by
  refine (dats m 0 c).arrAt_eq_of_covers 3 _ (by decide +kernel) fun t _ y => ?_
  blk_simp
  rw [after0_3]
  refine Eq.trans (b := (outsAt0 m c t.val t.isLt).1 (ix2 (y 0) (y 1))) ?_ ((point m c t _ _).trans ?_)
  · refine congrArg _ ?_
    funext a
    match a with
    | ⟨0, _⟩ => rfl
    | ⟨1, _⟩ => rfl
  · blk_simp [idx t]

theorem final_perm : (dats m 0 c).arrAt 4 (cfgs 0).N = fun i : S8192x4096.Idx => Kv.perm (A m c) (W m c) (i 0).val (i 1).val := by
  refine (dats m 0 c).arrAt_eq_of_covers 4 _ (by decide +kernel) fun t _ y => ?_
  blk_simp
  rw [after0_4]
  refine Eq.trans (b := (outsAt0 m c t.val t.isLt).2.1 (ix2 (y 0) (y 1))) ?_ ((point_perm m c t _ _).trans ?_)
  · refine congrArg _ ?_
    funext a
    match a with
    | ⟨0, _⟩ => rfl
    | ⟨1, _⟩ => rfl
  · blk_simp [idx t]

end Cert.KernelKvIdeal.Result

/-! ## The reference -/

namespace Cert.ReferenceKvIdeal.Result

open Cert.ReferenceKvIdeal Cert.ReferenceKvIdeal.Gen Idealize.ShloMosaic Idealize.ShloMosaic.TcCoe Idealize.SL.Sem

def FLAT (a : FVec Ideal S2x4096x2048 .f32) (w : FVec Ideal S2048x4096 .f32) : FVec Ideal S8192x4096 .f32 :=
  shapeCast S8192x4096 (Host.dotGeneral (φ₁ := .f32) (φ₂ := .f32) dot_S2x4096x2048_S2048x4096_S2x4096x4096_2_0_01_1_n_n none a w) shapeCasts_S2x4096x4096_S8192x4096

def REF (a : FVec Ideal S2x4096x2048 .f32) (w : FVec Ideal S2048x4096 .f32) : FVec Ideal S8192x4096 .bf16 := truncf .bf16 (FLAT a w) bitsLt_bf16_f32

def REFP (a : FVec Ideal S2x4096x2048 .f32) (w : FVec Ideal S2048x4096 .f32) : FVec Ideal S8192x4096 .bf16 :=
  truncf .bf16 (shapeCast S8192x4096 (transpose S16x4x4x32x4096 [0, 3, 2, 1, 4] (shapeCast S16x32x4x4x4096 (FLAT a w) shapeCasts_S8192x4096_S16x32x4x4x4096) transposes_S16x32x4x4x4096_S16x4x4x32x4096_0_3_2_1_4) shapeCasts_S16x4x4x32x4096_S8192x4096) bitsLt_bf16_f32

theorem flat_at (a : FVec Ideal S2x4096x2048 .f32) (w : FVec Ideal S2048x4096 .f32) (n : Fin 8192) (j : Fin 4096) :
    FLAT a w (ix2 n j) = Kv.res (fun b r j => a (ix3 b r j)) (fun r j => w (ix2 r j)) n.val j.val := by
  unfold Kv.res
  pointwise [FLAT]
  refine Finset.sum_congr rfl fun k _ => ?_
  exact congrArg₂ (· * ·) (Gla.at3_eq (fun b r j => a (ix3 b r j)) _ _ _ _ _ _ rfl rfl rfl).symm (Gla.at2_eq (fun r j => w (ix2 r j)) _ _ _ _ rfl rfl).symm

theorem ref_at (a : FVec Ideal S2x4096x2048 .f32) (w : FVec Ideal S2048x4096 .f32) :
    REF a w = fun i => Kv.res (fun b r j => a (ix3 b r j)) (fun r j => w (ix2 r j)) (i 0).val (i 1).val := by
  funext i
  refine Eq.trans ?_ (flat_at a w (i 0) (i 1))
  refine congrArg (FLAT a w) ?_
  funext a
  match a with
  | ⟨0, _⟩ => rfl
  | ⟨1, _⟩ => rfl

theorem ref_perm (a : FVec Ideal S2x4096x2048 .f32) (w : FVec Ideal S2048x4096 .f32) :
    REFP a w = fun i => Kv.perm (fun b r j => a (ix3 b r j)) (fun r j => w (ix2 r j)) (i 0).val (i 1).val := by
  funext i
  have hi : (i 0).val < 8192 := (i 0).isLt
  have hs : Kv.src (i 0).val < 8192 := by
    unfold Kv.src
    omega
  refine Eq.trans ?_ (flat_at a w ⟨Kv.src (i 0).val, hs⟩ (i 1))
  obtain ⟨f, hf⟩ : ∃ f, f = FLAT a w := ⟨_, rfl⟩
  unfold REFP
  rw [← hf]
  pointwise []
  refine congrArg f ?_
  funext a
  match a with
  | ⟨0, _⟩ => exact Fin.ext (by simp [Kv.src]; omega)
  | ⟨1, _⟩ => exact Fin.ext (by simp)

end Cert.ReferenceKvIdeal.Result

end
-- ==== Proof.Calls.lean ====
/-
  THE CLAIMS OF THE FURTHER CALLS: the frames, the idealizations, and that each call and its reference compute the same arrays.
-/
module

public import proofs.«01_k».proof.Proof.Down
public import proofs.«01_k».proof.Proof.In
public import proofs.«01_k».proof.Proof.Out
public import proofs.«01_k».proof.Proof.Query
public import proofs.«01_k».proof.Proof.Up
public import proofs.«01_k».proof.Proof.Final
public import proofs.«01_k».proof.Proof.First
public import proofs.«01_k».proof.Proof.Kv
public import proofs.«01_k».proof.Proof.Gen.KernelDown
public import proofs.«01_k».proof.Proof.Gen.KernelDown.Frame
public import proofs.«01_k».proof.Proof.Gen.KernelIn
public import proofs.«01_k».proof.Proof.Gen.KernelIn.Frame
public import proofs.«01_k».proof.Proof.Gen.KernelOut
public import proofs.«01_k».proof.Proof.Gen.KernelOut.Frame
public import proofs.«01_k».proof.Proof.Gen.KernelQuery
public import proofs.«01_k».proof.Proof.Gen.KernelQuery.Frame
public import proofs.«01_k».proof.Proof.Gen.KernelUp
public import proofs.«01_k».proof.Proof.Gen.KernelUp.Frame
public import proofs.«01_k».proof.Proof.Gen.KernelFinal
public import proofs.«01_k».proof.Proof.Gen.KernelFinal.Frame
public import proofs.«01_k».proof.Proof.Gen.KernelFirst
public import proofs.«01_k».proof.Proof.Gen.KernelFirst.Frame
public import proofs.«01_k».proof.Proof.Gen.KernelKv
public import proofs.«01_k».proof.Proof.Gen.KernelKv.Frame
public import proofs.«01_k».proof.Defs
public import Idealize.ShloMosaic.Adequacy
public import Idealize.ShloMosaic.Init
public import Idealize.ShloMosaic.Lib.Claim

@[expose] public section

noncomputable section

/-! ## The down projection -/

namespace Cert.Proof.Down

open Idealize.ShloMosaic Idealize.ShloMosaic.TcCoe Idealize.SL.Sem

theorem frame_p : Cert.quiescent_KernelDown := fun m ρ _ => Cert.KernelDown.Gen.frame m ρ
theorem frame_pi : Cert.quiescent_KernelDownIdeal := fun m ρ _ => Cert.KernelDownIdeal.Gen.frame m ρ
theorem frame_ri : Cert.quiescent_ReferenceDownIdeal := fun m ρ _ =>
  (θ_run Cert.ReferenceDownIdeal.defs _ _).mono (fun r h => ⟨fun c => (h c).2, Idealize.ShloMosaic.sem_eq_zero_of_no_sems (by decide) r.2⟩)
    (Cert.ReferenceDownIdeal.Value.run (F := Ideal) m ρ)
theorem preserves : Cert.preserves_KernelDown_KernelDownIdeal := trivial

section
open Cert.ReferenceDownIdeal Cert.ReferenceDownIdeal.Gen
variable (m : (ℓ : Loc nD τ sig) → Buf (Elt Ideal) ℓ) (c : Dev nD)

/-- The reference's argument arrays. -/
def rH (b : Fin 2) (r : Fin 4096) (j : Fin 2048) : EReal := m ((c : Thread nD τ).loc main_arg0) (ix3 b r j)
def rA (b : Fin 2) (r : Fin 4096) (k : Fin 5632) : EReal := m ((c : Thread nD τ).loc main_arg1) (ix3 b r k)
def rW (b : Fin 2) (k : Fin 5632) (j : Fin 2048) : EReal := m ((c : Thread nD τ).loc main_arg2) (ix3 b k j)
end

/-- Result 0 of the call, and of the reference. -/
def kArr (m : (ℓ : Loc Cert.KernelDownIdeal.nD Cert.KernelDownIdeal.τ Cert.KernelDownIdeal.sig) → Buf (Elt Ideal) ℓ) (c : Dev Cert.KernelDownIdeal.nD) : Cert.KernelDownIdeal.S8192x2048.Idx → EReal :=
  fun i => Cert.Down.res (Cert.KernelDownIdeal.Result.H m c) (Cert.KernelDownIdeal.Result.A m c) (Cert.KernelDownIdeal.Result.W m c) (i 0).val (i 1).val
def rArr (m : (ℓ : Loc Cert.ReferenceDownIdeal.nD Cert.ReferenceDownIdeal.τ Cert.ReferenceDownIdeal.sig) → Buf (Elt Ideal) ℓ) (c : Dev Cert.ReferenceDownIdeal.nD) : Cert.ReferenceDownIdeal.S8192x2048.Idx → EReal :=
  fun i => Cert.Down.res (rH m c) (rA m c) (rW m c) (i 0).val (i 1).val

section
open Cert.KernelDownIdeal Cert.KernelDownIdeal.Gen
theorem run_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v5) = kArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (Result.final m c), (h c).2⟩) (Value.run_blocks m ρ)
end

section
open Cert.ReferenceDownIdeal Cert.ReferenceDownIdeal.Gen
theorem ref_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v4) = rArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (Result.ref_at _ _ _), (h c).2⟩) (Value.run (F := Ideal) m ρ)
end

theorem algebraic : Cert.algebraic_KernelDownIdeal_ReferenceDownIdeal := by
  pair_intro
  · run_from run_res m g
  · run_from ref_res m' g'
    obtain ⟨h0, h1, h2⟩ := hagree c
    have eH : rH m' c = Cert.KernelDownIdeal.Result.H m c := funext fun b => funext fun r => funext fun j => congrFun h0 _
    have eA : rA m' c = Cert.KernelDownIdeal.Result.A m c := funext fun b => funext fun r => funext fun j => congrFun h1 _
    have eW : rW m' c = Cert.KernelDownIdeal.Result.W m c := funext fun b => funext fun r => funext fun j => congrFun h2 _
    unfold rArr kArr
    rw [eH, eA, eW]

end Cert.Proof.Down

/-! ## The combined projection into the linear attention -/

namespace Cert.Proof.In

open Idealize.ShloMosaic Idealize.ShloMosaic.TcCoe Idealize.SL.Sem

theorem frame_p : Cert.quiescent_KernelIn := fun m ρ _ => Cert.KernelIn.Gen.frame m ρ
theorem frame_pi : Cert.quiescent_KernelInIdeal := fun m ρ _ => Cert.KernelInIdeal.Gen.frame m ρ
theorem frame_ri : Cert.quiescent_ReferenceInIdeal := fun m ρ _ =>
  (θ_run Cert.ReferenceInIdeal.defs _ _).mono (fun r h => ⟨fun c => (h c).2, Idealize.ShloMosaic.sem_eq_zero_of_no_sems (by decide) r.2⟩)
    (Cert.ReferenceInIdeal.Value.run (F := Ideal) m ρ)
theorem preserves : Cert.preserves_KernelIn_KernelInIdeal := trivial

section
open Cert.ReferenceInIdeal Cert.ReferenceInIdeal.Gen
variable (m : (ℓ : Loc nD τ sig) → Buf (Elt Ideal) ℓ) (c : Dev nD)

/-- The reference's argument arrays. -/
def rA (b : Fin 2) (r : Fin 4096) (k : Fin 2048) : EReal := m ((c : Thread nD τ).loc main_arg0) (ix3 b r k)
def rW (b : Fin 1) (k : Fin 2048) (j : Fin 6160) : EReal := m ((c : Thread nD τ).loc main_arg1) (ix3 b k j)
end

/-- Result 0 of the call, and of the reference. -/
def kArr (m : (ℓ : Loc Cert.KernelInIdeal.nD Cert.KernelInIdeal.τ Cert.KernelInIdeal.sig) → Buf (Elt Ideal) ℓ) (c : Dev Cert.KernelInIdeal.nD) : Cert.KernelInIdeal.S8192x6144.Idx → EReal :=
  fun i => Cert.In.res (Cert.KernelInIdeal.Result.A m c) (Cert.KernelInIdeal.Result.W m c) (i 0).val (i 1).val
def rArr (m : (ℓ : Loc Cert.ReferenceInIdeal.nD Cert.ReferenceInIdeal.τ Cert.ReferenceInIdeal.sig) → Buf (Elt Ideal) ℓ) (c : Dev Cert.ReferenceInIdeal.nD) : Cert.ReferenceInIdeal.S8192x6144.Idx → EReal :=
  fun i => Cert.In.res (rA m c) (rW m c) (i 0).val (i 1).val

section
open Cert.KernelInIdeal Cert.KernelInIdeal.Gen
theorem run_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v3) = kArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (Result.final m c), (h c).2⟩) (Value.run_blocks m ρ)
end

section
open Cert.ReferenceInIdeal Cert.ReferenceInIdeal.Gen
theorem ref_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v4) = rArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (Result.ref_at _ _), (h c).2⟩) (Value.run (F := Ideal) m ρ)
end

theorem algebraic : Cert.algebraic_KernelInIdeal_ReferenceInIdeal := by
  pair_intro
  · run_from run_res m g
  · run_from ref_res m' g'
    obtain ⟨h0, h1⟩ := hagree c
    have eA : rA m' c = Cert.KernelInIdeal.Result.A m c := funext fun b => funext fun r => funext fun j => congrFun h0 _
    have eW : rW m' c = Cert.KernelInIdeal.Result.W m c := funext fun b => funext fun r => funext fun j => congrFun h1 _
    unfold rArr kArr
    rw [eA, eW]

end Cert.Proof.In

/-! ## The output projection -/

namespace Cert.Proof.Out

open Idealize.ShloMosaic Idealize.ShloMosaic.TcCoe Idealize.SL.Sem

theorem frame_p : Cert.quiescent_KernelOut := fun m ρ _ => Cert.KernelOut.Gen.frame m ρ
theorem frame_pi : Cert.quiescent_KernelOutIdeal := fun m ρ _ => Cert.KernelOutIdeal.Gen.frame m ρ
theorem frame_ri : Cert.quiescent_ReferenceOutIdeal := fun m ρ _ =>
  (θ_run Cert.ReferenceOutIdeal.defs _ _).mono (fun r h => ⟨fun c => (h c).2.2, Idealize.ShloMosaic.sem_eq_zero_of_no_sems (by decide) r.2⟩)
    (Cert.ReferenceOutIdeal.Value.run (F := Ideal) m ρ)
theorem preserves : Cert.preserves_KernelOut_KernelOutIdeal := trivial

section
open Cert.ReferenceOutIdeal Cert.ReferenceOutIdeal.Gen
variable (m : (ℓ : Loc nD τ sig) → Buf (Elt Ideal) ℓ) (c : Dev nD)

/-- The reference's argument arrays. -/
def rH (b : Fin 2) (r : Fin 4096) (k : Fin 2048) : EReal := m ((c : Thread nD τ).loc main_arg0) (ix3 b r k)
def rA (b : Fin 2) (r : Fin 4096) (k : Fin 2048) : EReal := m ((c : Thread nD τ).loc main_arg1) (ix3 b r k)
def rW (b : Fin 1) (k : Fin 2048) (j : Fin 2048) : EReal := m ((c : Thread nD τ).loc main_arg2) (ix3 b k j)
def rN (b : Fin 2) (j : Fin 2048) : EReal := m ((c : Thread nD τ).loc main_arg3) (ix2 b j)
end

/-- Result 0 of the call, and of the reference. -/
def kArr0 (m : (ℓ : Loc Cert.KernelOutIdeal.nD Cert.KernelOutIdeal.τ Cert.KernelOutIdeal.sig) → Buf (Elt Ideal) ℓ) (c : Dev Cert.KernelOutIdeal.nD) : Cert.KernelOutIdeal.S8192x2048.Idx → EReal :=
  fun i => Cert.Out.sum (Cert.KernelOutIdeal.Result.H m c) (Cert.KernelOutIdeal.Result.A m c) (Cert.KernelOutIdeal.Result.W m c) (i 0).val (i 1).val
def rArr0 (m : (ℓ : Loc Cert.ReferenceOutIdeal.nD Cert.ReferenceOutIdeal.τ Cert.ReferenceOutIdeal.sig) → Buf (Elt Ideal) ℓ) (c : Dev Cert.ReferenceOutIdeal.nD) : Cert.ReferenceOutIdeal.S8192x2048.Idx → EReal :=
  fun i => Cert.Out.sum (rH m c) (rA m c) (rW m c) (i 0).val (i 1).val

/-- Result 1 of the call, and of the reference. -/
def kArr1 (m : (ℓ : Loc Cert.KernelOutIdeal.nD Cert.KernelOutIdeal.τ Cert.KernelOutIdeal.sig) → Buf (Elt Ideal) ℓ) (c : Dev Cert.KernelOutIdeal.nD) : Cert.KernelOutIdeal.S8192x2048.Idx → EReal :=
  fun i => Cert.Out.norm (Cert.KernelOutIdeal.Result.H m c) (Cert.KernelOutIdeal.Result.A m c) (Cert.KernelOutIdeal.Result.W m c) (Cert.KernelOutIdeal.Result.N m c) (i 0).val (i 1).val
def rArr1 (m : (ℓ : Loc Cert.ReferenceOutIdeal.nD Cert.ReferenceOutIdeal.τ Cert.ReferenceOutIdeal.sig) → Buf (Elt Ideal) ℓ) (c : Dev Cert.ReferenceOutIdeal.nD) : Cert.ReferenceOutIdeal.S8192x2048.Idx → EReal :=
  fun i => Cert.Out.norm (rH m c) (rA m c) (rW m c) (rN m c) (i 0).val (i 1).val

section
open Cert.KernelOutIdeal Cert.KernelOutIdeal.Gen
theorem run_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v6_0) = kArr0 m c
      ∧ r.2.mem ((c : Thread nD τ).loc main_v6_1) = kArr1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (Result.final_sum m c), (h c).2.1.trans (Result.final_norm m c), (h c).2.2⟩) (Value.run_blocks m ρ)
end

section
open Cert.ReferenceOutIdeal Cert.ReferenceOutIdeal.Gen
theorem ref_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v3) = rArr0 m c
      ∧ r.2.mem ((c : Thread nD τ).loc main_v20) = rArr1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (Result.sum_ref _ _ _), (h c).2.1.trans (Result.norm_ref _ _ _ _), (h c).2.2⟩) (Value.run (F := Ideal) m ρ)
end

theorem algebraic : Cert.algebraic_KernelOutIdeal_ReferenceOutIdeal := by
  pair_intro
  · run_from run_res m g
  · run_from ref_res m' g'
    all_goals
      obtain ⟨h0, h1, h2, h3⟩ := hagree c
      have eH : rH m' c = Cert.KernelOutIdeal.Result.H m c := funext fun b => funext fun r => funext fun j => congrFun h0 _
      have eA : rA m' c = Cert.KernelOutIdeal.Result.A m c := funext fun b => funext fun r => funext fun j => congrFun h1 _
      have eW : rW m' c = Cert.KernelOutIdeal.Result.W m c := funext fun b => funext fun r => funext fun j => congrFun h2 _
      have eN : rN m' c = Cert.KernelOutIdeal.Result.N m c := funext fun r => funext fun j => congrFun h3 _
      first | unfold rArr0 kArr0 | unfold rArr1 kArr1
      simp only [eH, eA, eW, eN]

end Cert.Proof.Out

/-! ## The query projection -/

namespace Cert.Proof.Query

open Idealize.ShloMosaic Idealize.ShloMosaic.TcCoe Idealize.SL.Sem

theorem frame_p : Cert.quiescent_KernelQuery := fun m ρ _ => Cert.KernelQuery.Gen.frame m ρ
theorem frame_pi : Cert.quiescent_KernelQueryIdeal := fun m ρ _ => Cert.KernelQueryIdeal.Gen.frame m ρ
theorem frame_ri : Cert.quiescent_ReferenceQueryIdeal := fun m ρ _ =>
  (θ_run Cert.ReferenceQueryIdeal.defs _ _).mono (fun r h => ⟨fun c => (h c).2, Idealize.ShloMosaic.sem_eq_zero_of_no_sems (by decide) r.2⟩)
    (Cert.ReferenceQueryIdeal.Value.run (F := Ideal) m ρ)
theorem preserves : Cert.preserves_KernelQuery_KernelQueryIdeal :=
  IdealRules.named_const.statement Cert.KernelQueryIdeal.κ "q_scale" .f32 0x3E0293EE#32 (((Real.log 2)⁻¹ * (Real.sqrt 128)⁻¹ : ℝ) : EReal) rfl

section
open Cert.ReferenceQueryIdeal Cert.ReferenceQueryIdeal.Gen
variable (m : (ℓ : Loc nD τ sig) → Buf (Elt Ideal) ℓ) (c : Dev nD)

/-- The reference's argument arrays. -/
def rA (b : Fin 2) (r : Fin 4096) (k : Fin 2048) : EReal := m ((c : Thread nD τ).loc main_arg0) (ix3 b r k)
def rW (b : Fin 1) (k : Fin 2048) (j : Fin 6144) : EReal := m ((c : Thread nD τ).loc main_arg1) (ix3 b k j)
end

/-- Result 0 of the call, and of the reference. -/
def kArr (m : (ℓ : Loc Cert.KernelQueryIdeal.nD Cert.KernelQueryIdeal.τ Cert.KernelQueryIdeal.sig) → Buf (Elt Ideal) ℓ) (c : Dev Cert.KernelQueryIdeal.nD) : Cert.KernelQueryIdeal.S8192x4096.Idx → EReal :=
  fun i => Cert.Query.res (Cert.KernelQueryIdeal.Result.A m c) (Cert.KernelQueryIdeal.Result.W m c) (i 0).val (i 1).val
def rArr (m : (ℓ : Loc Cert.ReferenceQueryIdeal.nD Cert.ReferenceQueryIdeal.τ Cert.ReferenceQueryIdeal.sig) → Buf (Elt Ideal) ℓ) (c : Dev Cert.ReferenceQueryIdeal.nD) : Cert.ReferenceQueryIdeal.S8192x4096.Idx → EReal :=
  fun i => Cert.Query.res (rA m c) (rW m c) (i 0).val (i 1).val

section
open Cert.KernelQueryIdeal Cert.KernelQueryIdeal.Gen
theorem run_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v2) = kArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (Result.final m c), (h c).2⟩) (Value.run_blocks m ρ)
end

section
open Cert.ReferenceQueryIdeal Cert.ReferenceQueryIdeal.Gen
theorem ref_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v9) = rArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (Result.ref_at _ _), (h c).2⟩) (Value.run (F := Ideal) m ρ)
end

theorem algebraic : Cert.algebraic_KernelQueryIdeal_ReferenceQueryIdeal := by
  pair_intro
  · run_from run_res m g
  · run_from ref_res m' g'
    obtain ⟨h0, h1⟩ := hagree c
    have eA : rA m' c = Cert.KernelQueryIdeal.Result.A m c := funext fun b => funext fun r => funext fun j => congrFun h0 _
    have eW : rW m' c = Cert.KernelQueryIdeal.Result.W m c := funext fun b => funext fun r => funext fun j => congrFun h1 _
    unfold rArr kArr
    rw [eA, eW]

end Cert.Proof.Query

/-! ## The up projection -/

namespace Cert.Proof.Up

open Idealize.ShloMosaic Idealize.ShloMosaic.TcCoe Idealize.SL.Sem

theorem frame_p : Cert.quiescent_KernelUp := fun m ρ _ => Cert.KernelUp.Gen.frame m ρ
theorem frame_pi : Cert.quiescent_KernelUpIdeal := fun m ρ _ => Cert.KernelUpIdeal.Gen.frame m ρ
theorem frame_ri : Cert.quiescent_ReferenceUpIdeal := fun m ρ _ =>
  (θ_run Cert.ReferenceUpIdeal.defs _ _).mono (fun r h => ⟨fun c => (h c).2.2, Idealize.ShloMosaic.sem_eq_zero_of_no_sems (by decide) r.2⟩)
    (Cert.ReferenceUpIdeal.Value.run (F := Ideal) m ρ)
theorem preserves : Cert.preserves_KernelUp_KernelUpIdeal :=
  IdealRules.named_const.statement Cert.KernelUpIdeal.κ "sqrt2" .f32 0x3FB504F3#32 ((Real.sqrt 2 : ℝ) : EReal) rfl

section
open Cert.ReferenceUpIdeal Cert.ReferenceUpIdeal.Gen
variable (m : (ℓ : Loc nD τ sig) → Buf (Elt Ideal) ℓ) (c : Dev nD)

/-- The reference's argument arrays. -/
def rH (b : Fin 2) (r : Fin 4096) (j : Fin 2048) : EReal := m ((c : Thread nD τ).loc main_arg0) (ix3 b r j)
def rW (b : Fin 2) (k : Fin 2048) (j : Fin 11264) : EReal := m ((c : Thread nD τ).loc main_arg1) (ix3 b k j)
def rC (b : Fin 2) (a : Fin 3) (j : Fin 5632) : EReal := m ((c : Thread nD τ).loc main_arg2) (ix3 b a j)
def rB (b : Fin 2) (j : Fin 5632) : EReal := m ((c : Thread nD τ).loc main_arg3) (ix2 b j)
def rD (b : Fin 2) (k : Fin 5632) (j : Fin 2048) : EReal := m ((c : Thread nD τ).loc main_arg4) (ix3 b k j)
end

/-- Result 0 of the call, and of the reference. -/
def kArr0 (m : (ℓ : Loc Cert.KernelUpIdeal.nD Cert.KernelUpIdeal.τ Cert.KernelUpIdeal.sig) → Buf (Elt Ideal) ℓ) (c : Dev Cert.KernelUpIdeal.nD) : Cert.KernelUpIdeal.S8192x5632.Idx → EReal :=
  fun i => Cert.Up.res (Cert.KernelUpIdeal.Result.H m c) (Cert.KernelUpIdeal.Result.W m c) (Cert.KernelUpIdeal.Result.C m c) (Cert.KernelUpIdeal.Result.B m c) (i 0).val (i 1).val
def rArr0 (m : (ℓ : Loc Cert.ReferenceUpIdeal.nD Cert.ReferenceUpIdeal.τ Cert.ReferenceUpIdeal.sig) → Buf (Elt Ideal) ℓ) (c : Dev Cert.ReferenceUpIdeal.nD) : Cert.ReferenceUpIdeal.S8192x5632.Idx → EReal :=
  fun i => Cert.Up.res (rH m c) (rW m c) (rC m c) (rB m c) (i 0).val (i 1).val

/-- Result 1 of the call, and of the reference. -/
def kArr1 (m : (ℓ : Loc Cert.KernelUpIdeal.nD Cert.KernelUpIdeal.τ Cert.KernelUpIdeal.sig) → Buf (Elt Ideal) ℓ) (c : Dev Cert.KernelUpIdeal.nD) : Cert.KernelUpIdeal.S1x5632x2048.Idx → EReal :=
  fun i => Cert.Gla.at3 (Cert.KernelUpIdeal.Result.D m c) 0 (i 1).val (i 2).val
def rArr1 (m : (ℓ : Loc Cert.ReferenceUpIdeal.nD Cert.ReferenceUpIdeal.τ Cert.ReferenceUpIdeal.sig) → Buf (Elt Ideal) ℓ) (c : Dev Cert.ReferenceUpIdeal.nD) : Cert.ReferenceUpIdeal.S1x5632x2048.Idx → EReal :=
  fun i => Cert.Gla.at3 (rD m c) 0 (i 1).val (i 2).val

section
open Cert.KernelUpIdeal Cert.KernelUpIdeal.Gen
theorem run_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v7_0) = kArr0 m c
      ∧ r.2.mem ((c : Thread nD τ).loc main_v7_1) = kArr1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (Result.final m c), (h c).2.1.trans (Result.final_down m c), (h c).2.2⟩) (Value.run_blocks m ρ)
end

section
open Cert.ReferenceUpIdeal Cert.ReferenceUpIdeal.Gen
theorem ref_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v44) = rArr0 m c
      ∧ r.2.mem ((c : Thread nD τ).loc main_v46) = rArr1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (Result.ref_at _ _ _ _), (h c).2.1.trans (Result.ref_down _), (h c).2.2⟩) (Value.run (F := Ideal) m ρ)
end

theorem algebraic : Cert.algebraic_KernelUpIdeal_ReferenceUpIdeal := by
  pair_intro
  · run_from run_res m g
  · run_from ref_res m' g'
    all_goals
      obtain ⟨h0, h1, h2, h3, h4⟩ := hagree c
      have eH : rH m' c = Cert.KernelUpIdeal.Result.H m c := funext fun b => funext fun r => funext fun j => congrFun h0 _
      have eW : rW m' c = Cert.KernelUpIdeal.Result.W m c := funext fun b => funext fun r => funext fun j => congrFun h1 _
      have eC : rC m' c = Cert.KernelUpIdeal.Result.C m c := funext fun b => funext fun r => funext fun j => congrFun h2 _
      have eB : rB m' c = Cert.KernelUpIdeal.Result.B m c := funext fun r => funext fun j => congrFun h3 _
      have eD : rD m' c = Cert.KernelUpIdeal.Result.D m c := funext fun b => funext fun r => funext fun j => congrFun h4 _
      first | unfold rArr0 kArr0 | unfold rArr1 kArr1
      simp only [eH, eW, eC, eB, eD]

end Cert.Proof.Up

/-! ## The final normalisation -/

namespace Cert.Proof.Final

open Idealize.ShloMosaic Idealize.ShloMosaic.TcCoe Idealize.SL.Sem

theorem frame_p : Cert.quiescent_KernelFinal := fun m ρ _ => Cert.KernelFinal.Gen.frame m ρ
theorem frame_pi : Cert.quiescent_KernelFinalIdeal := fun m ρ _ => Cert.KernelFinalIdeal.Gen.frame m ρ
theorem frame_ri : Cert.quiescent_ReferenceFinalIdeal := fun m ρ _ =>
  (θ_run Cert.ReferenceFinalIdeal.defs _ _).mono (fun r h => ⟨fun c => (h c).2, Idealize.ShloMosaic.sem_eq_zero_of_no_sems (by decide) r.2⟩)
    (Cert.ReferenceFinalIdeal.Value.run (F := Ideal) m ρ)
theorem preserves : Cert.preserves_KernelFinal_KernelFinalIdeal := trivial

section
open Cert.ReferenceFinalIdeal Cert.ReferenceFinalIdeal.Gen
variable (m : (ℓ : Loc nD τ sig) → Buf (Elt Ideal) ℓ) (c : Dev nD)

/-- The reference's argument arrays. -/
def rH (b : Fin 2) (r : Fin 4096) (k : Fin 2048) : EReal := m ((c : Thread nD τ).loc main_arg0) (ix3 b r k)
def rG (j : Fin 2048) : EReal := m ((c : Thread nD τ).loc main_arg1) (ix1 j)
end

/-- Result 0 of the call, and of the reference. -/
def kArr (m : (ℓ : Loc Cert.KernelFinalIdeal.nD Cert.KernelFinalIdeal.τ Cert.KernelFinalIdeal.sig) → Buf (Elt Ideal) ℓ) (c : Dev Cert.KernelFinalIdeal.nD) : Cert.KernelFinalIdeal.S8192x2048.Idx → EReal :=
  fun i => Cert.Final.res (Cert.KernelFinalIdeal.Result.H m c) (Cert.KernelFinalIdeal.Result.G m c) (i 0).val (i 1).val
def rArr (m : (ℓ : Loc Cert.ReferenceFinalIdeal.nD Cert.ReferenceFinalIdeal.τ Cert.ReferenceFinalIdeal.sig) → Buf (Elt Ideal) ℓ) (c : Dev Cert.ReferenceFinalIdeal.nD) : Cert.ReferenceFinalIdeal.S8192x2048.Idx → EReal :=
  fun i => Cert.Final.res (rH m c) (rG m c) (i 0).val (i 1).val

section
open Cert.KernelFinalIdeal Cert.KernelFinalIdeal.Gen
theorem run_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v2) = kArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (Result.final m c), (h c).2⟩) (Value.run_blocks m ρ)
end

section
open Cert.ReferenceFinalIdeal Cert.ReferenceFinalIdeal.Gen
theorem ref_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v13) = rArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (Result.ref_at _ _), (h c).2⟩) (Value.run (F := Ideal) m ρ)
end

theorem algebraic : Cert.algebraic_KernelFinalIdeal_ReferenceFinalIdeal := by
  pair_intro
  · run_from run_res m g
  · run_from ref_res m' g'
    obtain ⟨h0, h1⟩ := hagree c
    have eH : rH m' c = Cert.KernelFinalIdeal.Result.H m c := funext fun b => funext fun r => funext fun j => congrFun h0 _
    have eG : rG m' c = Cert.KernelFinalIdeal.Result.G m c := funext fun j => congrFun h1 _
    unfold rArr kArr
    rw [eH, eG]

end Cert.Proof.Final

/-! ## The query projection of the undilated branch -/

namespace Cert.Proof.First

open Idealize.ShloMosaic Idealize.ShloMosaic.TcCoe Idealize.SL.Sem

theorem frame_p : Cert.quiescent_KernelFirst := fun m ρ _ => Cert.KernelFirst.Gen.frame m ρ
theorem frame_pi : Cert.quiescent_KernelFirstIdeal := fun m ρ _ => Cert.KernelFirstIdeal.Gen.frame m ρ
theorem frame_ri : Cert.quiescent_ReferenceFirstIdeal := fun m ρ _ =>
  (θ_run Cert.ReferenceFirstIdeal.defs _ _).mono (fun r h => ⟨fun c => (h c).2, Idealize.ShloMosaic.sem_eq_zero_of_no_sems (by decide) r.2⟩)
    (Cert.ReferenceFirstIdeal.Value.run (F := Ideal) m ρ)
theorem preserves : Cert.preserves_KernelFirst_KernelFirstIdeal :=
  IdealRules.named_const.statement Cert.KernelFirstIdeal.κ "q_scale" .f32 0x3E0293EE#32 (((Real.log 2)⁻¹ * (Real.sqrt 128)⁻¹ : ℝ) : EReal) rfl

section
open Cert.ReferenceFirstIdeal Cert.ReferenceFirstIdeal.Gen
variable (m : (ℓ : Loc nD τ sig) → Buf (Elt Ideal) ℓ) (c : Dev nD)

/-- The reference's argument arrays. -/
def rA (b : Fin 2) (r : Fin 4096) (k : Fin 2048) : EReal := m ((c : Thread nD τ).loc main_arg0) (ix3 b r k)
def rW (b : Fin 1) (k : Fin 2048) (j : Fin 6144) : EReal := m ((c : Thread nD τ).loc main_arg1) (ix3 b k j)
end

/-- Result 0 of the call, and of the reference. -/
def kArr (m : (ℓ : Loc Cert.KernelFirstIdeal.nD Cert.KernelFirstIdeal.τ Cert.KernelFirstIdeal.sig) → Buf (Elt Ideal) ℓ) (c : Dev Cert.KernelFirstIdeal.nD) : Cert.KernelFirstIdeal.S8192x2048.Idx → EReal :=
  fun i => Cert.First.res (Cert.KernelFirstIdeal.Result.A m c) (Cert.KernelFirstIdeal.Result.W m c) (i 0).val (i 1).val
def rArr (m : (ℓ : Loc Cert.ReferenceFirstIdeal.nD Cert.ReferenceFirstIdeal.τ Cert.ReferenceFirstIdeal.sig) → Buf (Elt Ideal) ℓ) (c : Dev Cert.ReferenceFirstIdeal.nD) : Cert.ReferenceFirstIdeal.S8192x2048.Idx → EReal :=
  fun i => Cert.First.res (rA m c) (rW m c) (i 0).val (i 1).val

section
open Cert.KernelFirstIdeal Cert.KernelFirstIdeal.Gen
theorem run_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v2) = kArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (Result.final m c), (h c).2⟩) (Value.run_blocks m ρ)
end

section
open Cert.ReferenceFirstIdeal Cert.ReferenceFirstIdeal.Gen
theorem ref_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v9) = rArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (Result.ref_at _ _), (h c).2⟩) (Value.run (F := Ideal) m ρ)
end

theorem algebraic : Cert.algebraic_KernelFirstIdeal_ReferenceFirstIdeal := by
  pair_intro
  · run_from run_res m g
  · run_from ref_res m' g'
    obtain ⟨h0, h1⟩ := hagree c
    have eA : rA m' c = Cert.KernelFirstIdeal.Result.A m c := funext fun b => funext fun r => funext fun j => congrFun h0 _
    have eW : rW m' c = Cert.KernelFirstIdeal.Result.W m c := funext fun b => funext fun r => funext fun j => congrFun h1 _
    unfold rArr kArr
    rw [eA, eW]

end Cert.Proof.First

/-! ## The shared keys and values -/

namespace Cert.Proof.Kv

open Idealize.ShloMosaic Idealize.ShloMosaic.TcCoe Idealize.SL.Sem

theorem frame_p : Cert.quiescent_KernelKv := fun m ρ _ => Cert.KernelKv.Gen.frame m ρ
theorem frame_pi : Cert.quiescent_KernelKvIdeal := fun m ρ _ => Cert.KernelKvIdeal.Gen.frame m ρ
theorem frame_ri : Cert.quiescent_ReferenceKvIdeal := fun m ρ _ =>
  (θ_run Cert.ReferenceKvIdeal.defs _ _).mono (fun r h => ⟨fun c => (h c).2.2, Idealize.ShloMosaic.sem_eq_zero_of_no_sems (by decide) r.2⟩)
    (Cert.ReferenceKvIdeal.Value.run (F := Ideal) m ρ)
theorem preserves : Cert.preserves_KernelKv_KernelKvIdeal := trivial

section
open Cert.ReferenceKvIdeal Cert.ReferenceKvIdeal.Gen
variable (m : (ℓ : Loc nD τ sig) → Buf (Elt Ideal) ℓ) (c : Dev nD)

/-- The reference's argument arrays. -/
def rA (b : Fin 2) (r : Fin 4096) (k : Fin 2048) : EReal := m ((c : Thread nD τ).loc main_arg0) (ix3 b r k)
def rW (k : Fin 2048) (j : Fin 4096) : EReal := m ((c : Thread nD τ).loc main_arg1) (ix2 k j)
end

/-- Result 0 of the call, and of the reference. -/
def kArr0 (m : (ℓ : Loc Cert.KernelKvIdeal.nD Cert.KernelKvIdeal.τ Cert.KernelKvIdeal.sig) → Buf (Elt Ideal) ℓ) (c : Dev Cert.KernelKvIdeal.nD) : Cert.KernelKvIdeal.S8192x4096.Idx → EReal :=
  fun i => Cert.Kv.res (Cert.KernelKvIdeal.Result.A m c) (Cert.KernelKvIdeal.Result.W m c) (i 0).val (i 1).val
def rArr0 (m : (ℓ : Loc Cert.ReferenceKvIdeal.nD Cert.ReferenceKvIdeal.τ Cert.ReferenceKvIdeal.sig) → Buf (Elt Ideal) ℓ) (c : Dev Cert.ReferenceKvIdeal.nD) : Cert.ReferenceKvIdeal.S8192x4096.Idx → EReal :=
  fun i => Cert.Kv.res (rA m c) (rW m c) (i 0).val (i 1).val

/-- Result 1 of the call, and of the reference. -/
def kArr1 (m : (ℓ : Loc Cert.KernelKvIdeal.nD Cert.KernelKvIdeal.τ Cert.KernelKvIdeal.sig) → Buf (Elt Ideal) ℓ) (c : Dev Cert.KernelKvIdeal.nD) : Cert.KernelKvIdeal.S8192x4096.Idx → EReal :=
  fun i => Cert.Kv.perm (Cert.KernelKvIdeal.Result.A m c) (Cert.KernelKvIdeal.Result.W m c) (i 0).val (i 1).val
def rArr1 (m : (ℓ : Loc Cert.ReferenceKvIdeal.nD Cert.ReferenceKvIdeal.τ Cert.ReferenceKvIdeal.sig) → Buf (Elt Ideal) ℓ) (c : Dev Cert.ReferenceKvIdeal.nD) : Cert.ReferenceKvIdeal.S8192x4096.Idx → EReal :=
  fun i => Cert.Kv.perm (rA m c) (rW m c) (i 0).val (i 1).val

section
open Cert.KernelKvIdeal Cert.KernelKvIdeal.Gen
theorem run_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v3_0) = kArr0 m c
      ∧ r.2.mem ((c : Thread nD τ).loc main_v3_1) = kArr1 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (Result.final m c), (h c).2.1.trans (Result.final_perm m c), (h c).2.2⟩) (Value.run_blocks m ρ)
end

section
open Cert.ReferenceKvIdeal Cert.ReferenceKvIdeal.Gen
theorem ref_res (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v5) = rArr0 m c
      ∧ r.2.mem ((c : Thread nD τ).loc main_v6) = rArr1 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (Result.ref_at _ _), (h c).2.1.trans (Result.ref_perm _ _), (h c).2.2⟩) (Value.run (F := Ideal) m ρ)
end

theorem algebraic : Cert.algebraic_KernelKvIdeal_ReferenceKvIdeal := by
  pair_intro
  · run_from run_res m g
  · run_from ref_res m' g'
    all_goals
      obtain ⟨h0, h1⟩ := hagree c
      have eA : rA m' c = Cert.KernelKvIdeal.Result.A m c := funext fun b => funext fun r => funext fun j => congrFun h0 _
      have eW : rW m' c = Cert.KernelKvIdeal.Result.W m c := funext fun r => funext fun j => congrFun h1 _
      first | unfold rArr0 kArr0 | unfold rArr1 kArr1
      simp only [eA, eW]

end Cert.Proof.Kv

end
-- ==== Proof.lean ====
module

public import proofs.«01_k».proof.Proof.Gen.KernelDownIdeal.Value
public import proofs.«01_k».proof.Proof.Gen.KernelInIdeal.Value
public import proofs.«01_k».proof.Proof.Gen.KernelOutIdeal.Value
public import proofs.«01_k».proof.Proof.Gen.KernelQueryIdeal.Value
public import proofs.«01_k».proof.Proof.Gen.KernelFinalIdeal.Value
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.ReferenceDownIdeal
public import proofs.«01_k».proof.Proof.Gen.ReferenceDownIdeal.Run
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.ReferenceOutIdeal
public import proofs.«01_k».proof.Proof.Gen.ReferenceOutIdeal.Run
public import proofs.«01_k».proof.Proof.Gen.KernelQuery
public import proofs.«01_k».proof.Proof.Gen.KernelQuery.Frame
public import proofs.«01_k».proof.Proof.Gen.KernelQueryIdeal
public import proofs.«01_k».proof.Proof.Gen.KernelQueryIdeal.Frame
public import proofs.«01_k».proof.Proof.Gen.ReferenceQueryIdeal
public import proofs.«01_k».proof.Proof.Gen.ReferenceQueryIdeal.Run
public import proofs.«01_k».proof.Proof.Gen.KernelFinal
public import proofs.«01_k».proof.Proof.Gen.KernelFinal.Frame
public import proofs.«01_k».proof.Proof.Gen.KernelFinalIdeal
public import proofs.«01_k».proof.Proof.Gen.KernelFinalIdeal.Frame
public import proofs.«01_k».proof.Proof.Gen.ReferenceFinalIdeal
public import proofs.«01_k».proof.Proof.Gen.ReferenceFinalIdeal.Run
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.KernelFirst
public import proofs.«01_k».proof.Proof.Gen.KernelFirst.Frame
public import proofs.«01_k».proof.Proof.Gen.KernelFirstIdeal
public import proofs.«01_k».proof.Proof.Gen.KernelFirstIdeal.Frame
public import proofs.«01_k».proof.Proof.Gen.KernelFirstIdeal.Value
public import proofs.«01_k».proof.Proof.Gen.ReferenceFirstIdeal
public import proofs.«01_k».proof.Proof.Gen.ReferenceFirstIdeal.Run
public import proofs.«01_k».proof.Proof.Gen.KernelKv
public import proofs.«01_k».proof.Proof.Gen.KernelKv.Frame
public import proofs.«01_k».proof.Proof.Gen.KernelKvIdeal
public import proofs.«01_k».proof.Proof.Gen.KernelKvIdeal.Frame
public import proofs.«01_k».proof.Proof.Gen.KernelKvIdeal.Value
public import proofs.«01_k».proof.Proof.Gen.ReferenceKvIdeal
public import proofs.«01_k».proof.Proof.Gen.ReferenceKvIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Frames
public import proofs.«01_k».proof.Proof.Algebraic
public import proofs.«01_k».proof.Proof.Calls
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.KernelDown.Gen.facts, Cert.KernelDownIdeal.Gen.facts, Cert.ReferenceDownIdeal.Gen.facts, Cert.KernelIn.Gen.facts, Cert.KernelInIdeal.Gen.facts, Cert.ReferenceInIdeal.Gen.facts, Cert.KernelOut.Gen.facts, Cert.KernelOutIdeal.Gen.facts, Cert.ReferenceOutIdeal.Gen.facts, Cert.KernelQuery.Gen.facts, Cert.KernelQueryIdeal.Gen.facts, Cert.ReferenceQueryIdeal.Gen.facts, Cert.KernelUp.Gen.facts, Cert.KernelUpIdeal.Gen.facts, Cert.ReferenceUpIdeal.Gen.facts, Cert.KernelFinal.Gen.facts, Cert.KernelFinalIdeal.Gen.facts, Cert.ReferenceFinalIdeal.Gen.facts, Cert.KernelFirst.Gen.facts, Cert.KernelFirstIdeal.Gen.facts, Cert.ReferenceFirstIdeal.Gen.facts, Cert.KernelKv.Gen.facts, Cert.KernelKvIdeal.Gen.facts, Cert.ReferenceKvIdeal.Gen.facts,
  frame_p, frame_pi, frame_ri, Down.frame_p, Down.frame_pi, Down.frame_ri, In.frame_p, In.frame_pi, In.frame_ri, Out.frame_p, Out.frame_pi, Out.frame_ri, Query.frame_p, Query.frame_pi, Query.frame_ri, Up.frame_p, Up.frame_pi, Up.frame_ri, Final.frame_p, Final.frame_pi, Final.frame_ri, First.frame_p, First.frame_pi, First.frame_ri, Kv.frame_p, Kv.frame_pi, Kv.frame_ri,
  preserves, algebraic, Down.preserves, Down.algebraic, In.preserves, In.algebraic, Out.preserves, Out.algebraic, Query.preserves, Query.algebraic, Up.preserves, Up.algebraic, Final.preserves, Final.algebraic, First.preserves, First.algebraic, Kv.preserves, Kv.algebraic⟩

end Cert.Proof

end
